-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_WgDown (m : (ℓ : Loc Cert.WgDown.nD Cert.WgDown.τ Cert.WgDown.sig) → Buf (Elt Bits) ℓ) : Prop :=
  True

def Pre_WgDownIdeal (m : (ℓ : Loc Cert.WgDownIdeal.nD Cert.WgDownIdeal.τ Cert.WgDownIdeal.sig) → Buf (Elt Ideal) ℓ) : Prop :=
  True

def Pre_WgDownRefIdeal (m : (ℓ : Loc Cert.WgDownRefIdeal.nD Cert.WgDownRefIdeal.τ Cert.WgDownRefIdeal.sig) → Buf (Elt Ideal) ℓ) : Prop :=
  True

def Pre_WgUp (m : (ℓ : Loc Cert.WgUp.nD Cert.WgUp.τ Cert.WgUp.sig) → Buf (Elt Bits) ℓ) : Prop :=
  True

def Pre_WgUpIdeal (m : (ℓ : Loc Cert.WgUpIdeal.nD Cert.WgUpIdeal.τ Cert.WgUpIdeal.sig) → Buf (Elt Ideal) ℓ) : Prop :=
  True

def Pre_WgUpRefIdeal (m : (ℓ : Loc Cert.WgUpRefIdeal.nD Cert.WgUpRefIdeal.τ Cert.WgUpRefIdeal.sig) → Buf (Elt Ideal) ℓ) : Prop :=
  True

def Pre_WgOut (m : (ℓ : Loc Cert.WgOut.nD Cert.WgOut.τ Cert.WgOut.sig) → Buf (Elt Bits) ℓ) : Prop :=
  True

def Pre_WgOutIdeal (m : (ℓ : Loc Cert.WgOutIdeal.nD Cert.WgOutIdeal.τ Cert.WgOutIdeal.sig) → Buf (Elt Ideal) ℓ) : Prop :=
  True

def Pre_WgOutRefIdeal (m : (ℓ : Loc Cert.WgOutRefIdeal.nD Cert.WgOutRefIdeal.τ Cert.WgOutRefIdeal.sig) → Buf (Elt Ideal) ℓ) : Prop :=
  True

def Pre_WgMix (m : (ℓ : Loc Cert.WgMix.nD Cert.WgMix.τ Cert.WgMix.sig) → Buf (Elt Bits) ℓ) : Prop :=
  True

def Pre_WgMixIdeal (m : (ℓ : Loc Cert.WgMixIdeal.nD Cert.WgMixIdeal.τ Cert.WgMixIdeal.sig) → Buf (Elt Ideal) ℓ) : Prop :=
  True

def Pre_WgMixRefIdeal (m : (ℓ : Loc Cert.WgMixRefIdeal.nD Cert.WgMixRefIdeal.τ Cert.WgMixRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownIdeal_ffn_down_finite [hPre_ffn_down_finite : Cert.Pre_ffn_down_finite.Facts] (m : (ℓ : Loc Cert.FfnDownIdeal.nD Cert.FfnDownIdeal.τ Cert.FfnDownIdeal.sig) → Buf (Elt Ideal) ℓ) : Prop :=
  ∀ c : Dev Cert.FfnDownIdeal.nD,
    (Cert.Pre_ffn_down_finite.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3))) = (fun _ => 1#1)

def Pre_FfnDownRefIdeal (m : (ℓ : Loc Cert.FfnDownRefIdeal.nD Cert.FfnDownRefIdeal.τ Cert.FfnDownRefIdeal.sig) → Buf (Elt Ideal) ℓ) : Prop :=
  True

def Pre_FfnDownRefIdeal_ffn_down_finite [hPre_ffn_down_finite : Cert.Pre_ffn_down_finite.Facts] (m : (ℓ : Loc Cert.FfnDownRefIdeal.nD Cert.FfnDownRefIdeal.τ Cert.FfnDownRefIdeal.sig) → Buf (Elt Ideal) ℓ) : Prop :=
  ∀ c : Dev Cert.FfnDownRefIdeal.nD,
    (Cert.Pre_ffn_down_finite.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3))) = (fun _ => 1#1)

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormRefIdeal (m : (ℓ : Loc Cert.FfnNormRefIdeal.nD Cert.FfnNormRefIdeal.τ Cert.FfnNormRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdRefIdeal (m : (ℓ : Loc Cert.ProjBwdRefIdeal.nD Cert.ProjBwdRefIdeal.τ Cert.ProjBwdRefIdeal.sig) → Buf (Elt Ideal) ℓ) : Prop :=
  True

def Pre_ProjNear (m : (ℓ : Loc Cert.ProjNear.nD Cert.ProjNear.τ Cert.ProjNear.sig) → Buf (Elt Bits) ℓ) : Prop :=
  True

def Pre_ProjNearIdeal (m : (ℓ : Loc Cert.ProjNearIdeal.nD Cert.ProjNearIdeal.τ Cert.ProjNearIdeal.sig) → Buf (Elt Ideal) ℓ) : Prop :=
  True

def Pre_ProjNearRefIdeal (m : (ℓ : Loc Cert.ProjNearRefIdeal.nD Cert.ProjNearRefIdeal.τ Cert.ProjNearRefIdeal.sig) → Buf (Elt Ideal) ℓ) : Prop :=
  True

def Pre_ProjFar (m : (ℓ : Loc Cert.ProjFar.nD Cert.ProjFar.τ Cert.ProjFar.sig) → Buf (Elt Bits) ℓ) : Prop :=
  True

def Pre_ProjFarIdeal (m : (ℓ : Loc Cert.ProjFarIdeal.nD Cert.ProjFarIdeal.τ Cert.ProjFarIdeal.sig) → Buf (Elt Ideal) ℓ) : Prop :=
  True

def Pre_ProjFarRefIdeal (m : (ℓ : Loc Cert.ProjFarRefIdeal.nD Cert.ProjFarRefIdeal.τ Cert.ProjFarRefIdeal.sig) → Buf (Elt Ideal) ℓ) : Prop :=
  True

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossRefIdeal (m : (ℓ : Loc Cert.FfnLossRefIdeal.nD Cert.FfnLossRefIdeal.τ Cert.FfnLossRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_WgDown [hWgDown : Cert.WgDown.Facts] : Prop :=
  ∀ (m : (ℓ : Loc Cert.WgDown.nD Cert.WgDown.τ Cert.WgDown.sig) → Buf (Elt Bits) ℓ) (g : Dev Cert.WgDown.nD → PrngReg), Pre_WgDown m →
    θ_run (Cert.WgDown.defs (F := Bits)) (onTc (τ := Cert.WgDown.τ) (Cert.WgDown.main (F := Bits))) ⟨m, fun _ => 0, g⟩ (fun r => (∀ c : Dev Cert.WgDown.nD,
      r.2.mem ((c.tc : Thread Cert.WgDown.nD Cert.WgDown.τ).loc Cert.WgDown.main_arg0) = m ((c.tc : Thread Cert.WgDown.nD Cert.WgDown.τ).loc Cert.WgDown.main_arg0)
      ∧ r.2.mem ((c.tc : Thread Cert.WgDown.nD Cert.WgDown.τ).loc Cert.WgDown.main_arg1) = m ((c.tc : Thread Cert.WgDown.nD Cert.WgDown.τ).loc Cert.WgDown.main_arg1)
      ∧ r.2.mem ((c.tc : Thread Cert.WgDown.nD Cert.WgDown.τ).loc Cert.WgDown.main_arg2) = m ((c.tc : Thread Cert.WgDown.nD Cert.WgDown.τ).loc Cert.WgDown.main_arg2))
      ∧ r.2.sem = fun _ => 0)

def quiescent_WgDownIdeal [hWgDownIdeal : Cert.WgDownIdeal.Facts] : Prop :=
  ∀ (m : (ℓ : Loc Cert.WgDownIdeal.nD Cert.WgDownIdeal.τ Cert.WgDownIdeal.sig) → Buf (Elt Ideal) ℓ) (g : Dev Cert.WgDownIdeal.nD → PrngReg), Pre_WgDownIdeal m →
    θ_run (Cert.WgDownIdeal.defs (F := Ideal)) (onTc (τ := Cert.WgDownIdeal.τ) (Cert.WgDownIdeal.main (F := Ideal))) ⟨m, fun _ => 0, g⟩ (fun r => (∀ c : Dev Cert.WgDownIdeal.nD,
      r.2.mem ((c.tc : Thread Cert.WgDownIdeal.nD Cert.WgDownIdeal.τ).loc Cert.WgDownIdeal.main_arg0) = m ((c.tc : Thread Cert.WgDownIdeal.nD Cert.WgDownIdeal.τ).loc Cert.WgDownIdeal.main_arg0)
      ∧ r.2.mem ((c.tc : Thread Cert.WgDownIdeal.nD Cert.WgDownIdeal.τ).loc Cert.WgDownIdeal.main_arg1) = m ((c.tc : Thread Cert.WgDownIdeal.nD Cert.WgDownIdeal.τ).loc Cert.WgDownIdeal.main_arg1)
      ∧ r.2.mem ((c.tc : Thread Cert.WgDownIdeal.nD Cert.WgDownIdeal.τ).loc Cert.WgDownIdeal.main_arg2) = m ((c.tc : Thread Cert.WgDownIdeal.nD Cert.WgDownIdeal.τ).loc Cert.WgDownIdeal.main_arg2))
      ∧ r.2.sem = fun _ => 0)

def quiescent_WgDownRefIdeal [hWgDownRefIdeal : Cert.WgDownRefIdeal.Facts] : Prop :=
  ∀ (m : (ℓ : Loc Cert.WgDownRefIdeal.nD Cert.WgDownRefIdeal.τ Cert.WgDownRefIdeal.sig) → Buf (Elt Ideal) ℓ) (g : Dev Cert.WgDownRefIdeal.nD → PrngReg), Pre_WgDownRefIdeal m →
    θ_run (Cert.WgDownRefIdeal.defs (F := Ideal)) (onTc (τ := Cert.WgDownRefIdeal.τ) (Cert.WgDownRefIdeal.main (F := Ideal))) ⟨m, fun _ => 0, g⟩ (fun r => (∀ c : Dev Cert.WgDownRefIdeal.nD,
      r.2.mem ((c.tc : Thread Cert.WgDownRefIdeal.nD Cert.WgDownRefIdeal.τ).loc Cert.WgDownRefIdeal.main_arg0) = m ((c.tc : Thread Cert.WgDownRefIdeal.nD Cert.WgDownRefIdeal.τ).loc Cert.WgDownRefIdeal.main_arg0)
      ∧ r.2.mem ((c.tc : Thread Cert.WgDownRefIdeal.nD Cert.WgDownRefIdeal.τ).loc Cert.WgDownRefIdeal.main_arg1) = m ((c.tc : Thread Cert.WgDownRefIdeal.nD Cert.WgDownRefIdeal.τ).loc Cert.WgDownRefIdeal.main_arg1)
      ∧ r.2.mem ((c.tc : Thread Cert.WgDownRefIdeal.nD Cert.WgDownRefIdeal.τ).loc Cert.WgDownRefIdeal.main_arg2) = m ((c.tc : Thread Cert.WgDownRefIdeal.nD Cert.WgDownRefIdeal.τ).loc Cert.WgDownRefIdeal.main_arg2))
      ∧ r.2.sem = fun _ => 0)

def quiescent_WgUp [hWgUp : Cert.WgUp.Facts] : Prop :=
  ∀ (m : (ℓ : Loc Cert.WgUp.nD Cert.WgUp.τ Cert.WgUp.sig) → Buf (Elt Bits) ℓ) (g : Dev Cert.WgUp.nD → PrngReg), Pre_WgUp m →
    θ_run (Cert.WgUp.defs (F := Bits)) (onTc (τ := Cert.WgUp.τ) (Cert.WgUp.main (F := Bits))) ⟨m, fun _ => 0, g⟩ (fun r => (∀ c : Dev Cert.WgUp.nD,
      r.2.mem ((c.tc : Thread Cert.WgUp.nD Cert.WgUp.τ).loc Cert.WgUp.main_arg0) = m ((c.tc : Thread Cert.WgUp.nD Cert.WgUp.τ).loc Cert.WgUp.main_arg0)
      ∧ r.2.mem ((c.tc : Thread Cert.WgUp.nD Cert.WgUp.τ).loc Cert.WgUp.main_arg1) = m ((c.tc : Thread Cert.WgUp.nD Cert.WgUp.τ).loc Cert.WgUp.main_arg1)
      ∧ r.2.mem ((c.tc : Thread Cert.WgUp.nD Cert.WgUp.τ).loc Cert.WgUp.main_arg2) = m ((c.tc : Thread Cert.WgUp.nD Cert.WgUp.τ).loc Cert.WgUp.main_arg2))
      ∧ r.2.sem = fun _ => 0)

def quiescent_WgUpIdeal [hWgUpIdeal : Cert.WgUpIdeal.Facts] : Prop :=
  ∀ (m : (ℓ : Loc Cert.WgUpIdeal.nD Cert.WgUpIdeal.τ Cert.WgUpIdeal.sig) → Buf (Elt Ideal) ℓ) (g : Dev Cert.WgUpIdeal.nD → PrngReg), Pre_WgUpIdeal m →
    θ_run (Cert.WgUpIdeal.defs (F := Ideal)) (onTc (τ := Cert.WgUpIdeal.τ) (Cert.WgUpIdeal.main (F := Ideal))) ⟨m, fun _ => 0, g⟩ (fun r => (∀ c : Dev Cert.WgUpIdeal.nD,
      r.2.mem ((c.tc : Thread Cert.WgUpIdeal.nD Cert.WgUpIdeal.τ).loc Cert.WgUpIdeal.main_arg0) = m ((c.tc : Thread Cert.WgUpIdeal.nD Cert.WgUpIdeal.τ).loc Cert.WgUpIdeal.main_arg0)
      ∧ r.2.mem ((c.tc : Thread Cert.WgUpIdeal.nD Cert.WgUpIdeal.τ).loc Cert.WgUpIdeal.main_arg1) = m ((c.tc : Thread Cert.WgUpIdeal.nD Cert.WgUpIdeal.τ).loc Cert.WgUpIdeal.main_arg1)
      ∧ r.2.mem ((c.tc : Thread Cert.WgUpIdeal.nD Cert.WgUpIdeal.τ).loc Cert.WgUpIdeal.main_arg2) = m ((c.tc : Thread Cert.WgUpIdeal.nD Cert.WgUpIdeal.τ).loc Cert.WgUpIdeal.main_arg2))
      ∧ r.2.sem = fun _ => 0)

def quiescent_WgUpRefIdeal [hWgUpRefIdeal : Cert.WgUpRefIdeal.Facts] : Prop :=
  ∀ (m : (ℓ : Loc Cert.WgUpRefIdeal.nD Cert.WgUpRefIdeal.τ Cert.WgUpRefIdeal.sig) → Buf (Elt Ideal) ℓ) (g : Dev Cert.WgUpRefIdeal.nD → PrngReg), Pre_WgUpRefIdeal m →
    θ_run (Cert.WgUpRefIdeal.defs (F := Ideal)) (onTc (τ := Cert.WgUpRefIdeal.τ) (Cert.WgUpRefIdeal.main (F := Ideal))) ⟨m, fun _ => 0, g⟩ (fun r => (∀ c : Dev Cert.WgUpRefIdeal.nD,
      r.2.mem ((c.tc : Thread Cert.WgUpRefIdeal.nD Cert.WgUpRefIdeal.τ).loc Cert.WgUpRefIdeal.main_arg0) = m ((c.tc : Thread Cert.WgUpRefIdeal.nD Cert.WgUpRefIdeal.τ).loc Cert.WgUpRefIdeal.main_arg0)
      ∧ r.2.mem ((c.tc : Thread Cert.WgUpRefIdeal.nD Cert.WgUpRefIdeal.τ).loc Cert.WgUpRefIdeal.main_arg1) = m ((c.tc : Thread Cert.WgUpRefIdeal.nD Cert.WgUpRefIdeal.τ).loc Cert.WgUpRefIdeal.main_arg1)
      ∧ r.2.mem ((c.tc : Thread Cert.WgUpRefIdeal.nD Cert.WgUpRefIdeal.τ).loc Cert.WgUpRefIdeal.main_arg2) = m ((c.tc : Thread Cert.WgUpRefIdeal.nD Cert.WgUpRefIdeal.τ).loc Cert.WgUpRefIdeal.main_arg2))
      ∧ r.2.sem = fun _ => 0)

def quiescent_WgOut [hWgOut : Cert.WgOut.Facts] : Prop :=
  ∀ (m : (ℓ : Loc Cert.WgOut.nD Cert.WgOut.τ Cert.WgOut.sig) → Buf (Elt Bits) ℓ) (g : Dev Cert.WgOut.nD → PrngReg), Pre_WgOut m →
    θ_run (Cert.WgOut.defs (F := Bits)) (onTc (τ := Cert.WgOut.τ) (Cert.WgOut.main (F := Bits))) ⟨m, fun _ => 0, g⟩ (fun r => (∀ c : Dev Cert.WgOut.nD,
      r.2.mem ((c.tc : Thread Cert.WgOut.nD Cert.WgOut.τ).loc Cert.WgOut.main_arg0) = m ((c.tc : Thread Cert.WgOut.nD Cert.WgOut.τ).loc Cert.WgOut.main_arg0)
      ∧ r.2.mem ((c.tc : Thread Cert.WgOut.nD Cert.WgOut.τ).loc Cert.WgOut.main_arg1) = m ((c.tc : Thread Cert.WgOut.nD Cert.WgOut.τ).loc Cert.WgOut.main_arg1)
      ∧ r.2.mem ((c.tc : Thread Cert.WgOut.nD Cert.WgOut.τ).loc Cert.WgOut.main_arg2) = m ((c.tc : Thread Cert.WgOut.nD Cert.WgOut.τ).loc Cert.WgOut.main_arg2))
      ∧ r.2.sem = fun _ => 0)

def quiescent_WgOutIdeal [hWgOutIdeal : Cert.WgOutIdeal.Facts] : Prop :=
  ∀ (m : (ℓ : Loc Cert.WgOutIdeal.nD Cert.WgOutIdeal.τ Cert.WgOutIdeal.sig) → Buf (Elt Ideal) ℓ) (g : Dev Cert.WgOutIdeal.nD → PrngReg), Pre_WgOutIdeal m →
    θ_run (Cert.WgOutIdeal.defs (F := Ideal)) (onTc (τ := Cert.WgOutIdeal.τ) (Cert.WgOutIdeal.main (F := Ideal))) ⟨m, fun _ => 0, g⟩ (fun r => (∀ c : Dev Cert.WgOutIdeal.nD,
      r.2.mem ((c.tc : Thread Cert.WgOutIdeal.nD Cert.WgOutIdeal.τ).loc Cert.WgOutIdeal.main_arg0) = m ((c.tc : Thread Cert.WgOutIdeal.nD Cert.WgOutIdeal.τ).loc Cert.WgOutIdeal.main_arg0)
      ∧ r.2.mem ((c.tc : Thread Cert.WgOutIdeal.nD Cert.WgOutIdeal.τ).loc Cert.WgOutIdeal.main_arg1) = m ((c.tc : Thread Cert.WgOutIdeal.nD Cert.WgOutIdeal.τ).loc Cert.WgOutIdeal.main_arg1)
      ∧ r.2.mem ((c.tc : Thread Cert.WgOutIdeal.nD Cert.WgOutIdeal.τ).loc Cert.WgOutIdeal.main_arg2) = m ((c.tc : Thread Cert.WgOutIdeal.nD Cert.WgOutIdeal.τ).loc Cert.WgOutIdeal.main_arg2))
      ∧ r.2.sem = fun _ => 0)

def quiescent_WgOutRefIdeal [hWgOutRefIdeal : Cert.WgOutRefIdeal.Facts] : Prop :=
  ∀ (m : (ℓ : Loc Cert.WgOutRefIdeal.nD Cert.WgOutRefIdeal.τ Cert.WgOutRefIdeal.sig) → Buf (Elt Ideal) ℓ) (g : Dev Cert.WgOutRefIdeal.nD → PrngReg), Pre_WgOutRefIdeal m →
    θ_run (Cert.WgOutRefIdeal.defs (F := Ideal)) (onTc (τ := Cert.WgOutRefIdeal.τ) (Cert.WgOutRefIdeal.main (F := Ideal))) ⟨m, fun _ => 0, g⟩ (fun r => (∀ c : Dev Cert.WgOutRefIdeal.nD,
      r.2.mem ((c.tc : Thread Cert.WgOutRefIdeal.nD Cert.WgOutRefIdeal.τ).loc Cert.WgOutRefIdeal.main_arg0) = m ((c.tc : Thread Cert.WgOutRefIdeal.nD Cert.WgOutRefIdeal.τ).loc Cert.WgOutRefIdeal.main_arg0)
      ∧ r.2.mem ((c.tc : Thread Cert.WgOutRefIdeal.nD Cert.WgOutRefIdeal.τ).loc Cert.WgOutRefIdeal.main_arg1) = m ((c.tc : Thread Cert.WgOutRefIdeal.nD Cert.WgOutRefIdeal.τ).loc Cert.WgOutRefIdeal.main_arg1)
      ∧ r.2.mem ((c.tc : Thread Cert.WgOutRefIdeal.nD Cert.WgOutRefIdeal.τ).loc Cert.WgOutRefIdeal.main_arg2) = m ((c.tc : Thread Cert.WgOutRefIdeal.nD Cert.WgOutRefIdeal.τ).loc Cert.WgOutRefIdeal.main_arg2))
      ∧ r.2.sem = fun _ => 0)

def quiescent_WgMix [hWgMix : Cert.WgMix.Facts] : Prop :=
  ∀ (m : (ℓ : Loc Cert.WgMix.nD Cert.WgMix.τ Cert.WgMix.sig) → Buf (Elt Bits) ℓ) (g : Dev Cert.WgMix.nD → PrngReg), Pre_WgMix m →
    θ_run (Cert.WgMix.defs (F := Bits)) (onTc (τ := Cert.WgMix.τ) (Cert.WgMix.main (F := Bits))) ⟨m, fun _ => 0, g⟩ (fun r => (∀ c : Dev Cert.WgMix.nD,
      r.2.mem ((c.tc : Thread Cert.WgMix.nD Cert.WgMix.τ).loc Cert.WgMix.main_arg0) = m ((c.tc : Thread Cert.WgMix.nD Cert.WgMix.τ).loc Cert.WgMix.main_arg0)
      ∧ r.2.mem ((c.tc : Thread Cert.WgMix.nD Cert.WgMix.τ).loc Cert.WgMix.main_arg1) = m ((c.tc : Thread Cert.WgMix.nD Cert.WgMix.τ).loc Cert.WgMix.main_arg1)
      ∧ r.2.mem ((c.tc : Thread Cert.WgMix.nD Cert.WgMix.τ).loc Cert.WgMix.main_arg2) = m ((c.tc : Thread Cert.WgMix.nD Cert.WgMix.τ).loc Cert.WgMix.main_arg2))
      ∧ r.2.sem = fun _ => 0)

def quiescent_WgMixIdeal [hWgMixIdeal : Cert.WgMixIdeal.Facts] : Prop :=
  ∀ (m : (ℓ : Loc Cert.WgMixIdeal.nD Cert.WgMixIdeal.τ Cert.WgMixIdeal.sig) → Buf (Elt Ideal) ℓ) (g : Dev Cert.WgMixIdeal.nD → PrngReg), Pre_WgMixIdeal m →
    θ_run (Cert.WgMixIdeal.defs (F := Ideal)) (onTc (τ := Cert.WgMixIdeal.τ) (Cert.WgMixIdeal.main (F := Ideal))) ⟨m, fun _ => 0, g⟩ (fun r => (∀ c : Dev Cert.WgMixIdeal.nD,
      r.2.mem ((c.tc : Thread Cert.WgMixIdeal.nD Cert.WgMixIdeal.τ).loc Cert.WgMixIdeal.main_arg0) = m ((c.tc : Thread Cert.WgMixIdeal.nD Cert.WgMixIdeal.τ).loc Cert.WgMixIdeal.main_arg0)
      ∧ r.2.mem ((c.tc : Thread Cert.WgMixIdeal.nD Cert.WgMixIdeal.τ).loc Cert.WgMixIdeal.main_arg1) = m ((c.tc : Thread Cert.WgMixIdeal.nD Cert.WgMixIdeal.τ).loc Cert.WgMixIdeal.main_arg1)
      ∧ r.2.mem ((c.tc : Thread Cert.WgMixIdeal.nD Cert.WgMixIdeal.τ).loc Cert.WgMixIdeal.main_arg2) = m ((c.tc : Thread Cert.WgMixIdeal.nD Cert.WgMixIdeal.τ).loc Cert.WgMixIdeal.main_arg2))
      ∧ r.2.sem = fun _ => 0)

def quiescent_WgMixRefIdeal [hWgMixRefIdeal : Cert.WgMixRefIdeal.Facts] : Prop :=
  ∀ (m : (ℓ : Loc Cert.WgMixRefIdeal.nD Cert.WgMixRefIdeal.τ Cert.WgMixRefIdeal.sig) → Buf (Elt Ideal) ℓ) (g : Dev Cert.WgMixRefIdeal.nD → PrngReg), Pre_WgMixRefIdeal m →
    θ_run (Cert.WgMixRefIdeal.defs (F := Ideal)) (onTc (τ := Cert.WgMixRefIdeal.τ) (Cert.WgMixRefIdeal.main (F := Ideal))) ⟨m, fun _ => 0, g⟩ (fun r => (∀ c : Dev Cert.WgMixRefIdeal.nD,
      r.2.mem ((c.tc : Thread Cert.WgMixRefIdeal.nD Cert.WgMixRefIdeal.τ).loc Cert.WgMixRefIdeal.main_arg0) = m ((c.tc : Thread Cert.WgMixRefIdeal.nD Cert.WgMixRefIdeal.τ).loc Cert.WgMixRefIdeal.main_arg0)
      ∧ r.2.mem ((c.tc : Thread Cert.WgMixRefIdeal.nD Cert.WgMixRefIdeal.τ).loc Cert.WgMixRefIdeal.main_arg1) = m ((c.tc : Thread Cert.WgMixRefIdeal.nD Cert.WgMixRefIdeal.τ).loc Cert.WgMixRefIdeal.main_arg1)
      ∧ r.2.mem ((c.tc : Thread Cert.WgMixRefIdeal.nD Cert.WgMixRefIdeal.τ).loc Cert.WgMixRefIdeal.main_arg2) = m ((c.tc : Thread Cert.WgMixRefIdeal.nD Cert.WgMixRefIdeal.τ).loc Cert.WgMixRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownIdeal_pre_ffn_down_finite [hFfnDownIdeal : Cert.FfnDownIdeal.Facts] [hPre_ffn_down_finite : Cert.Pre_ffn_down_finite.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal_ffn_down_finite m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_FfnDownRefIdeal_pre_ffn_down_finite [hFfnDownRefIdeal : Cert.FfnDownRefIdeal.Facts] [hPre_ffn_down_finite : Cert.Pre_ffn_down_finite.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal_ffn_down_finite m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2)
      ∧ r.2.mem ((c.tc : Thread Cert.FfnNorm.nD Cert.FfnNorm.τ).loc Cert.FfnNorm.main_arg3) = m ((c.tc : Thread Cert.FfnNorm.nD Cert.FfnNorm.τ).loc Cert.FfnNorm.main_arg3)
      ∧ r.2.mem ((c.tc : Thread Cert.FfnNorm.nD Cert.FfnNorm.τ).loc Cert.FfnNorm.main_arg4) = m ((c.tc : Thread Cert.FfnNorm.nD Cert.FfnNorm.τ).loc Cert.FfnNorm.main_arg4)
      ∧ r.2.mem ((c.tc : Thread Cert.FfnNorm.nD Cert.FfnNorm.τ).loc Cert.FfnNorm.main_arg5) = m ((c.tc : Thread Cert.FfnNorm.nD Cert.FfnNorm.τ).loc Cert.FfnNorm.main_arg5)
      ∧ r.2.mem ((c.tc : Thread Cert.FfnNorm.nD Cert.FfnNorm.τ).loc Cert.FfnNorm.main_arg6) = m ((c.tc : Thread Cert.FfnNorm.nD Cert.FfnNorm.τ).loc Cert.FfnNorm.main_arg6))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
      ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4)
      ∧ r.2.mem ((c.tc : Thread Cert.FfnNormIdeal.nD Cert.FfnNormIdeal.τ).loc Cert.FfnNormIdeal.main_arg5) = m ((c.tc : Thread Cert.FfnNormIdeal.nD Cert.FfnNormIdeal.τ).loc Cert.FfnNormIdeal.main_arg5)
      ∧ r.2.mem ((c.tc : Thread Cert.FfnNormIdeal.nD Cert.FfnNormIdeal.τ).loc Cert.FfnNormIdeal.main_arg6) = m ((c.tc : Thread Cert.FfnNormIdeal.nD Cert.FfnNormIdeal.τ).loc Cert.FfnNormIdeal.main_arg6))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3)
      ∧ r.2.mem ((c.tc : Thread Cert.FfnNormRefIdeal.nD Cert.FfnNormRefIdeal.τ).loc Cert.FfnNormRefIdeal.main_arg4) = m ((c.tc : Thread Cert.FfnNormRefIdeal.nD Cert.FfnNormRefIdeal.τ).loc Cert.FfnNormRefIdeal.main_arg4)
      ∧ r.2.mem ((c.tc : Thread Cert.FfnNormRefIdeal.nD Cert.FfnNormRefIdeal.τ).loc Cert.FfnNormRefIdeal.main_arg5) = m ((c.tc : Thread Cert.FfnNormRefIdeal.nD Cert.FfnNormRefIdeal.τ).loc Cert.FfnNormRefIdeal.main_arg5)
      ∧ r.2.mem ((c.tc : Thread Cert.FfnNormRefIdeal.nD Cert.FfnNormRefIdeal.τ).loc Cert.FfnNormRefIdeal.main_arg6) = m ((c.tc : Thread Cert.FfnNormRefIdeal.nD Cert.FfnNormRefIdeal.τ).loc Cert.FfnNormRefIdeal.main_arg6))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4)
      ∧ r.2.mem ((c.tc : Thread Cert.ProjBwd.nD Cert.ProjBwd.τ).loc Cert.ProjBwd.main_arg5) = m ((c.tc : Thread Cert.ProjBwd.nD Cert.ProjBwd.τ).loc Cert.ProjBwd.main_arg5))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4)
      ∧ r.2.mem ((c.tc : Thread Cert.ProjBwdRefIdeal.nD Cert.ProjBwdRefIdeal.τ).loc Cert.ProjBwdRefIdeal.main_arg5) = m ((c.tc : Thread Cert.ProjBwdRefIdeal.nD Cert.ProjBwdRefIdeal.τ).loc Cert.ProjBwdRefIdeal.main_arg5))
      ∧ r.2.sem = fun _ => 0)

def quiescent_ProjNear [hProjNear : Cert.ProjNear.Facts] : Prop :=
  ∀ (m : (ℓ : Loc Cert.ProjNear.nD Cert.ProjNear.τ Cert.ProjNear.sig) → Buf (Elt Bits) ℓ) (g : Dev Cert.ProjNear.nD → PrngReg), Pre_ProjNear m →
    θ_run (Cert.ProjNear.defs (F := Bits)) (onTc (τ := Cert.ProjNear.τ) (Cert.ProjNear.main (F := Bits))) ⟨m, fun _ => 0, g⟩ (fun r => (∀ c : Dev Cert.ProjNear.nD,
      r.2.mem ((c.tc : Thread Cert.ProjNear.nD Cert.ProjNear.τ).loc Cert.ProjNear.main_arg0) = m ((c.tc : Thread Cert.ProjNear.nD Cert.ProjNear.τ).loc Cert.ProjNear.main_arg0)
      ∧ r.2.mem ((c.tc : Thread Cert.ProjNear.nD Cert.ProjNear.τ).loc Cert.ProjNear.main_arg1) = m ((c.tc : Thread Cert.ProjNear.nD Cert.ProjNear.τ).loc Cert.ProjNear.main_arg1)
      ∧ r.2.mem ((c.tc : Thread Cert.ProjNear.nD Cert.ProjNear.τ).loc Cert.ProjNear.main_arg2) = m ((c.tc : Thread Cert.ProjNear.nD Cert.ProjNear.τ).loc Cert.ProjNear.main_arg2))
      ∧ r.2.sem = fun _ => 0)

def quiescent_ProjNearIdeal [hProjNearIdeal : Cert.ProjNearIdeal.Facts] : Prop :=
  ∀ (m : (ℓ : Loc Cert.ProjNearIdeal.nD Cert.ProjNearIdeal.τ Cert.ProjNearIdeal.sig) → Buf (Elt Ideal) ℓ) (g : Dev Cert.ProjNearIdeal.nD → PrngReg), Pre_ProjNearIdeal m →
    θ_run (Cert.ProjNearIdeal.defs (F := Ideal)) (onTc (τ := Cert.ProjNearIdeal.τ) (Cert.ProjNearIdeal.main (F := Ideal))) ⟨m, fun _ => 0, g⟩ (fun r => (∀ c : Dev Cert.ProjNearIdeal.nD,
      r.2.mem ((c.tc : Thread Cert.ProjNearIdeal.nD Cert.ProjNearIdeal.τ).loc Cert.ProjNearIdeal.main_arg0) = m ((c.tc : Thread Cert.ProjNearIdeal.nD Cert.ProjNearIdeal.τ).loc Cert.ProjNearIdeal.main_arg0)
      ∧ r.2.mem ((c.tc : Thread Cert.ProjNearIdeal.nD Cert.ProjNearIdeal.τ).loc Cert.ProjNearIdeal.main_arg1) = m ((c.tc : Thread Cert.ProjNearIdeal.nD Cert.ProjNearIdeal.τ).loc Cert.ProjNearIdeal.main_arg1)
      ∧ r.2.mem ((c.tc : Thread Cert.ProjNearIdeal.nD Cert.ProjNearIdeal.τ).loc Cert.ProjNearIdeal.main_arg2) = m ((c.tc : Thread Cert.ProjNearIdeal.nD Cert.ProjNearIdeal.τ).loc Cert.ProjNearIdeal.main_arg2))
      ∧ r.2.sem = fun _ => 0)

def quiescent_ProjNearRefIdeal [hProjNearRefIdeal : Cert.ProjNearRefIdeal.Facts] : Prop :=
  ∀ (m : (ℓ : Loc Cert.ProjNearRefIdeal.nD Cert.ProjNearRefIdeal.τ Cert.ProjNearRefIdeal.sig) → Buf (Elt Ideal) ℓ) (g : Dev Cert.ProjNearRefIdeal.nD → PrngReg), Pre_ProjNearRefIdeal m →
    θ_run (Cert.ProjNearRefIdeal.defs (F := Ideal)) (onTc (τ := Cert.ProjNearRefIdeal.τ) (Cert.ProjNearRefIdeal.main (F := Ideal))) ⟨m, fun _ => 0, g⟩ (fun r => (∀ c : Dev Cert.ProjNearRefIdeal.nD,
      r.2.mem ((c.tc : Thread Cert.ProjNearRefIdeal.nD Cert.ProjNearRefIdeal.τ).loc Cert.ProjNearRefIdeal.main_arg0) = m ((c.tc : Thread Cert.ProjNearRefIdeal.nD Cert.ProjNearRefIdeal.τ).loc Cert.ProjNearRefIdeal.main_arg0)
      ∧ r.2.mem ((c.tc : Thread Cert.ProjNearRefIdeal.nD Cert.ProjNearRefIdeal.τ).loc Cert.ProjNearRefIdeal.main_arg1) = m ((c.tc : Thread Cert.ProjNearRefIdeal.nD Cert.ProjNearRefIdeal.τ).loc Cert.ProjNearRefIdeal.main_arg1)
      ∧ r.2.mem ((c.tc : Thread Cert.ProjNearRefIdeal.nD Cert.ProjNearRefIdeal.τ).loc Cert.ProjNearRefIdeal.main_arg2) = m ((c.tc : Thread Cert.ProjNearRefIdeal.nD Cert.ProjNearRefIdeal.τ).loc Cert.ProjNearRefIdeal.main_arg2))
      ∧ r.2.sem = fun _ => 0)

def quiescent_ProjFar [hProjFar : Cert.ProjFar.Facts] : Prop :=
  ∀ (m : (ℓ : Loc Cert.ProjFar.nD Cert.ProjFar.τ Cert.ProjFar.sig) → Buf (Elt Bits) ℓ) (g : Dev Cert.ProjFar.nD → PrngReg), Pre_ProjFar m →
    θ_run (Cert.ProjFar.defs (F := Bits)) (onTc (τ := Cert.ProjFar.τ) (Cert.ProjFar.main (F := Bits))) ⟨m, fun _ => 0, g⟩ (fun r => (∀ c : Dev Cert.ProjFar.nD,
      r.2.mem ((c.tc : Thread Cert.ProjFar.nD Cert.ProjFar.τ).loc Cert.ProjFar.main_arg0) = m ((c.tc : Thread Cert.ProjFar.nD Cert.ProjFar.τ).loc Cert.ProjFar.main_arg0)
      ∧ r.2.mem ((c.tc : Thread Cert.ProjFar.nD Cert.ProjFar.τ).loc Cert.ProjFar.main_arg1) = m ((c.tc : Thread Cert.ProjFar.nD Cert.ProjFar.τ).loc Cert.ProjFar.main_arg1)
      ∧ r.2.mem ((c.tc : Thread Cert.ProjFar.nD Cert.ProjFar.τ).loc Cert.ProjFar.main_arg2) = m ((c.tc : Thread Cert.ProjFar.nD Cert.ProjFar.τ).loc Cert.ProjFar.main_arg2))
      ∧ r.2.sem = fun _ => 0)

def quiescent_ProjFarIdeal [hProjFarIdeal : Cert.ProjFarIdeal.Facts] : Prop :=
  ∀ (m : (ℓ : Loc Cert.ProjFarIdeal.nD Cert.ProjFarIdeal.τ Cert.ProjFarIdeal.sig) → Buf (Elt Ideal) ℓ) (g : Dev Cert.ProjFarIdeal.nD → PrngReg), Pre_ProjFarIdeal m →
    θ_run (Cert.ProjFarIdeal.defs (F := Ideal)) (onTc (τ := Cert.ProjFarIdeal.τ) (Cert.ProjFarIdeal.main (F := Ideal))) ⟨m, fun _ => 0, g⟩ (fun r => (∀ c : Dev Cert.ProjFarIdeal.nD,
      r.2.mem ((c.tc : Thread Cert.ProjFarIdeal.nD Cert.ProjFarIdeal.τ).loc Cert.ProjFarIdeal.main_arg0) = m ((c.tc : Thread Cert.ProjFarIdeal.nD Cert.ProjFarIdeal.τ).loc Cert.ProjFarIdeal.main_arg0)
      ∧ r.2.mem ((c.tc : Thread Cert.ProjFarIdeal.nD Cert.ProjFarIdeal.τ).loc Cert.ProjFarIdeal.main_arg1) = m ((c.tc : Thread Cert.ProjFarIdeal.nD Cert.ProjFarIdeal.τ).loc Cert.ProjFarIdeal.main_arg1)
      ∧ r.2.mem ((c.tc : Thread Cert.ProjFarIdeal.nD Cert.ProjFarIdeal.τ).loc Cert.ProjFarIdeal.main_arg2) = m ((c.tc : Thread Cert.ProjFarIdeal.nD Cert.ProjFarIdeal.τ).loc Cert.ProjFarIdeal.main_arg2))
      ∧ r.2.sem = fun _ => 0)

def quiescent_ProjFarRefIdeal [hProjFarRefIdeal : Cert.ProjFarRefIdeal.Facts] : Prop :=
  ∀ (m : (ℓ : Loc Cert.ProjFarRefIdeal.nD Cert.ProjFarRefIdeal.τ Cert.ProjFarRefIdeal.sig) → Buf (Elt Ideal) ℓ) (g : Dev Cert.ProjFarRefIdeal.nD → PrngReg), Pre_ProjFarRefIdeal m →
    θ_run (Cert.ProjFarRefIdeal.defs (F := Ideal)) (onTc (τ := Cert.ProjFarRefIdeal.τ) (Cert.ProjFarRefIdeal.main (F := Ideal))) ⟨m, fun _ => 0, g⟩ (fun r => (∀ c : Dev Cert.ProjFarRefIdeal.nD,
      r.2.mem ((c.tc : Thread Cert.ProjFarRefIdeal.nD Cert.ProjFarRefIdeal.τ).loc Cert.ProjFarRefIdeal.main_arg0) = m ((c.tc : Thread Cert.ProjFarRefIdeal.nD Cert.ProjFarRefIdeal.τ).loc Cert.ProjFarRefIdeal.main_arg0)
      ∧ r.2.mem ((c.tc : Thread Cert.ProjFarRefIdeal.nD Cert.ProjFarRefIdeal.τ).loc Cert.ProjFarRefIdeal.main_arg1) = m ((c.tc : Thread Cert.ProjFarRefIdeal.nD Cert.ProjFarRefIdeal.τ).loc Cert.ProjFarRefIdeal.main_arg1)
      ∧ r.2.mem ((c.tc : Thread Cert.ProjFarRefIdeal.nD Cert.ProjFarRefIdeal.τ).loc Cert.ProjFarRefIdeal.main_arg2) = m ((c.tc : Thread Cert.ProjFarRefIdeal.nD Cert.ProjFarRefIdeal.τ).loc Cert.ProjFarRefIdeal.main_arg2))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v24_0)) (v1 : (c : Dev Cert.AttnIdeal.nD) → Buf (Elt Ideal) ((c.tc : Thread Cert.AttnIdeal.nD Cert.AttnIdeal.τ).loc Cert.AttnIdeal.main_v24_1)) (v2 : (c : Dev Cert.AttnIdeal.nD) → Buf (Elt Ideal) ((c.tc : Thread Cert.AttnIdeal.nD Cert.AttnIdeal.τ).loc Cert.AttnIdeal.main_v24_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v24_0) = v0 c
          ∧ r.2.mem ((c.tc : Thread Cert.AttnIdeal.nD Cert.AttnIdeal.τ).loc Cert.AttnIdeal.main_v24_1) = v1 c
          ∧ r.2.mem ((c.tc : Thread Cert.AttnIdeal.nD Cert.AttnIdeal.τ).loc Cert.AttnIdeal.main_v24_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v98) = v0 c
          ∧ r.2.mem ((c.tc : Thread Cert.AttnRefIdeal.nD Cert.AttnRefIdeal.τ).loc Cert.AttnRefIdeal.main_v101) = v1 c
          ∧ r.2.mem ((c.tc : Thread Cert.AttnRefIdeal.nD Cert.AttnRefIdeal.τ).loc Cert.AttnRefIdeal.main_v102) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_WgDown_WgDownIdeal : Prop :=
  True

def algebraic_WgDownIdeal_WgDownRefIdeal [hWgDownIdeal : Cert.WgDownIdeal.Facts] [hWgDownRefIdeal : Cert.WgDownRefIdeal.Facts] : Prop :=
  ∀ (m : (ℓ : Loc Cert.WgDownIdeal.nD Cert.WgDownIdeal.τ Cert.WgDownIdeal.sig) → Buf (Elt Ideal) ℓ) (g : Dev Cert.WgDownIdeal.nD → PrngReg)
    (m' : (ℓ : Loc Cert.WgDownRefIdeal.nD Cert.WgDownRefIdeal.τ Cert.WgDownRefIdeal.sig) → Buf (Elt Ideal) ℓ) (g' : Dev Cert.WgDownRefIdeal.nD → PrngReg), Pre_WgDownIdeal m →
    (∀ c : Dev Cert.WgDownIdeal.nD,
      m' ((c.tc : Thread Cert.WgDownRefIdeal.nD Cert.WgDownRefIdeal.τ).loc Cert.WgDownRefIdeal.main_arg0) = m ((c.tc : Thread Cert.WgDownIdeal.nD Cert.WgDownIdeal.τ).loc Cert.WgDownIdeal.main_arg0)
      ∧ m' ((c.tc : Thread Cert.WgDownRefIdeal.nD Cert.WgDownRefIdeal.τ).loc Cert.WgDownRefIdeal.main_arg1) = m ((c.tc : Thread Cert.WgDownIdeal.nD Cert.WgDownIdeal.τ).loc Cert.WgDownIdeal.main_arg1)
      ∧ m' ((c.tc : Thread Cert.WgDownRefIdeal.nD Cert.WgDownRefIdeal.τ).loc Cert.WgDownRefIdeal.main_arg2) = m ((c.tc : Thread Cert.WgDownIdeal.nD Cert.WgDownIdeal.τ).loc Cert.WgDownIdeal.main_arg2)) →
    ∃ (v0 : (c : Dev Cert.WgDownIdeal.nD) → Buf (Elt Ideal) ((c.tc : Thread Cert.WgDownIdeal.nD Cert.WgDownIdeal.τ).loc Cert.WgDownIdeal.main_v1)),
      θ_run (Cert.WgDownIdeal.defs (F := Ideal)) (onTc (τ := Cert.WgDownIdeal.τ) (Cert.WgDownIdeal.main (F := Ideal))) ⟨m, fun _ => 0, g⟩ (fun r => ∀ c : Dev Cert.WgDownIdeal.nD,
          r.2.mem ((c.tc : Thread Cert.WgDownIdeal.nD Cert.WgDownIdeal.τ).loc Cert.WgDownIdeal.main_v1) = v0 c
          ∧ r.2.mem ((c.tc : Thread Cert.WgDownIdeal.nD Cert.WgDownIdeal.τ).loc Cert.WgDownIdeal.main_arg0) = m ((c.tc : Thread Cert.WgDownIdeal.nD Cert.WgDownIdeal.τ).loc Cert.WgDownIdeal.main_arg0)
          ∧ r.2.mem ((c.tc : Thread Cert.WgDownIdeal.nD Cert.WgDownIdeal.τ).loc Cert.WgDownIdeal.main_arg1) = m ((c.tc : Thread Cert.WgDownIdeal.nD Cert.WgDownIdeal.τ).loc Cert.WgDownIdeal.main_arg1)
          ∧ r.2.mem ((c.tc : Thread Cert.WgDownIdeal.nD Cert.WgDownIdeal.τ).loc Cert.WgDownIdeal.main_arg2) = m ((c.tc : Thread Cert.WgDownIdeal.nD Cert.WgDownIdeal.τ).loc Cert.WgDownIdeal.main_arg2))
      ∧ θ_run (Cert.WgDownRefIdeal.defs (F := Ideal)) (onTc (τ := Cert.WgDownRefIdeal.τ) (Cert.WgDownRefIdeal.main (F := Ideal))) ⟨m', fun _ => 0, g'⟩ (fun r => ∀ c : Dev Cert.WgDownRefIdeal.nD,
          r.2.mem ((c.tc : Thread Cert.WgDownRefIdeal.nD Cert.WgDownRefIdeal.τ).loc Cert.WgDownRefIdeal.main_v6) = v0 c
          ∧ r.2.mem ((c.tc : Thread Cert.WgDownRefIdeal.nD Cert.WgDownRefIdeal.τ).loc Cert.WgDownRefIdeal.main_arg0) = m' ((c.tc : Thread Cert.WgDownRefIdeal.nD Cert.WgDownRefIdeal.τ).loc Cert.WgDownRefIdeal.main_arg0)
          ∧ r.2.mem ((c.tc : Thread Cert.WgDownRefIdeal.nD Cert.WgDownRefIdeal.τ).loc Cert.WgDownRefIdeal.main_arg1) = m' ((c.tc : Thread Cert.WgDownRefIdeal.nD Cert.WgDownRefIdeal.τ).loc Cert.WgDownRefIdeal.main_arg1)
          ∧ r.2.mem ((c.tc : Thread Cert.WgDownRefIdeal.nD Cert.WgDownRefIdeal.τ).loc Cert.WgDownRefIdeal.main_arg2) = m' ((c.tc : Thread Cert.WgDownRefIdeal.nD Cert.WgDownRefIdeal.τ).loc Cert.WgDownRefIdeal.main_arg2))

def preserves_WgUp_WgUpIdeal : Prop :=
  True

def algebraic_WgUpIdeal_WgUpRefIdeal [hWgUpIdeal : Cert.WgUpIdeal.Facts] [hWgUpRefIdeal : Cert.WgUpRefIdeal.Facts] : Prop :=
  ∀ (m : (ℓ : Loc Cert.WgUpIdeal.nD Cert.WgUpIdeal.τ Cert.WgUpIdeal.sig) → Buf (Elt Ideal) ℓ) (g : Dev Cert.WgUpIdeal.nD → PrngReg)
    (m' : (ℓ : Loc Cert.WgUpRefIdeal.nD Cert.WgUpRefIdeal.τ Cert.WgUpRefIdeal.sig) → Buf (Elt Ideal) ℓ) (g' : Dev Cert.WgUpRefIdeal.nD → PrngReg), Pre_WgUpIdeal m →
    (∀ c : Dev Cert.WgUpIdeal.nD,
      m' ((c.tc : Thread Cert.WgUpRefIdeal.nD Cert.WgUpRefIdeal.τ).loc Cert.WgUpRefIdeal.main_arg0) = m ((c.tc : Thread Cert.WgUpIdeal.nD Cert.WgUpIdeal.τ).loc Cert.WgUpIdeal.main_arg0)
      ∧ m' ((c.tc : Thread Cert.WgUpRefIdeal.nD Cert.WgUpRefIdeal.τ).loc Cert.WgUpRefIdeal.main_arg1) = m ((c.tc : Thread Cert.WgUpIdeal.nD Cert.WgUpIdeal.τ).loc Cert.WgUpIdeal.main_arg1)
      ∧ m' ((c.tc : Thread Cert.WgUpRefIdeal.nD Cert.WgUpRefIdeal.τ).loc Cert.WgUpRefIdeal.main_arg2) = m ((c.tc : Thread Cert.WgUpIdeal.nD Cert.WgUpIdeal.τ).loc Cert.WgUpIdeal.main_arg2)) →
    ∃ (v0 : (c : Dev Cert.WgUpIdeal.nD) → Buf (Elt Ideal) ((c.tc : Thread Cert.WgUpIdeal.nD Cert.WgUpIdeal.τ).loc Cert.WgUpIdeal.main_v1)),
      θ_run (Cert.WgUpIdeal.defs (F := Ideal)) (onTc (τ := Cert.WgUpIdeal.τ) (Cert.WgUpIdeal.main (F := Ideal))) ⟨m, fun _ => 0, g⟩ (fun r => ∀ c : Dev Cert.WgUpIdeal.nD,
          r.2.mem ((c.tc : Thread Cert.WgUpIdeal.nD Cert.WgUpIdeal.τ).loc Cert.WgUpIdeal.main_v1) = v0 c
          ∧ r.2.mem ((c.tc : Thread Cert.WgUpIdeal.nD Cert.WgUpIdeal.τ).loc Cert.WgUpIdeal.main_arg0) = m ((c.tc : Thread Cert.WgUpIdeal.nD Cert.WgUpIdeal.τ).loc Cert.WgUpIdeal.main_arg0)
          ∧ r.2.mem ((c.tc : Thread Cert.WgUpIdeal.nD Cert.WgUpIdeal.τ).loc Cert.WgUpIdeal.main_arg1) = m ((c.tc : Thread Cert.WgUpIdeal.nD Cert.WgUpIdeal.τ).loc Cert.WgUpIdeal.main_arg1)
          ∧ r.2.mem ((c.tc : Thread Cert.WgUpIdeal.nD Cert.WgUpIdeal.τ).loc Cert.WgUpIdeal.main_arg2) = m ((c.tc : Thread Cert.WgUpIdeal.nD Cert.WgUpIdeal.τ).loc Cert.WgUpIdeal.main_arg2))
      ∧ θ_run (Cert.WgUpRefIdeal.defs (F := Ideal)) (onTc (τ := Cert.WgUpRefIdeal.τ) (Cert.WgUpRefIdeal.main (F := Ideal))) ⟨m', fun _ => 0, g'⟩ (fun r => ∀ c : Dev Cert.WgUpRefIdeal.nD,
          r.2.mem ((c.tc : Thread Cert.WgUpRefIdeal.nD Cert.WgUpRefIdeal.τ).loc Cert.WgUpRefIdeal.main_v8) = v0 c
          ∧ r.2.mem ((c.tc : Thread Cert.WgUpRefIdeal.nD Cert.WgUpRefIdeal.τ).loc Cert.WgUpRefIdeal.main_arg0) = m' ((c.tc : Thread Cert.WgUpRefIdeal.nD Cert.WgUpRefIdeal.τ).loc Cert.WgUpRefIdeal.main_arg0)
          ∧ r.2.mem ((c.tc : Thread Cert.WgUpRefIdeal.nD Cert.WgUpRefIdeal.τ).loc Cert.WgUpRefIdeal.main_arg1) = m' ((c.tc : Thread Cert.WgUpRefIdeal.nD Cert.WgUpRefIdeal.τ).loc Cert.WgUpRefIdeal.main_arg1)
          ∧ r.2.mem ((c.tc : Thread Cert.WgUpRefIdeal.nD Cert.WgUpRefIdeal.τ).loc Cert.WgUpRefIdeal.main_arg2) = m' ((c.tc : Thread Cert.WgUpRefIdeal.nD Cert.WgUpRefIdeal.τ).loc Cert.WgUpRefIdeal.main_arg2))

def preserves_WgOut_WgOutIdeal : Prop :=
  True

def algebraic_WgOutIdeal_WgOutRefIdeal [hWgOutIdeal : Cert.WgOutIdeal.Facts] [hWgOutRefIdeal : Cert.WgOutRefIdeal.Facts] : Prop :=
  ∀ (m : (ℓ : Loc Cert.WgOutIdeal.nD Cert.WgOutIdeal.τ Cert.WgOutIdeal.sig) → Buf (Elt Ideal) ℓ) (g : Dev Cert.WgOutIdeal.nD → PrngReg)
    (m' : (ℓ : Loc Cert.WgOutRefIdeal.nD Cert.WgOutRefIdeal.τ Cert.WgOutRefIdeal.sig) → Buf (Elt Ideal) ℓ) (g' : Dev Cert.WgOutRefIdeal.nD → PrngReg), Pre_WgOutIdeal m →
    (∀ c : Dev Cert.WgOutIdeal.nD,
      m' ((c.tc : Thread Cert.WgOutRefIdeal.nD Cert.WgOutRefIdeal.τ).loc Cert.WgOutRefIdeal.main_arg0) = m ((c.tc : Thread Cert.WgOutIdeal.nD Cert.WgOutIdeal.τ).loc Cert.WgOutIdeal.main_arg0)
      ∧ m' ((c.tc : Thread Cert.WgOutRefIdeal.nD Cert.WgOutRefIdeal.τ).loc Cert.WgOutRefIdeal.main_arg1) = m ((c.tc : Thread Cert.WgOutIdeal.nD Cert.WgOutIdeal.τ).loc Cert.WgOutIdeal.main_arg1)
      ∧ m' ((c.tc : Thread Cert.WgOutRefIdeal.nD Cert.WgOutRefIdeal.τ).loc Cert.WgOutRefIdeal.main_arg2) = m ((c.tc : Thread Cert.WgOutIdeal.nD Cert.WgOutIdeal.τ).loc Cert.WgOutIdeal.main_arg2)) →
    ∃ (v0 : (c : Dev Cert.WgOutIdeal.nD) → Buf (Elt Ideal) ((c.tc : Thread Cert.WgOutIdeal.nD Cert.WgOutIdeal.τ).loc Cert.WgOutIdeal.main_v1)),
      θ_run (Cert.WgOutIdeal.defs (F := Ideal)) (onTc (τ := Cert.WgOutIdeal.τ) (Cert.WgOutIdeal.main (F := Ideal))) ⟨m, fun _ => 0, g⟩ (fun r => ∀ c : Dev Cert.WgOutIdeal.nD,
          r.2.mem ((c.tc : Thread Cert.WgOutIdeal.nD Cert.WgOutIdeal.τ).loc Cert.WgOutIdeal.main_v1) = v0 c
          ∧ r.2.mem ((c.tc : Thread Cert.WgOutIdeal.nD Cert.WgOutIdeal.τ).loc Cert.WgOutIdeal.main_arg0) = m ((c.tc : Thread Cert.WgOutIdeal.nD Cert.WgOutIdeal.τ).loc Cert.WgOutIdeal.main_arg0)
          ∧ r.2.mem ((c.tc : Thread Cert.WgOutIdeal.nD Cert.WgOutIdeal.τ).loc Cert.WgOutIdeal.main_arg1) = m ((c.tc : Thread Cert.WgOutIdeal.nD Cert.WgOutIdeal.τ).loc Cert.WgOutIdeal.main_arg1)
          ∧ r.2.mem ((c.tc : Thread Cert.WgOutIdeal.nD Cert.WgOutIdeal.τ).loc Cert.WgOutIdeal.main_arg2) = m ((c.tc : Thread Cert.WgOutIdeal.nD Cert.WgOutIdeal.τ).loc Cert.WgOutIdeal.main_arg2))
      ∧ θ_run (Cert.WgOutRefIdeal.defs (F := Ideal)) (onTc (τ := Cert.WgOutRefIdeal.τ) (Cert.WgOutRefIdeal.main (F := Ideal))) ⟨m', fun _ => 0, g'⟩ (fun r => ∀ c : Dev Cert.WgOutRefIdeal.nD,
          r.2.mem ((c.tc : Thread Cert.WgOutRefIdeal.nD Cert.WgOutRefIdeal.τ).loc Cert.WgOutRefIdeal.main_v6) = v0 c
          ∧ r.2.mem ((c.tc : Thread Cert.WgOutRefIdeal.nD Cert.WgOutRefIdeal.τ).loc Cert.WgOutRefIdeal.main_arg0) = m' ((c.tc : Thread Cert.WgOutRefIdeal.nD Cert.WgOutRefIdeal.τ).loc Cert.WgOutRefIdeal.main_arg0)
          ∧ r.2.mem ((c.tc : Thread Cert.WgOutRefIdeal.nD Cert.WgOutRefIdeal.τ).loc Cert.WgOutRefIdeal.main_arg1) = m' ((c.tc : Thread Cert.WgOutRefIdeal.nD Cert.WgOutRefIdeal.τ).loc Cert.WgOutRefIdeal.main_arg1)
          ∧ r.2.mem ((c.tc : Thread Cert.WgOutRefIdeal.nD Cert.WgOutRefIdeal.τ).loc Cert.WgOutRefIdeal.main_arg2) = m' ((c.tc : Thread Cert.WgOutRefIdeal.nD Cert.WgOutRefIdeal.τ).loc Cert.WgOutRefIdeal.main_arg2))

def preserves_WgMix_WgMixIdeal : Prop :=
  True

def algebraic_WgMixIdeal_WgMixRefIdeal [hWgMixIdeal : Cert.WgMixIdeal.Facts] [hWgMixRefIdeal : Cert.WgMixRefIdeal.Facts] : Prop :=
  ∀ (m : (ℓ : Loc Cert.WgMixIdeal.nD Cert.WgMixIdeal.τ Cert.WgMixIdeal.sig) → Buf (Elt Ideal) ℓ) (g : Dev Cert.WgMixIdeal.nD → PrngReg)
    (m' : (ℓ : Loc Cert.WgMixRefIdeal.nD Cert.WgMixRefIdeal.τ Cert.WgMixRefIdeal.sig) → Buf (Elt Ideal) ℓ) (g' : Dev Cert.WgMixRefIdeal.nD → PrngReg), Pre_WgMixIdeal m →
    (∀ c : Dev Cert.WgMixIdeal.nD,
      m' ((c.tc : Thread Cert.WgMixRefIdeal.nD Cert.WgMixRefIdeal.τ).loc Cert.WgMixRefIdeal.main_arg0) = m ((c.tc : Thread Cert.WgMixIdeal.nD Cert.WgMixIdeal.τ).loc Cert.WgMixIdeal.main_arg0)
      ∧ m' ((c.tc : Thread Cert.WgMixRefIdeal.nD Cert.WgMixRefIdeal.τ).loc Cert.WgMixRefIdeal.main_arg1) = m ((c.tc : Thread Cert.WgMixIdeal.nD Cert.WgMixIdeal.τ).loc Cert.WgMixIdeal.main_arg1)
      ∧ m' ((c.tc : Thread Cert.WgMixRefIdeal.nD Cert.WgMixRefIdeal.τ).loc Cert.WgMixRefIdeal.main_arg2) = m ((c.tc : Thread Cert.WgMixIdeal.nD Cert.WgMixIdeal.τ).loc Cert.WgMixIdeal.main_arg2)) →
    ∃ (v0 : (c : Dev Cert.WgMixIdeal.nD) → Buf (Elt Ideal) ((c.tc : Thread Cert.WgMixIdeal.nD Cert.WgMixIdeal.τ).loc Cert.WgMixIdeal.main_v1)),
      θ_run (Cert.WgMixIdeal.defs (F := Ideal)) (onTc (τ := Cert.WgMixIdeal.τ) (Cert.WgMixIdeal.main (F := Ideal))) ⟨m, fun _ => 0, g⟩ (fun r => ∀ c : Dev Cert.WgMixIdeal.nD,
          r.2.mem ((c.tc : Thread Cert.WgMixIdeal.nD Cert.WgMixIdeal.τ).loc Cert.WgMixIdeal.main_v1) = v0 c
          ∧ r.2.mem ((c.tc : Thread Cert.WgMixIdeal.nD Cert.WgMixIdeal.τ).loc Cert.WgMixIdeal.main_arg0) = m ((c.tc : Thread Cert.WgMixIdeal.nD Cert.WgMixIdeal.τ).loc Cert.WgMixIdeal.main_arg0)
          ∧ r.2.mem ((c.tc : Thread Cert.WgMixIdeal.nD Cert.WgMixIdeal.τ).loc Cert.WgMixIdeal.main_arg1) = m ((c.tc : Thread Cert.WgMixIdeal.nD Cert.WgMixIdeal.τ).loc Cert.WgMixIdeal.main_arg1)
          ∧ r.2.mem ((c.tc : Thread Cert.WgMixIdeal.nD Cert.WgMixIdeal.τ).loc Cert.WgMixIdeal.main_arg2) = m ((c.tc : Thread Cert.WgMixIdeal.nD Cert.WgMixIdeal.τ).loc Cert.WgMixIdeal.main_arg2))
      ∧ θ_run (Cert.WgMixRefIdeal.defs (F := Ideal)) (onTc (τ := Cert.WgMixRefIdeal.τ) (Cert.WgMixRefIdeal.main (F := Ideal))) ⟨m', fun _ => 0, g'⟩ (fun r => ∀ c : Dev Cert.WgMixRefIdeal.nD,
          r.2.mem ((c.tc : Thread Cert.WgMixRefIdeal.nD Cert.WgMixRefIdeal.τ).loc Cert.WgMixRefIdeal.main_v7) = v0 c
          ∧ r.2.mem ((c.tc : Thread Cert.WgMixRefIdeal.nD Cert.WgMixRefIdeal.τ).loc Cert.WgMixRefIdeal.main_arg0) = m' ((c.tc : Thread Cert.WgMixRefIdeal.nD Cert.WgMixRefIdeal.τ).loc Cert.WgMixRefIdeal.main_arg0)
          ∧ r.2.mem ((c.tc : Thread Cert.WgMixRefIdeal.nD Cert.WgMixRefIdeal.τ).loc Cert.WgMixRefIdeal.main_arg1) = m' ((c.tc : Thread Cert.WgMixRefIdeal.nD Cert.WgMixRefIdeal.τ).loc Cert.WgMixRefIdeal.main_arg1)
          ∧ r.2.mem ((c.tc : Thread Cert.WgMixRefIdeal.nD Cert.WgMixRefIdeal.τ).loc Cert.WgMixRefIdeal.main_arg2) = m' ((c.tc : Thread Cert.WgMixRefIdeal.nD Cert.WgMixRefIdeal.τ).loc Cert.WgMixRefIdeal.main_arg2))

def preserves_FfnDown_FfnDownIdeal : Prop :=
  True

def algebraic_FfnDownIdeal_FfnDownRefIdeal_pre_ffn_down_finite [hFfnDownIdeal : Cert.FfnDownIdeal.Facts] [hFfnDownRefIdeal : Cert.FfnDownRefIdeal.Facts] [hPre_ffn_down_finite : Cert.Pre_ffn_down_finite.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal_ffn_down_finite m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v1_0)) (v1 : (c : Dev Cert.FfnDownIdeal.nD) → Buf (Elt Ideal) ((c.tc : Thread Cert.FfnDownIdeal.nD Cert.FfnDownIdeal.τ).loc Cert.FfnDownIdeal.main_v1_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1_0) = v0 c
          ∧ r.2.mem ((c.tc : Thread Cert.FfnDownIdeal.nD Cert.FfnDownIdeal.τ).loc Cert.FfnDownIdeal.main_v1_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v9) = v0 c
          ∧ r.2.mem ((c.tc : Thread Cert.FfnDownRefIdeal.nD Cert.FfnDownRefIdeal.τ).loc Cert.FfnDownRefIdeal.main_v10) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_FfnNorm_FfnNormIdeal : Prop :=
  True

def algebraic_FfnNormIdeal_FfnNormRefIdeal [hFfnNormIdeal : Cert.FfnNormIdeal.Facts] [hFfnNormRefIdeal : Cert.FfnNormRefIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)
      ∧ m' ((c.tc : Thread Cert.FfnNormRefIdeal.nD Cert.FfnNormRefIdeal.τ).loc Cert.FfnNormRefIdeal.main_arg2) = m ((c.tc : Thread Cert.FfnNormIdeal.nD Cert.FfnNormIdeal.τ).loc Cert.FfnNormIdeal.main_arg2)
      ∧ m' ((c.tc : Thread Cert.FfnNormRefIdeal.nD Cert.FfnNormRefIdeal.τ).loc Cert.FfnNormRefIdeal.main_arg3) = m ((c.tc : Thread Cert.FfnNormIdeal.nD Cert.FfnNormIdeal.τ).loc Cert.FfnNormIdeal.main_arg3)
      ∧ m' ((c.tc : Thread Cert.FfnNormRefIdeal.nD Cert.FfnNormRefIdeal.τ).loc Cert.FfnNormRefIdeal.main_arg4) = m ((c.tc : Thread Cert.FfnNormIdeal.nD Cert.FfnNormIdeal.τ).loc Cert.FfnNormIdeal.main_arg4)
      ∧ m' ((c.tc : Thread Cert.FfnNormRefIdeal.nD Cert.FfnNormRefIdeal.τ).loc Cert.FfnNormRefIdeal.main_arg5) = m ((c.tc : Thread Cert.FfnNormIdeal.nD Cert.FfnNormIdeal.τ).loc Cert.FfnNormIdeal.main_arg5)
      ∧ m' ((c.tc : Thread Cert.FfnNormRefIdeal.nD Cert.FfnNormRefIdeal.τ).loc Cert.FfnNormRefIdeal.main_arg6) = m ((c.tc : Thread Cert.FfnNormIdeal.nD Cert.FfnNormIdeal.τ).loc Cert.FfnNormIdeal.main_arg6)) →
    ∃ (v0 : (c : Dev Cert.FfnNormIdeal.nD) → Buf (Elt Ideal) ((c.tc : Thread Cert.FfnNormIdeal.nD Cert.FfnNormIdeal.τ).loc Cert.FfnNormIdeal.main_v4_0)) (v1 : (c : Dev Cert.FfnNormIdeal.nD) → Buf (Elt Ideal) ((c.tc : Thread Cert.FfnNormIdeal.nD Cert.FfnNormIdeal.τ).loc Cert.FfnNormIdeal.main_v4_1)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v4_0) = v0 c
          ∧ r.2.mem ((c.tc : Thread Cert.FfnNormIdeal.nD Cert.FfnNormIdeal.τ).loc Cert.FfnNormIdeal.main_v4_1) = v1 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
          ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
          ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4)
          ∧ r.2.mem ((c.tc : Thread Cert.FfnNormIdeal.nD Cert.FfnNormIdeal.τ).loc Cert.FfnNormIdeal.main_arg5) = m ((c.tc : Thread Cert.FfnNormIdeal.nD Cert.FfnNormIdeal.τ).loc Cert.FfnNormIdeal.main_arg5)
          ∧ r.2.mem ((c.tc : Thread Cert.FfnNormIdeal.nD Cert.FfnNormIdeal.τ).loc Cert.FfnNormIdeal.main_arg6) = m ((c.tc : Thread Cert.FfnNormIdeal.nD Cert.FfnNormIdeal.τ).loc Cert.FfnNormIdeal.main_arg6))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v44) = v0 c
          ∧ r.2.mem ((c.tc : Thread Cert.FfnNormRefIdeal.nD Cert.FfnNormRefIdeal.τ).loc Cert.FfnNormRefIdeal.main_v45) = v1 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1)
          ∧ r.2.mem ((c.tc : Thread Cert.FfnNormRefIdeal.nD Cert.FfnNormRefIdeal.τ).loc Cert.FfnNormRefIdeal.main_arg2) = m' ((c.tc : Thread Cert.FfnNormRefIdeal.nD Cert.FfnNormRefIdeal.τ).loc Cert.FfnNormRefIdeal.main_arg2)
          ∧ r.2.mem ((c.tc : Thread Cert.FfnNormRefIdeal.nD Cert.FfnNormRefIdeal.τ).loc Cert.FfnNormRefIdeal.main_arg3) = m' ((c.tc : Thread Cert.FfnNormRefIdeal.nD Cert.FfnNormRefIdeal.τ).loc Cert.FfnNormRefIdeal.main_arg3)
          ∧ r.2.mem ((c.tc : Thread Cert.FfnNormRefIdeal.nD Cert.FfnNormRefIdeal.τ).loc Cert.FfnNormRefIdeal.main_arg4) = m' ((c.tc : Thread Cert.FfnNormRefIdeal.nD Cert.FfnNormRefIdeal.τ).loc Cert.FfnNormRefIdeal.main_arg4)
          ∧ r.2.mem ((c.tc : Thread Cert.FfnNormRefIdeal.nD Cert.FfnNormRefIdeal.τ).loc Cert.FfnNormRefIdeal.main_arg5) = m' ((c.tc : Thread Cert.FfnNormRefIdeal.nD Cert.FfnNormRefIdeal.τ).loc Cert.FfnNormRefIdeal.main_arg5)
          ∧ r.2.mem ((c.tc : Thread Cert.FfnNormRefIdeal.nD Cert.FfnNormRefIdeal.τ).loc Cert.FfnNormRefIdeal.main_arg6) = m' ((c.tc : Thread Cert.FfnNormRefIdeal.nD Cert.FfnNormRefIdeal.τ).loc Cert.FfnNormRefIdeal.main_arg6))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)) (v2 : (c : Dev Cert.FfnUpIdeal.nD) → Buf (Elt Ideal) ((c.tc : Thread Cert.FfnUpIdeal.nD Cert.FfnUpIdeal.τ).loc Cert.FfnUpIdeal.main_v4_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_v4_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v3) = v0 c
          ∧ r.2.mem ((c.tc : Thread Cert.FfnUpRefIdeal.nD Cert.FfnUpRefIdeal.τ).loc Cert.FfnUpRefIdeal.main_v4) = v1 c
          ∧ r.2.mem ((c.tc : Thread Cert.FfnUpRefIdeal.nD Cert.FfnUpRefIdeal.τ).loc Cert.FfnUpRefIdeal.main_v7) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_ProjBwd_ProjBwdIdeal : Prop :=
  True

def algebraic_ProjBwdIdeal_ProjBwdRefIdeal [hProjBwdIdeal : Cert.ProjBwdIdeal.Facts] [hProjBwdRefIdeal : Cert.ProjBwdRefIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)
      ∧ m' ((c.tc : Thread Cert.ProjBwdRefIdeal.nD Cert.ProjBwdRefIdeal.τ).loc Cert.ProjBwdRefIdeal.main_arg2) = m ((c.tc : Thread Cert.ProjBwdIdeal.nD Cert.ProjBwdIdeal.τ).loc Cert.ProjBwdIdeal.main_arg2)
      ∧ m' ((c.tc : Thread Cert.ProjBwdRefIdeal.nD Cert.ProjBwdRefIdeal.τ).loc Cert.ProjBwdRefIdeal.main_arg3) = m ((c.tc : Thread Cert.ProjBwdIdeal.nD Cert.ProjBwdIdeal.τ).loc Cert.ProjBwdIdeal.main_arg3)
      ∧ m' ((c.tc : Thread Cert.ProjBwdRefIdeal.nD Cert.ProjBwdRefIdeal.τ).loc Cert.ProjBwdRefIdeal.main_arg4) = m ((c.tc : Thread Cert.ProjBwdIdeal.nD Cert.ProjBwdIdeal.τ).loc Cert.ProjBwdIdeal.main_arg4)
      ∧ m' ((c.tc : Thread Cert.ProjBwdRefIdeal.nD Cert.ProjBwdRefIdeal.τ).loc Cert.ProjBwdRefIdeal.main_arg5) = m ((c.tc : Thread Cert.ProjBwdIdeal.nD Cert.ProjBwdIdeal.τ).loc Cert.ProjBwdIdeal.main_arg5)) →
    ∃ (v0 : (c : Dev Cert.ProjBwdIdeal.nD) → Buf (Elt Ideal) ((c.tc : Thread Cert.ProjBwdIdeal.nD Cert.ProjBwdIdeal.τ).loc Cert.ProjBwdIdeal.main_v5_0)) (v1 : (c : Dev Cert.ProjBwdIdeal.nD) → Buf (Elt Ideal) ((c.tc : Thread Cert.ProjBwdIdeal.nD Cert.ProjBwdIdeal.τ).loc Cert.ProjBwdIdeal.main_v5_1)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v5_0) = v0 c
          ∧ r.2.mem ((c.tc : Thread Cert.ProjBwdIdeal.nD Cert.ProjBwdIdeal.τ).loc Cert.ProjBwdIdeal.main_v5_1) = v1 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
          ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v46) = v0 c
          ∧ r.2.mem ((c.tc : Thread Cert.ProjBwdRefIdeal.nD Cert.ProjBwdRefIdeal.τ).loc Cert.ProjBwdRefIdeal.main_v47) = v1 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1)
          ∧ r.2.mem ((c.tc : Thread Cert.ProjBwdRefIdeal.nD Cert.ProjBwdRefIdeal.τ).loc Cert.ProjBwdRefIdeal.main_arg2) = m' ((c.tc : Thread Cert.ProjBwdRefIdeal.nD Cert.ProjBwdRefIdeal.τ).loc Cert.ProjBwdRefIdeal.main_arg2)
          ∧ r.2.mem ((c.tc : Thread Cert.ProjBwdRefIdeal.nD Cert.ProjBwdRefIdeal.τ).loc Cert.ProjBwdRefIdeal.main_arg3) = m' ((c.tc : Thread Cert.ProjBwdRefIdeal.nD Cert.ProjBwdRefIdeal.τ).loc Cert.ProjBwdRefIdeal.main_arg3)
          ∧ r.2.mem ((c.tc : Thread Cert.ProjBwdRefIdeal.nD Cert.ProjBwdRefIdeal.τ).loc Cert.ProjBwdRefIdeal.main_arg4) = m' ((c.tc : Thread Cert.ProjBwdRefIdeal.nD Cert.ProjBwdRefIdeal.τ).loc Cert.ProjBwdRefIdeal.main_arg4)
          ∧ r.2.mem ((c.tc : Thread Cert.ProjBwdRefIdeal.nD Cert.ProjBwdRefIdeal.τ).loc Cert.ProjBwdRefIdeal.main_arg5) = m' ((c.tc : Thread Cert.ProjBwdRefIdeal.nD Cert.ProjBwdRefIdeal.τ).loc Cert.ProjBwdRefIdeal.main_arg5))

def preserves_ProjNear_ProjNearIdeal : Prop :=
  True

def algebraic_ProjNearIdeal_ProjNearRefIdeal [hProjNearIdeal : Cert.ProjNearIdeal.Facts] [hProjNearRefIdeal : Cert.ProjNearRefIdeal.Facts] : Prop :=
  ∀ (m : (ℓ : Loc Cert.ProjNearIdeal.nD Cert.ProjNearIdeal.τ Cert.ProjNearIdeal.sig) → Buf (Elt Ideal) ℓ) (g : Dev Cert.ProjNearIdeal.nD → PrngReg)
    (m' : (ℓ : Loc Cert.ProjNearRefIdeal.nD Cert.ProjNearRefIdeal.τ Cert.ProjNearRefIdeal.sig) → Buf (Elt Ideal) ℓ) (g' : Dev Cert.ProjNearRefIdeal.nD → PrngReg), Pre_ProjNearIdeal m →
    (∀ c : Dev Cert.ProjNearIdeal.nD,
      m' ((c.tc : Thread Cert.ProjNearRefIdeal.nD Cert.ProjNearRefIdeal.τ).loc Cert.ProjNearRefIdeal.main_arg0) = m ((c.tc : Thread Cert.ProjNearIdeal.nD Cert.ProjNearIdeal.τ).loc Cert.ProjNearIdeal.main_arg0)
      ∧ m' ((c.tc : Thread Cert.ProjNearRefIdeal.nD Cert.ProjNearRefIdeal.τ).loc Cert.ProjNearRefIdeal.main_arg1) = m ((c.tc : Thread Cert.ProjNearIdeal.nD Cert.ProjNearIdeal.τ).loc Cert.ProjNearIdeal.main_arg1)
      ∧ m' ((c.tc : Thread Cert.ProjNearRefIdeal.nD Cert.ProjNearRefIdeal.τ).loc Cert.ProjNearRefIdeal.main_arg2) = m ((c.tc : Thread Cert.ProjNearIdeal.nD Cert.ProjNearIdeal.τ).loc Cert.ProjNearIdeal.main_arg2)) →
    ∃ (v0 : (c : Dev Cert.ProjNearIdeal.nD) → Buf (Elt Ideal) ((c.tc : Thread Cert.ProjNearIdeal.nD Cert.ProjNearIdeal.τ).loc Cert.ProjNearIdeal.main_v3)),
      θ_run (Cert.ProjNearIdeal.defs (F := Ideal)) (onTc (τ := Cert.ProjNearIdeal.τ) (Cert.ProjNearIdeal.main (F := Ideal))) ⟨m, fun _ => 0, g⟩ (fun r => ∀ c : Dev Cert.ProjNearIdeal.nD,
          r.2.mem ((c.tc : Thread Cert.ProjNearIdeal.nD Cert.ProjNearIdeal.τ).loc Cert.ProjNearIdeal.main_v3) = v0 c
          ∧ r.2.mem ((c.tc : Thread Cert.ProjNearIdeal.nD Cert.ProjNearIdeal.τ).loc Cert.ProjNearIdeal.main_arg0) = m ((c.tc : Thread Cert.ProjNearIdeal.nD Cert.ProjNearIdeal.τ).loc Cert.ProjNearIdeal.main_arg0)
          ∧ r.2.mem ((c.tc : Thread Cert.ProjNearIdeal.nD Cert.ProjNearIdeal.τ).loc Cert.ProjNearIdeal.main_arg1) = m ((c.tc : Thread Cert.ProjNearIdeal.nD Cert.ProjNearIdeal.τ).loc Cert.ProjNearIdeal.main_arg1)
          ∧ r.2.mem ((c.tc : Thread Cert.ProjNearIdeal.nD Cert.ProjNearIdeal.τ).loc Cert.ProjNearIdeal.main_arg2) = m ((c.tc : Thread Cert.ProjNearIdeal.nD Cert.ProjNearIdeal.τ).loc Cert.ProjNearIdeal.main_arg2))
      ∧ θ_run (Cert.ProjNearRefIdeal.defs (F := Ideal)) (onTc (τ := Cert.ProjNearRefIdeal.τ) (Cert.ProjNearRefIdeal.main (F := Ideal))) ⟨m', fun _ => 0, g'⟩ (fun r => ∀ c : Dev Cert.ProjNearRefIdeal.nD,
          r.2.mem ((c.tc : Thread Cert.ProjNearRefIdeal.nD Cert.ProjNearRefIdeal.τ).loc Cert.ProjNearRefIdeal.main_v8) = v0 c
          ∧ r.2.mem ((c.tc : Thread Cert.ProjNearRefIdeal.nD Cert.ProjNearRefIdeal.τ).loc Cert.ProjNearRefIdeal.main_arg0) = m' ((c.tc : Thread Cert.ProjNearRefIdeal.nD Cert.ProjNearRefIdeal.τ).loc Cert.ProjNearRefIdeal.main_arg0)
          ∧ r.2.mem ((c.tc : Thread Cert.ProjNearRefIdeal.nD Cert.ProjNearRefIdeal.τ).loc Cert.ProjNearRefIdeal.main_arg1) = m' ((c.tc : Thread Cert.ProjNearRefIdeal.nD Cert.ProjNearRefIdeal.τ).loc Cert.ProjNearRefIdeal.main_arg1)
          ∧ r.2.mem ((c.tc : Thread Cert.ProjNearRefIdeal.nD Cert.ProjNearRefIdeal.τ).loc Cert.ProjNearRefIdeal.main_arg2) = m' ((c.tc : Thread Cert.ProjNearRefIdeal.nD Cert.ProjNearRefIdeal.τ).loc Cert.ProjNearRefIdeal.main_arg2))

def preserves_ProjFar_ProjFarIdeal : Prop :=
  True

def algebraic_ProjFarIdeal_ProjFarRefIdeal [hProjFarIdeal : Cert.ProjFarIdeal.Facts] [hProjFarRefIdeal : Cert.ProjFarRefIdeal.Facts] : Prop :=
  ∀ (m : (ℓ : Loc Cert.ProjFarIdeal.nD Cert.ProjFarIdeal.τ Cert.ProjFarIdeal.sig) → Buf (Elt Ideal) ℓ) (g : Dev Cert.ProjFarIdeal.nD → PrngReg)
    (m' : (ℓ : Loc Cert.ProjFarRefIdeal.nD Cert.ProjFarRefIdeal.τ Cert.ProjFarRefIdeal.sig) → Buf (Elt Ideal) ℓ) (g' : Dev Cert.ProjFarRefIdeal.nD → PrngReg), Pre_ProjFarIdeal m →
    (∀ c : Dev Cert.ProjFarIdeal.nD,
      m' ((c.tc : Thread Cert.ProjFarRefIdeal.nD Cert.ProjFarRefIdeal.τ).loc Cert.ProjFarRefIdeal.main_arg0) = m ((c.tc : Thread Cert.ProjFarIdeal.nD Cert.ProjFarIdeal.τ).loc Cert.ProjFarIdeal.main_arg0)
      ∧ m' ((c.tc : Thread Cert.ProjFarRefIdeal.nD Cert.ProjFarRefIdeal.τ).loc Cert.ProjFarRefIdeal.main_arg1) = m ((c.tc : Thread Cert.ProjFarIdeal.nD Cert.ProjFarIdeal.τ).loc Cert.ProjFarIdeal.main_arg1)
      ∧ m' ((c.tc : Thread Cert.ProjFarRefIdeal.nD Cert.ProjFarRefIdeal.τ).loc Cert.ProjFarRefIdeal.main_arg2) = m ((c.tc : Thread Cert.ProjFarIdeal.nD Cert.ProjFarIdeal.τ).loc Cert.ProjFarIdeal.main_arg2)) →
    ∃ (v0 : (c : Dev Cert.ProjFarIdeal.nD) → Buf (Elt Ideal) ((c.tc : Thread Cert.ProjFarIdeal.nD Cert.ProjFarIdeal.τ).loc Cert.ProjFarIdeal.main_v4)),
      θ_run (Cert.ProjFarIdeal.defs (F := Ideal)) (onTc (τ := Cert.ProjFarIdeal.τ) (Cert.ProjFarIdeal.main (F := Ideal))) ⟨m, fun _ => 0, g⟩ (fun r => ∀ c : Dev Cert.ProjFarIdeal.nD,
          r.2.mem ((c.tc : Thread Cert.ProjFarIdeal.nD Cert.ProjFarIdeal.τ).loc Cert.ProjFarIdeal.main_v4) = v0 c
          ∧ r.2.mem ((c.tc : Thread Cert.ProjFarIdeal.nD Cert.ProjFarIdeal.τ).loc Cert.ProjFarIdeal.main_arg0) = m ((c.tc : Thread Cert.ProjFarIdeal.nD Cert.ProjFarIdeal.τ).loc Cert.ProjFarIdeal.main_arg0)
          ∧ r.2.mem ((c.tc : Thread Cert.ProjFarIdeal.nD Cert.ProjFarIdeal.τ).loc Cert.ProjFarIdeal.main_arg1) = m ((c.tc : Thread Cert.ProjFarIdeal.nD Cert.ProjFarIdeal.τ).loc Cert.ProjFarIdeal.main_arg1)
          ∧ r.2.mem ((c.tc : Thread Cert.ProjFarIdeal.nD Cert.ProjFarIdeal.τ).loc Cert.ProjFarIdeal.main_arg2) = m ((c.tc : Thread Cert.ProjFarIdeal.nD Cert.ProjFarIdeal.τ).loc Cert.ProjFarIdeal.main_arg2))
      ∧ θ_run (Cert.ProjFarRefIdeal.defs (F := Ideal)) (onTc (τ := Cert.ProjFarRefIdeal.τ) (Cert.ProjFarRefIdeal.main (F := Ideal))) ⟨m', fun _ => 0, g'⟩ (fun r => ∀ c : Dev Cert.ProjFarRefIdeal.nD,
          r.2.mem ((c.tc : Thread Cert.ProjFarRefIdeal.nD Cert.ProjFarRefIdeal.τ).loc Cert.ProjFarRefIdeal.main_v7) = v0 c
          ∧ r.2.mem ((c.tc : Thread Cert.ProjFarRefIdeal.nD Cert.ProjFarRefIdeal.τ).loc Cert.ProjFarRefIdeal.main_arg0) = m' ((c.tc : Thread Cert.ProjFarRefIdeal.nD Cert.ProjFarRefIdeal.τ).loc Cert.ProjFarRefIdeal.main_arg0)
          ∧ r.2.mem ((c.tc : Thread Cert.ProjFarRefIdeal.nD Cert.ProjFarRefIdeal.τ).loc Cert.ProjFarRefIdeal.main_arg1) = m' ((c.tc : Thread Cert.ProjFarRefIdeal.nD Cert.ProjFarRefIdeal.τ).loc Cert.ProjFarRefIdeal.main_arg1)
          ∧ r.2.mem ((c.tc : Thread Cert.ProjFarRefIdeal.nD Cert.ProjFarRefIdeal.τ).loc Cert.ProjFarRefIdeal.main_arg2) = m' ((c.tc : Thread Cert.ProjFarRefIdeal.nD Cert.ProjFarRefIdeal.τ).loc Cert.ProjFarRefIdeal.main_arg2))

def preserves_FfnLoss_FfnLossIdeal : Prop :=
  True

def algebraic_FfnLossIdeal_FfnLossRefIdeal [hFfnLossIdeal : Cert.FfnLossIdeal.Facts] [hFfnLossRefIdeal : Cert.FfnLossRefIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)
      ∧ m' ((c.tc : Thread Cert.FfnLossRefIdeal.nD Cert.FfnLossRefIdeal.τ).loc Cert.FfnLossRefIdeal.main_arg4) = m ((c.tc : Thread Cert.FfnLossIdeal.nD Cert.FfnLossIdeal.τ).loc Cert.FfnLossIdeal.main_arg4)) →
    ∃ (v0 : (c : Dev Cert.FfnLossIdeal.nD) → Buf (Elt Ideal) ((c.tc : Thread Cert.FfnLossIdeal.nD Cert.FfnLossIdeal.τ).loc Cert.FfnLossIdeal.main_v1_0)) (v1 : (c : Dev Cert.FfnLossIdeal.nD) → Buf (Elt Ideal) ((c.tc : Thread Cert.FfnLossIdeal.nD Cert.FfnLossIdeal.τ).loc Cert.FfnLossIdeal.main_v1_1)) (v2 : (c : Dev Cert.FfnLossIdeal.nD) → Buf (Elt Ideal) ((c.tc : Thread Cert.FfnLossIdeal.nD Cert.FfnLossIdeal.τ).loc Cert.FfnLossIdeal.main_v1_2)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v1_0) = v0 c
          ∧ r.2.mem ((c.tc : Thread Cert.FfnLossIdeal.nD Cert.FfnLossIdeal.τ).loc Cert.FfnLossIdeal.main_v1_1) = v1 c
          ∧ r.2.mem ((c.tc : Thread Cert.FfnLossIdeal.nD Cert.FfnLossIdeal.τ).loc Cert.FfnLossIdeal.main_v1_2) = v2 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v54) = v0 c
          ∧ r.2.mem ((c.tc : Thread Cert.FfnLossRefIdeal.nD Cert.FfnLossRefIdeal.τ).loc Cert.FfnLossRefIdeal.main_v55) = v1 c
          ∧ r.2.mem ((c.tc : Thread Cert.FfnLossRefIdeal.nD Cert.FfnLossRefIdeal.τ).loc Cert.FfnLossRefIdeal.main_v56) = v2 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3)
          ∧ r.2.mem ((c.tc : Thread Cert.FfnLossRefIdeal.nD Cert.FfnLossRefIdeal.τ).loc Cert.FfnLossRefIdeal.main_arg4) = m' ((c.tc : Thread Cert.FfnLossRefIdeal.nD Cert.FfnLossRefIdeal.τ).loc Cert.FfnLossRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v2_0)) (v1 : (c : Dev Cert.MergeIdeal.nD) → Buf (Elt Ideal) ((c.tc : Thread Cert.MergeIdeal.nD Cert.MergeIdeal.τ).loc Cert.MergeIdeal.main_v2_1)) (v2 : (c : Dev Cert.MergeIdeal.nD) → Buf (Elt Ideal) ((c.tc : Thread Cert.MergeIdeal.nD Cert.MergeIdeal.τ).loc Cert.MergeIdeal.main_v2_2)) (v3 : (c : Dev Cert.MergeIdeal.nD) → Buf (Elt Ideal) ((c.tc : Thread Cert.MergeIdeal.nD Cert.MergeIdeal.τ).loc Cert.MergeIdeal.main_v2_3)) (v4 : (c : Dev Cert.MergeIdeal.nD) → Buf (Elt Ideal) ((c.tc : Thread Cert.MergeIdeal.nD Cert.MergeIdeal.τ).loc Cert.MergeIdeal.main_v2_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2_0) = v0 c
          ∧ r.2.mem ((c.tc : Thread Cert.MergeIdeal.nD Cert.MergeIdeal.τ).loc Cert.MergeIdeal.main_v2_1) = v1 c
          ∧ r.2.mem ((c.tc : Thread Cert.MergeIdeal.nD Cert.MergeIdeal.τ).loc Cert.MergeIdeal.main_v2_2) = v2 c
          ∧ r.2.mem ((c.tc : Thread Cert.MergeIdeal.nD Cert.MergeIdeal.τ).loc Cert.MergeIdeal.main_v2_3) = v3 c
          ∧ r.2.mem ((c.tc : Thread Cert.MergeIdeal.nD Cert.MergeIdeal.τ).loc Cert.MergeIdeal.main_v2_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v66) = v0 c
          ∧ r.2.mem ((c.tc : Thread Cert.MergeRefIdeal.nD Cert.MergeRefIdeal.τ).loc Cert.MergeRefIdeal.main_v67) = v1 c
          ∧ r.2.mem ((c.tc : Thread Cert.MergeRefIdeal.nD Cert.MergeRefIdeal.τ).loc Cert.MergeRefIdeal.main_v68) = v2 c
          ∧ r.2.mem ((c.tc : Thread Cert.MergeRefIdeal.nD Cert.MergeRefIdeal.τ).loc Cert.MergeRefIdeal.main_v65) = v3 c
          ∧ r.2.mem ((c.tc : Thread Cert.MergeRefIdeal.nD Cert.MergeRefIdeal.τ).loc Cert.MergeRefIdeal.main_v83) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def Claim : Prop :=
  ∃ (hAttn : Cert.Attn.Facts) (hAttnIdeal : Cert.AttnIdeal.Facts) (hAttnRefIdeal : Cert.AttnRefIdeal.Facts) (hWgDown : Cert.WgDown.Facts) (hWgDownIdeal : Cert.WgDownIdeal.Facts) (hWgDownRefIdeal : Cert.WgDownRefIdeal.Facts) (hWgUp : Cert.WgUp.Facts) (hWgUpIdeal : Cert.WgUpIdeal.Facts) (hWgUpRefIdeal : Cert.WgUpRefIdeal.Facts) (hWgOut : Cert.WgOut.Facts) (hWgOutIdeal : Cert.WgOutIdeal.Facts) (hWgOutRefIdeal : Cert.WgOutRefIdeal.Facts) (hWgMix : Cert.WgMix.Facts) (hWgMixIdeal : Cert.WgMixIdeal.Facts) (hWgMixRefIdeal : Cert.WgMixRefIdeal.Facts) (hFfnDown : Cert.FfnDown.Facts) (hFfnDownIdeal : Cert.FfnDownIdeal.Facts) (hFfnDownRefIdeal : Cert.FfnDownRefIdeal.Facts) (hFfnNorm : Cert.FfnNorm.Facts) (hFfnNormIdeal : Cert.FfnNormIdeal.Facts) (hFfnNormRefIdeal : Cert.FfnNormRefIdeal.Facts) (hFfnUp : Cert.FfnUp.Facts) (hFfnUpIdeal : Cert.FfnUpIdeal.Facts) (hFfnUpRefIdeal : Cert.FfnUpRefIdeal.Facts) (hProjBwd : Cert.ProjBwd.Facts) (hProjBwdIdeal : Cert.ProjBwdIdeal.Facts) (hProjBwdRefIdeal : Cert.ProjBwdRefIdeal.Facts) (hProjNear : Cert.ProjNear.Facts) (hProjNearIdeal : Cert.ProjNearIdeal.Facts) (hProjNearRefIdeal : Cert.ProjNearRefIdeal.Facts) (hProjFar : Cert.ProjFar.Facts) (hProjFarIdeal : Cert.ProjFarIdeal.Facts) (hProjFarRefIdeal : Cert.ProjFarRefIdeal.Facts) (hFfnLoss : Cert.FfnLoss.Facts) (hFfnLossIdeal : Cert.FfnLossIdeal.Facts) (hFfnLossRefIdeal : Cert.FfnLossRefIdeal.Facts) (hMerge : Cert.Merge.Facts) (hMergeIdeal : Cert.MergeIdeal.Facts) (hMergeRefIdeal : Cert.MergeRefIdeal.Facts) (hPre_attn_finite : Cert.Pre_attn_finite.Facts) (hPre_ffn_down_finite : Cert.Pre_ffn_down_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_WgDown (hWgDown := hWgDown)
    ∧ quiescent_WgDownIdeal (hWgDownIdeal := hWgDownIdeal)
    ∧ quiescent_WgDownRefIdeal (hWgDownRefIdeal := hWgDownRefIdeal)
    ∧ quiescent_WgUp (hWgUp := hWgUp)
    ∧ quiescent_WgUpIdeal (hWgUpIdeal := hWgUpIdeal)
    ∧ quiescent_WgUpRefIdeal (hWgUpRefIdeal := hWgUpRefIdeal)
    ∧ quiescent_WgOut (hWgOut := hWgOut)
    ∧ quiescent_WgOutIdeal (hWgOutIdeal := hWgOutIdeal)
    ∧ quiescent_WgOutRefIdeal (hWgOutRefIdeal := hWgOutRefIdeal)
    ∧ quiescent_WgMix (hWgMix := hWgMix)
    ∧ quiescent_WgMixIdeal (hWgMixIdeal := hWgMixIdeal)
    ∧ quiescent_WgMixRefIdeal (hWgMixRefIdeal := hWgMixRefIdeal)
    ∧ quiescent_FfnDown (hFfnDown := hFfnDown)
    ∧ quiescent_FfnDownIdeal (hFfnDownIdeal := hFfnDownIdeal)
    ∧ quiescent_FfnDownIdeal_pre_ffn_down_finite (hFfnDownIdeal := hFfnDownIdeal) (hPre_ffn_down_finite := hPre_ffn_down_finite)
    ∧ quiescent_FfnDownRefIdeal (hFfnDownRefIdeal := hFfnDownRefIdeal)
    ∧ quiescent_FfnDownRefIdeal_pre_ffn_down_finite (hFfnDownRefIdeal := hFfnDownRefIdeal) (hPre_ffn_down_finite := hPre_ffn_down_finite)
    ∧ quiescent_FfnNorm (hFfnNorm := hFfnNorm)
    ∧ quiescent_FfnNormIdeal (hFfnNormIdeal := hFfnNormIdeal)
    ∧ quiescent_FfnNormRefIdeal (hFfnNormRefIdeal := hFfnNormRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_ProjBwd (hProjBwd := hProjBwd)
    ∧ quiescent_ProjBwdIdeal (hProjBwdIdeal := hProjBwdIdeal)
    ∧ quiescent_ProjBwdRefIdeal (hProjBwdRefIdeal := hProjBwdRefIdeal)
    ∧ quiescent_ProjNear (hProjNear := hProjNear)
    ∧ quiescent_ProjNearIdeal (hProjNearIdeal := hProjNearIdeal)
    ∧ quiescent_ProjNearRefIdeal (hProjNearRefIdeal := hProjNearRefIdeal)
    ∧ quiescent_ProjFar (hProjFar := hProjFar)
    ∧ quiescent_ProjFarIdeal (hProjFarIdeal := hProjFarIdeal)
    ∧ quiescent_ProjFarRefIdeal (hProjFarRefIdeal := hProjFarRefIdeal)
    ∧ quiescent_FfnLoss (hFfnLoss := hFfnLoss)
    ∧ quiescent_FfnLossIdeal (hFfnLossIdeal := hFfnLossIdeal)
    ∧ quiescent_FfnLossRefIdeal (hFfnLossRefIdeal := hFfnLossRefIdeal)
    ∧ quiescent_Merge (hMerge := hMerge)
    ∧ quiescent_MergeIdeal (hMergeIdeal := hMergeIdeal)
    ∧ quiescent_MergeRefIdeal (hMergeRefIdeal := hMergeRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_WgDown_WgDownIdeal
    ∧ algebraic_WgDownIdeal_WgDownRefIdeal (hWgDownIdeal := hWgDownIdeal) (hWgDownRefIdeal := hWgDownRefIdeal)
    ∧ preserves_WgUp_WgUpIdeal
    ∧ algebraic_WgUpIdeal_WgUpRefIdeal (hWgUpIdeal := hWgUpIdeal) (hWgUpRefIdeal := hWgUpRefIdeal)
    ∧ preserves_WgOut_WgOutIdeal
    ∧ algebraic_WgOutIdeal_WgOutRefIdeal (hWgOutIdeal := hWgOutIdeal) (hWgOutRefIdeal := hWgOutRefIdeal)
    ∧ preserves_WgMix_WgMixIdeal
    ∧ algebraic_WgMixIdeal_WgMixRefIdeal (hWgMixIdeal := hWgMixIdeal) (hWgMixRefIdeal := hWgMixRefIdeal)
    ∧ preserves_FfnDown_FfnDownIdeal
    ∧ algebraic_FfnDownIdeal_FfnDownRefIdeal_pre_ffn_down_finite (hFfnDownIdeal := hFfnDownIdeal) (hFfnDownRefIdeal := hFfnDownRefIdeal) (hPre_ffn_down_finite := hPre_ffn_down_finite)
    ∧ preserves_FfnNorm_FfnNormIdeal
    ∧ algebraic_FfnNormIdeal_FfnNormRefIdeal (hFfnNormIdeal := hFfnNormIdeal) (hFfnNormRefIdeal := hFfnNormRefIdeal)
    ∧ preserves_FfnUp_FfnUpIdeal
    ∧ algebraic_FfnUpIdeal_FfnUpRefIdeal (hFfnUpIdeal := hFfnUpIdeal) (hFfnUpRefIdeal := hFfnUpRefIdeal)
    ∧ preserves_ProjBwd_ProjBwdIdeal
    ∧ algebraic_ProjBwdIdeal_ProjBwdRefIdeal (hProjBwdIdeal := hProjBwdIdeal) (hProjBwdRefIdeal := hProjBwdRefIdeal)
    ∧ preserves_ProjNear_ProjNearIdeal
    ∧ algebraic_ProjNearIdeal_ProjNearRefIdeal (hProjNearIdeal := hProjNearIdeal) (hProjNearRefIdeal := hProjNearRefIdeal)
    ∧ preserves_ProjFar_ProjFarIdeal
    ∧ algebraic_ProjFarIdeal_ProjFarRefIdeal (hProjFarIdeal := hProjFarIdeal) (hProjFarRefIdeal := hProjFarRefIdeal)
    ∧ preserves_FfnLoss_FfnLossIdeal
    ∧ algebraic_FfnLossIdeal_FfnLossRefIdeal (hFfnLossIdeal := hFfnLossIdeal) (hFfnLossRefIdeal := hFfnLossRefIdeal)
    ∧ preserves_Merge_MergeIdeal
    ∧ algebraic_MergeIdeal_MergeRefIdeal (hMergeIdeal := hMergeIdeal) (hMergeRefIdeal := hMergeRefIdeal)
-- ==== Pre_attn_finite.lean ====
abbrev S8x4096x1024 : Shape := ⟨3, ![8, 4096, 1024]⟩
abbrev S4096x1024 : Shape := ⟨2, ![4096, 1024]⟩
abbrev S1x256x1024 : Shape := ⟨3, ![1, 256, 1024]⟩
abbrev S1x1024 : Shape := ⟨2, ![1, 1024]⟩
abbrev S1x1024x2048 : Shape := ⟨3, ![1, 1024, 2048]⟩
abbrev S1x4096x1024 : Shape := ⟨3, ![1, 4096, 1024]⟩
abbrev S_ : Shape := ⟨0, ![]⟩

class Facts : Prop where
  slices_S8x4096x1024_S1x4096x1024_4_0_0 : S8x4096x1024.Slices ![4, 0, 0] S1x4096x1024
  shapeCasts_S1x4096x1024_S4096x1024 : S1x4096x1024.ShapeCasts S4096x1024
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x256x1024 : S_.BroadcastsInDim S1x256x1024 (![] : Fin 0 → Fin S1x256x1024.rank)
  reducesTo_S1x256x1024_S_d0_1_2 : S1x256x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn_part1 {F : FTy → Type} [FloatOps F] (main_v16 : IVec S_ 1) (main_v17 : FVec F S1x1024x2048 .f32) : IVec S_ 1 :=
  let main_cst_4 : FVec F S_ .f32 := constant S_ .f32 0x7F800000#32
  let main_v18 : FVec F S1x1024x2048 .f32 := broadcastInDim S1x1024x2048 ![] bcast_S_S1x1024x2048 main_cst_4
  let main_v19 : IVec S1x1024x2048 1 := cmpf .olt main_v17 main_v18
  let main_c_5 : IVec S_ 1 := constantI S_ 1 1#1
  let main_v20 : IVec S_ 1 := (fun x v => Host.reduce IntOp.andi x v reducesTo_S1x1024x2048_S_d0_1_2 h_S_) main_v19 main_c_5
  let main_v21 : IVec S_ 1 := andi main_v16 main_v20
  main_v21

def fn {F : FTy → Type} [FloatOps F] (main_arg0 : FVec F S8x4096x1024 .bf16) (main_arg1 : FVec F S8x4096x1024 .bf16) (main_arg2 : FVec F S4096x1024 .bf16) (main_arg3 : FVec F S1x256x1024 .f32) (main_arg4 : FVec F S1x1024 .f32) (main_arg5 : FVec F S1x1024x2048 .f32) : IVec S_ 1 :=
  let main_v0 : FVec F S1x4096x1024 .bf16 := (extractStridedSlice S1x4096x1024 ![4, 0, 0] · slices_S8x4096x1024_S1x4096x1024_4_0_0) main_arg1
  let main_v1 : FVec F S4096x1024 .bf16 := shapeCast S4096x1024 main_v0 shapeCasts_S1x4096x1024_S4096x1024
  let main_v2 : FVec F S4096x1024 .f32 := (extf .f32 · bitsLt_bf16_f32) main_v1
  let main_v3 : FVec F S4096x1024 .f32 := Host.absf main_v2
  let main_cst : FVec F S_ .f32 := constant S_ .f32 0x7F800000#32
  let main_v4 : FVec F S4096x1024 .f32 := broadcastInDim S4096x1024 ![] bcast_S_S4096x1024 main_cst
  let main_v5 : IVec S4096x1024 1 := cmpf .olt main_v3 main_v4
  let main_c : IVec S_ 1 := constantI S_ 1 1#1
  let main_v6 : IVec S_ 1 := (fun x v => Host.reduce IntOp.andi x v reducesTo_S4096x1024_S_d0_1 h_S_) main_v5 main_c
  let main_v7 : FVec F S1x256x1024 .f32 := Host.absf main_arg3
  let main_cst_0 : FVec F S_ .f32 := constant S_ .f32 0x7F800000#32
  let main_v8 : FVec F S1x256x1024 .f32 := broadcastInDim S1x256x1024 ![] bcast_S_S1x256x1024 main_cst_0
  let main_v9 : IVec S1x256x1024 1 := cmpf .olt main_v7 main_v8
  let main_c_1 : IVec S_ 1 := constantI S_ 1 1#1
  let main_v10 : IVec S_ 1 := (fun x v => Host.reduce IntOp.andi x v reducesTo_S1x256x1024_S_d0_1_2 h_S_) main_v9 main_c_1
  let main_v11 : IVec S_ 1 := andi main_v6 main_v10
  let main_v12 : FVec F S1x1024 .f32 := Host.absf main_arg4
  let main_cst_2 : FVec F S_ .f32 := constant S_ .f32 0x7F800000#32
  let main_v13 : FVec F S1x1024 .f32 := broadcastInDim S1x1024 ![] bcast_S_S1x1024 main_cst_2
  let main_v14 : IVec S1x1024 1 := cmpf .olt main_v12 main_v13
  let main_c_3 : IVec S_ 1 := constantI S_ 1 1#1
  let main_v15 : IVec S_ 1 := (fun x v => Host.reduce IntOp.andi x v reducesTo_S1x1024_S_d0_1 h_S_) main_v14 main_c_3
  let main_v16 : IVec S_ 1 := andi main_v11 main_v15
  let main_v17 : FVec F S1x1024x2048 .f32 := Host.absf main_arg5
  fn_part1 (F := F) main_v16 main_v17
-- ==== Pre_ffn_down_finite.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .f32) (main_arg1 : FVec F S2816x1024 .f32) (main_arg2 : FVec F S4096x2816 .bf16) (main_arg3 : FVec F S4096x2816 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x2816 .f32 := (extf .f32 · bitsLt_bf16_f32) main_arg3
  let main_v10 : FVec F S4096x2816 .f32 := Host.absf main_v9
  let main_cst_2 : FVec F S_ .f32 := constant S_ .f32 0x7F800000#32
  let main_v11 : FVec F S4096x2816 .f32 := broadcastInDim S4096x2816 ![] bcast_S_S4096x2816 main_cst_2
  let main_v12 : IVec S4096x2816 1 := cmpf .olt main_v10 main_v11
  let main_c_3 : IVec S_ 1 := constantI S_ 1 1#1
  let main_v13 : IVec S_ 1 := (fun x v => Host.reduce IntOp.andi x v reducesTo_S4096x2816_S_d0_1 h_S_) main_v12 main_c_3
  let main_v14 : IVec S_ 1 := andi main_v8 main_v13
  main_v14
-- ==== Attn.lean ====
abbrev S8x4096x1024 : Shape := ⟨3, ![8, 4096, 1024]⟩
abbrev S4096x1024 : Shape := ⟨2, ![4096, 1024]⟩
abbrev S1x256x1024 : Shape := ⟨3, ![1, 256, 1024]⟩
abbrev S1x1024 : Shape := ⟨2, ![1, 1024]⟩
abbrev S1x1024x2048 : Shape := ⟨3, ![1, 1024, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S256x8x256 : Shape := ⟨3, ![256, 8, 256]⟩
abbrev S8x256x256 : Shape := ⟨3, ![8, 256, 256]⟩
abbrev S1x1024x1024 : Shape := ⟨3, ![1, 1024, 1024]⟩
abbrev S1024x1024 : Shape := ⟨2, ![1024, 1024]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S1024 : Shape := ⟨1, ![1024]⟩
abbrev S1024x1 : Shape := ⟨2, ![1024, 1]⟩

abbrev nBuf : Space → Nat
  | .hbm => 36
  | .vmem => 14
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S4096x1024, .bf16⟩
  | .hbm, ⟨3, _⟩ => ⟨S1x256x1024, .f32⟩
  | .hbm, ⟨4, _⟩ => ⟨S1x1024, .f32⟩
  | .hbm, ⟨5, _⟩ => ⟨S1x1024x2048, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S1024x2048, .f32⟩
  | .hbm, ⟨26, _⟩ => ⟨S256x2048, .f32⟩
  | .hbm, ⟨27, _⟩ => ⟨S256x8x256, .f32⟩
  | .hbm, ⟨28, _⟩ => ⟨S8x256x256, .f32⟩
  | .hbm, ⟨29, _⟩ => ⟨S8x256x256, .bf16⟩
  | .hbm, ⟨30, _⟩ => ⟨S256x1024, .bf16⟩
  | .hbm, ⟨31, _⟩ => ⟨S8x1024x256, .bf16⟩
  | .hbm, ⟨32, _⟩ => ⟨S256x1024, .f32⟩
  | .hbm, ⟨33, _⟩ => ⟨S8x4096x1024, .bf16⟩
  | .hbm, ⟨34, _⟩ => ⟨S8x1024x256, .bf16⟩
  | .hbm, ⟨35, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x256x256, .bf16⟩
  | .local _ .vmem, ⟨5, _⟩ => ⟨S256x1024, .bf16⟩
  | .local _ .vmem, ⟨6, _⟩ => ⟨S8x1024x256, .bf16⟩
  | .local _ .vmem, ⟨7, _⟩ => ⟨S256x1024, .f32⟩
  | .local _ .vmem, ⟨8, _⟩ => ⟨S1x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S8x1024x256, .bf16⟩
  | .local _ .vmem, ⟨12, _⟩ => ⟨S1x1024, .f32⟩
  | .local _ .vmem, ⟨13, _⟩ => ⟨S8x256x256, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v207 : BitVec 1 := Scalar.cmpi .eq arg0 c3_i32
  let v208 : BitVec 32 := Scalar.extui v207
  let c0_i32_145 : BitVec 32 := 0#32
  let v209 : BitVec 1 := Scalar.cmpi .ne v208 c0_i32_145
  v209

def cc0_transform_1 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnRefIdeal.lean ====
abbrev S8x4096x1024 : Shape := ⟨3, ![8, 4096, 1024]⟩
abbrev S4096x1024 : Shape := ⟨2, ![4096, 1024]⟩
abbrev S1x256x1024 : Shape := ⟨3, ![1, 256, 1024]⟩
abbrev S1x1024 : Shape := ⟨2, ![1, 1024]⟩
abbrev S1x1024x2048 : Shape := ⟨3, ![1, 1024, 2048]⟩
abbrev S1x4096x1024 : Shape := ⟨3, ![1, 4096, 1024]⟩
abbrev S1024 : Shape := ⟨1, ![1024]⟩
abbrev S1024x2048 : Shape := ⟨2, ![1024, 2048]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S4096x4x256 : Shape := ⟨3, ![4096, 4, 256]⟩
abbrev S256x2048 : Shape := ⟨2, ![256, 2048]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S2048x1024 : Shape := ⟨2, ![2048, 1024]⟩
abbrev S3x4096x1024 : Shape := ⟨3, ![3, 4096, 1024]⟩
abbrev S4x4096x1024 : Shape := ⟨3, ![4, 4096, 1024]⟩
abbrev S1024x8x256 : Shape := ⟨3, ![1024, 8, 256]⟩
abbrev S8x1024x256 : Shape := ⟨3, ![8, 1024, 256]⟩

abbrev nBuf : Space → Nat
  | .hbm => 128
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S4096x1024, .bf16⟩
  | .hbm, ⟨3, _⟩ => ⟨S1x256x1024, .f32⟩
  | .hbm, ⟨4, _⟩ => ⟨S1x1024, .f32⟩
  | .hbm, ⟨5, _⟩ => ⟨S1x1024x2048, .f32⟩
  | .hbm, ⟨6, _⟩ => ⟨S1x4096x1024, .bf16⟩
  | .hbm, ⟨7, _⟩ => ⟨S4096x1024, .bf16⟩
  | .hbm, ⟨8, _⟩ => ⟨S4096x1024, .f32⟩
  | .hbm, ⟨9, _⟩ => ⟨S1024, .f32⟩
  | .hbm, ⟨10, _⟩ => ⟨S1024x2048, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S256x1, .f32⟩
  | .hbm, ⟨23, _⟩ => ⟨S256x1024, .f32⟩
  | .hbm, ⟨24, _⟩ => ⟨S256x1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S4096x4x256, .f32⟩
  | .hbm, ⟨29, _⟩ => ⟨S256x2048, .f32⟩
  | .hbm, ⟨30, _⟩ => ⟨S256x1024, .f32⟩
  | .hbm, ⟨31, _⟩ => ⟨S256x1024, .f32⟩
  | .hbm, ⟨32, _⟩ => ⟨S256x4x256, .f32⟩
  | .hbm, ⟨33, _⟩ => ⟨S256x4x256, .f32⟩
  | .hbm, ⟨34, _⟩ => ⟨S4x4096x256, .f32⟩
  | .hbm, ⟨35, _⟩ => ⟨S_, .f32⟩
  | .hbm, ⟨36, _⟩ => ⟨S4x4096x256, .f32⟩
  | .hbm, ⟨37, _⟩ => ⟨S4x4096x256, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .i1⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S_, .f32⟩
  | .hbm, ⟨47, _⟩ => ⟨S4x4096, .f32⟩
  | .hbm, ⟨48, _⟩ => ⟨S4x4096, .f32⟩
  | .hbm, ⟨49, _⟩ => ⟨S_, .f32⟩
  | .hbm, ⟨50, _⟩ => ⟨S4x4096, .f32⟩
  | .hbm, ⟨51, _⟩ => ⟨S4x4096, .i1⟩
  | .hbm, ⟨52, _⟩ => ⟨S_, .f32⟩
  | .hbm, ⟨53, _⟩ => ⟨S4x4096, .f32⟩
  | .hbm, ⟨54, _⟩ => ⟨S4x4096, .i1⟩
  | .hbm, ⟨55, _⟩ => ⟨S_, .f32⟩
  | .hbm, ⟨56, _⟩ => ⟨S4x4096, .f32⟩
  | .hbm, ⟨57, _⟩ => ⟨S_, .f32⟩
  | .hbm, ⟨58, _⟩ => ⟨S4x4096, .f32⟩
  | .hbm, ⟨59, _⟩ => ⟨S_, .f32⟩
  | .hbm, ⟨60, _⟩ => ⟨S4x4096, .f32⟩
  | .hbm, ⟨61, _⟩ => ⟨S4x4096, .f32⟩
  | .hbm, ⟨62, _⟩ => ⟨S4x4096, .f32⟩
  | .hbm, ⟨63, _⟩ => ⟨S4x4096x1, .f32⟩
  | .hbm, ⟨64, _⟩ => ⟨S4x4096x256, .f32⟩
  | .hbm, ⟨65, _⟩ => ⟨S4x4096x256, .f32⟩
  | .hbm, ⟨66, _⟩ => ⟨S4x4096x256, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S4x4096x256, .f32⟩
  | .hbm, ⟨71, _⟩ => ⟨S4x4096x256, .f32⟩
  | .hbm, ⟨72, _⟩ => ⟨S4x4096x1, .f32⟩
  | .hbm, ⟨73, _⟩ => ⟨S_, .f32⟩
  | .hbm, ⟨74, _⟩ => ⟨S4x4096x1, .f32⟩
  | .hbm, ⟨75, _⟩ => ⟨S4x4096x1, .f32⟩
  | .hbm, ⟨76, _⟩ => ⟨S4x256x4096, .f32⟩
  | .hbm, ⟨77, _⟩ => ⟨S4096x4x256, .f32⟩
  | .hbm, ⟨78, _⟩ => ⟨S4096x1024, .f32⟩
  | .hbm, ⟨79, _⟩ => ⟨S4096x1024, .f32⟩
  | .hbm, ⟨80, _⟩ => ⟨S4096x4x256, .f32⟩
  | .hbm, ⟨81, _⟩ => ⟨S4x256x4096, .f32⟩
  | .hbm, ⟨82, _⟩ => ⟨S4x4096x256, .f32⟩
  | .hbm, ⟨83, _⟩ => ⟨S4x256x256, .f32⟩
  | .hbm, ⟨84, _⟩ => ⟨S256x4x256, .f32⟩
  | .hbm, ⟨85, _⟩ => ⟨S4x4096x256, .f32⟩
  | .hbm, ⟨86, _⟩ => ⟨S4x4096x256, .f32⟩
  | .hbm, ⟨87, _⟩ => ⟨S4x4096x256, .f32⟩
  | .hbm, ⟨88, _⟩ => ⟨S_, .f32⟩
  | .hbm, ⟨89, _⟩ => ⟨S4x4096, .f32⟩
  | .hbm, ⟨90, _⟩ => ⟨S4x4096x1, .f32⟩
  | .hbm, ⟨91, _⟩ => ⟨S4x4096x1, .f32⟩
  | .hbm, ⟨92, _⟩ => ⟨S4x4096x256, .f32⟩
  | .hbm, ⟨93, _⟩ => ⟨S4x4096x256, .f32⟩
  | .hbm, ⟨94, _⟩ => ⟨S_, .f32⟩
  | .hbm, ⟨95, _⟩ => ⟨S4x4096, .f32⟩
  | .hbm, ⟨96, _⟩ => ⟨S4x4096x256, .f32⟩
  | .hbm, ⟨97, _⟩ => ⟨S4x4096x256, .f32⟩
  | .hbm, ⟨98, _⟩ => ⟨S4x4096x256, .f32⟩
  | .hbm, ⟨99, _⟩ => ⟨S_, .f32⟩
  | .hbm, ⟨100, _⟩ => ⟨S4x4096x256, .f32⟩
  | .hbm, ⟨101, _⟩ => ⟨S4x4096x256, .f32⟩
  | .hbm, ⟨102, _⟩ => ⟨S4x256x256, .f32⟩
  | .hbm, ⟨103, _⟩ => ⟨S256x4x256, .f32⟩
  | .hbm, ⟨104, _⟩ => ⟨S4x4096x256, .f32⟩
  | .hbm, ⟨105, _⟩ => ⟨S4096x4x256, .f32⟩
  | .hbm, ⟨106, _⟩ => ⟨S256x1024, .f32⟩
  | .hbm, ⟨107, _⟩ => ⟨S256x1024, .f32⟩
  | .hbm, ⟨108, _⟩ => ⟨S256x2048, .f32⟩
  | .hbm, ⟨109, _⟩ => ⟨S2048x1024, .f32⟩
  | .hbm, ⟨110, _⟩ => ⟨S1024x2048, .f32⟩
  | .hbm, ⟨111, _⟩ => ⟨S256x1024, .f32⟩
  | .hbm, ⟨112, _⟩ => ⟨S4096x1024, .f32⟩
  | .hbm, ⟨113, _⟩ => ⟨S256x1024, .f32⟩
  | .hbm, ⟨114, _⟩ => ⟨S_, .f32⟩
  | .hbm, ⟨115, _⟩ => ⟨S1024, .f32⟩
  | .hbm, ⟨116, _⟩ => ⟨S1x1024, .f32⟩
  | .hbm, ⟨117, _⟩ => ⟨S_, .f32⟩
  | .hbm, ⟨118, _⟩ => ⟨S1024, .f32⟩
  | .hbm, ⟨119, _⟩ => ⟨S3x4096x1024, .bf16⟩
  | .hbm, ⟨120, _⟩ => ⟨S4096x1024, .bf16⟩
  | .hbm, ⟨121, _⟩ => ⟨S1x4096x1024, .bf16⟩
  | .hbm, ⟨122, _⟩ => ⟨S4x4096x1024, .bf16⟩
  | .hbm, ⟨123, _⟩ => ⟨S8x4096x1024, .bf16⟩
  | .hbm, ⟨124, _⟩ => ⟨S1024x8x256, .f32⟩
  | .hbm, ⟨125, _⟩ => ⟨S8x1024x256, .f32⟩
  | .hbm, ⟨126, _⟩ => ⟨S8x1024x256, .bf16⟩
  | .hbm, ⟨127, _⟩ => ⟨S1x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_15 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_16 : Ref sig .tc := ⟨.hbm, 114, rfl⟩
abbrev main_v91 : Ref sig .tc := ⟨.hbm, 115, rfl⟩
abbrev main_v92 : Ref sig .tc := ⟨.hbm, 116, rfl⟩
abbrev main_cst_17 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩

abbrev nD : Nat := 1
abbrev τ : Topo := Topo.v7x

variable {F : FTy → Type} [FloatOps F]
-- ==== WgDown.lean ====
abbrev S4096x2816 : Shape := ⟨2, ![4096, 2816]⟩
abbrev S4096x1024 : Shape := ⟨2, ![4096, 1024]⟩
abbrev S1x1024 : Shape := ⟨2, ![1, 1024]⟩
abbrev S1x4096x1024 : Shape := ⟨3, ![1, 4096, 1024]⟩
abbrev S1x2816x1024 : Shape := ⟨3, ![1, 2816, 1024]⟩
abbrev S1024x2816 : Shape := ⟨2, ![1024, 2816]⟩
abbrev S1x1024x1024 : Shape := ⟨3, ![1, 1024, 1024]⟩
abbrev S2816x1024 : Shape := ⟨2, ![2816, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S1x1024, .f32⟩
  | .hbm, ⟨3, _⟩ => ⟨S1x4096x1024, .f32⟩
  | .hbm, ⟨4, _⟩ => ⟨S1x2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x2816x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== WgDownRefIdeal.lean ====
abbrev S4096x2816 : Shape := ⟨2, ![4096, 2816]⟩
abbrev S4096x1024 : Shape := ⟨2, ![4096, 1024]⟩
abbrev S1x1024 : Shape := ⟨2, ![1, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S1x1024, .f32⟩
  | .hbm, ⟨3, _⟩ => ⟨S4096x2816, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== WgUp.lean ====
abbrev S4096x2816 : Shape := ⟨2, ![4096, 2816]⟩
abbrev S4096x1024 : Shape := ⟨2, ![4096, 1024]⟩
abbrev S1x1024 : Shape := ⟨2, ![1, 1024]⟩
abbrev S1x4096x1024 : Shape := ⟨3, ![1, 4096, 1024]⟩
abbrev S1x2816x1024 : Shape := ⟨3, ![1, 2816, 1024]⟩
abbrev S1024x2816 : Shape := ⟨2, ![1024, 2816]⟩
abbrev S1x1024x1024 : Shape := ⟨3, ![1, 1024, 1024]⟩
abbrev S2816x1024 : Shape := ⟨2, ![2816, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x1024, .f32⟩
  | .hbm, ⟨3, _⟩ => ⟨S1x4096x1024, .bf16⟩
  | .hbm, ⟨4, _⟩ => ⟨S1x2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2816x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== WgUpRefIdeal.lean ====
abbrev S4096x2816 : Shape := ⟨2, ![4096, 2816]⟩
abbrev S4096x1024 : Shape := ⟨2, ![4096, 1024]⟩
abbrev S1x1024 : Shape := ⟨2, ![1, 1024]⟩
abbrev S_ : Shape := ⟨0, ![]⟩
abbrev S1024x2816 : Shape := ⟨2, ![1024, 2816]⟩
abbrev S2816x1024 : Shape := ⟨2, ![2816, 1024]⟩
abbrev S1x2816x1024 : Shape := ⟨3, ![1, 2816, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x1024, .f32⟩
  | .hbm, ⟨3, _⟩ => ⟨S4096x1024, .f32⟩
  | .hbm, ⟨4, _⟩ => ⟨S4096x2816, .f32⟩
  | .hbm, ⟨5, _⟩ => ⟨S_, .f32⟩
  | .hbm, ⟨6, _⟩ => ⟨S1024x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== WgOut.lean ====
abbrev S4096x1024 : Shape := ⟨2, ![4096, 1024]⟩
abbrev S8x128 : Shape := ⟨2, ![8, 128]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S8x128, .f32⟩
  | .hbm, ⟨3, _⟩ => ⟨S1x4096x1024, .f32⟩
  | .hbm, ⟨4, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== WgOutRefIdeal.lean ====
abbrev S4096x1024 : Shape := ⟨2, ![4096, 1024]⟩
abbrev S8x128 : Shape := ⟨2, ![8, 128]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S8x128, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== WgMix.lean ====
abbrev S4096x1024 : Shape := ⟨2, ![4096, 1024]⟩
abbrev S8x128 : Shape := ⟨2, ![8, 128]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x128, .f32⟩
  | .hbm, ⟨3, _⟩ => ⟨S1x4096x1024, .bf16⟩
  | .hbm, ⟨4, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== WgMixRefIdeal.lean ====
abbrev S4096x1024 : Shape := ⟨2, ![4096, 1024]⟩
abbrev S8x128 : Shape := ⟨2, ![8, 128]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x128, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== FfnDown.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩
abbrev S512x1024 : Shape := ⟨2, ![512, 1024]⟩
abbrev S1024x512 : Shape := ⟨2, ![1024, 512]⟩
abbrev S384x1024 : Shape := ⟨2, ![384, 1024]⟩
abbrev S1024x384 : Shape := ⟨2, ![1024, 384]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x2816, .bf16⟩
  | .hbm, ⟨3, _⟩ => ⟨S4096x2816, .bf16⟩
  | .hbm, ⟨4, _⟩ => ⟨S2816x1024, .bf16⟩
  | .hbm, ⟨5, _⟩ => ⟨S4096x2816, .bf16⟩
  | .hbm, ⟨6, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnDownRefIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .bf16⟩
  | .hbm, ⟨29, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== FfnNorm.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S2816x1024 : Shape := ⟨2, ![2816, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S4096x1024, .f32⟩
  | .hbm, ⟨12, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnNormRefIdeal.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== FfnUp.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩
abbrev S512x1024 : Shape := ⟨2, ![512, 1024]⟩
abbrev S1024x512 : Shape := ⟨2, ![1024, 512]⟩
abbrev S384x1024 : Shape := ⟨2, ![384, 1024]⟩
abbrev S1024x384 : Shape := ⟨2, ![1024, 384]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2816x1024, .bf16⟩
  | .hbm, ⟨5, _⟩ => ⟨S2816x1024, .f32⟩
  | .hbm, ⟨6, _⟩ => ⟨S2816x1024, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S4096x2816, .bf16⟩
  | .hbm, ⟨7, _⟩ => ⟨S4096x2816, .bf16⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== ProjBwd.lean ====
abbrev S8x4096x1024 : Shape := ⟨3, ![8, 4096, 1024]⟩
abbrev S1024x8192 : Shape := ⟨2, ![1024, 8192]⟩
abbrev S4096x1024 : Shape := ⟨2, ![4096, 1024]⟩
abbrev S1x1024 : Shape := ⟨2, ![1, 1024]⟩
abbrev S8x128 : Shape := ⟨2, ![8, 128]⟩
abbrev S1024x8x1024 : Shape := ⟨3, ![1024, 8, 1024]⟩
abbrev S8x1024x1024 : Shape := ⟨3, ![8, 1024, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 13
  | .vmem => 17
  | .smem => 0
  | _ => 0

abbrev bufTy : (tb : Table) → Fin (tcTables nBuf tb) → BufTy
  | .hbm, ⟨0, _⟩ => ⟨S8x4096x1024, .bf16⟩
  | .hbm, ⟨1, _⟩ => ⟨S1024x8192, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S8x128, .f32⟩
  | .hbm, ⟨6, _⟩ => ⟨S1024x8x1024, .f32⟩
  | .hbm, ⟨7, _⟩ => ⟨S8x1024x1024, .f32⟩
  | .hbm, ⟨8, _⟩ => ⟨S8x1024x1024, .bf16⟩
  | .hbm, ⟨9, _⟩ => ⟨S2x1024x1024, .bf16⟩
  | .hbm, ⟨10, _⟩ => ⟨S2x1024x1024, .bf16⟩
  | .hbm, ⟨11, _⟩ => ⟨S4096x1024, .f32⟩
  | .hbm, ⟨12, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![4, 8], ![false, false]⟩

def k0_cond6 (i : grid0.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_27 : BitVec 32 := 0#32
  let v43 : BitVec 1 := Scalar.cmpi .ne v42 c0_i32_27
  v43

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg1 c4_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg1 c3_i32
  let c6_i32 : BitVec 32 := 6#32
  let v1 : BitVec 1 := Scalar.cmpi .slt arg1 c6_i32
  let c4_i32 : BitVec 32 := 4#32
  let v2 : BitVec 32 := Scalar.subi arg1 c4_i32
  let c4_i32_0 : BitVec 32 := 4#32
  let v3 : BitVec 32 := Scalar.select v1 c4_i32_0 v2
  let c5_i32 : BitVec 32 := 5#32
  let v4 : BitVec 32 := Scalar.select v0 c5_i32 v3
  let c0_i32 : BitVec 32 := 0#32
  let c0_i32_1 : BitVec 32 := 0#32
  let c0_i32_2 : BitVec 32 := 0#32
  ![v4.toNat, c0_i32.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ProjBwdRefIdeal.lean ====
abbrev S8x4096x1024 : Shape := ⟨3, ![8, 4096, 1024]⟩
abbrev S1024x8192 : Shape := ⟨2, ![1024, 8192]⟩
abbrev S4096x1024 : Shape := ⟨2, ![4096, 1024]⟩
abbrev S1x1024 : Shape := ⟨2, ![1, 1024]⟩
abbrev S8x128 : Shape := ⟨2, ![8, 128]⟩
abbrev S4x4096x1024 : Shape := ⟨3, ![4, 4096, 1024]⟩
abbrev S1x4096x1024 : Shape := ⟨3, ![1, 4096, 1024]⟩
abbrev S3x4096x1024 : Shape := ⟨3, ![3, 4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x8192 : Shape := ⟨2, ![4096, 8192]⟩
abbrev S4096x8x1024 : Shape := ⟨3, ![4096, 8, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S1024x8192, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S8x128, .f32⟩
  | .hbm, ⟨6, _⟩ => ⟨S4x4096x1024, .bf16⟩
  | .hbm, ⟨7, _⟩ => ⟨S1x4096x1024, .bf16⟩
  | .hbm, ⟨8, _⟩ => ⟨S3x4096x1024, .bf16⟩
  | .hbm, ⟨9, _⟩ => ⟨S8x4096x1024, .bf16⟩
  | .hbm, ⟨10, _⟩ => ⟨S8x4096x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x8192, .f32⟩
  | .hbm, ⟨33, _⟩ => ⟨S4096x8x1024, .f32⟩
  | .hbm, ⟨34, _⟩ => ⟨S4096x8192, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== ProjNear.lean ====
abbrev S4096x1024 : Shape := ⟨2, ![4096, 1024]⟩
abbrev S1024x8192 : Shape := ⟨2, ![1024, 8192]⟩
abbrev S8x4096x1024 : Shape := ⟨3, ![8, 4096, 1024]⟩
abbrev S1024x8x1024 : Shape := ⟨3, ![1024, 8, 1024]⟩
abbrev S8x1024x1024 : Shape := ⟨3, ![8, 1024, 1024]⟩
abbrev S2048x1024 : Shape := ⟨2, ![2048, 1024]⟩
abbrev S1x1024x1024 : Shape := ⟨3, ![1, 1024, 1024]⟩
abbrev S1x2048x1024 : Shape := ⟨3, ![1, 2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .f32⟩
  | .hbm, ⟨2, _⟩ => ⟨S8x4096x1024, .bf16⟩
  | .hbm, ⟨3, _⟩ => ⟨S1024x8x1024, .f32⟩
  | .hbm, ⟨4, _⟩ => ⟨S8x1024x1024, .f32⟩
  | .hbm, ⟨5, _⟩ => ⟨S8x1024x1024, .bf16⟩
  | .hbm, ⟨6, _⟩ => ⟨S8x4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .bf16⟩
  | .local _ .vmem, ⟨5, _⟩ => ⟨S1x2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjNearRefIdeal.lean ====
abbrev S4096x1024 : Shape := ⟨2, ![4096, 1024]⟩
abbrev S1024x8192 : Shape := ⟨2, ![1024, 8192]⟩
abbrev S8x4096x1024 : Shape := ⟨3, ![8, 4096, 1024]⟩
abbrev S2x4096x1024 : Shape := ⟨3, ![2, 4096, 1024]⟩
abbrev S1024x4096 : Shape := ⟨2, ![1024, 4096]⟩
abbrev S4096x4096 : Shape := ⟨2, ![4096, 4096]⟩
abbrev S4096x4x1024 : Shape := ⟨3, ![4096, 4, 1024]⟩
abbrev S4x4096x1024 : Shape := ⟨3, ![4, 4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .f32⟩
  | .hbm, ⟨2, _⟩ => ⟨S8x4096x1024, .bf16⟩
  | .hbm, ⟨3, _⟩ => ⟨S2x4096x1024, .bf16⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4x1024, .f32⟩
  | .hbm, ⟨8, _⟩ => ⟨S4x4096x1024, .f32⟩
  | .hbm, ⟨9, _⟩ => ⟨S4x4096x1024, .bf16⟩
  | .hbm, ⟨10, _⟩ => ⟨S2x4096x1024, .bf16⟩
  | .hbm, ⟨11, _⟩ => ⟨S8x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ProjFar.lean ====
abbrev S4096x1024 : Shape := ⟨2, ![4096, 1024]⟩
abbrev S1024x8192 : Shape := ⟨2, ![1024, 8192]⟩
abbrev S8x4096x1024 : Shape := ⟨3, ![8, 4096, 1024]⟩
abbrev S1024x8x1024 : Shape := ⟨3, ![1024, 8, 1024]⟩
abbrev S8x1024x1024 : Shape := ⟨3, ![8, 1024, 1024]⟩
abbrev S2x1024x1024 : Shape := ⟨3, ![2, 1024, 1024]⟩
abbrev S2048x1024 : Shape := ⟨2, ![2048, 1024]⟩
abbrev S1x1024x1024 : Shape := ⟨3, ![1, 1024, 1024]⟩
abbrev S1x2048x1024 : Shape := ⟨3, ![1, 2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .f32⟩
  | .hbm, ⟨2, _⟩ => ⟨S8x4096x1024, .bf16⟩
  | .hbm, ⟨3, _⟩ => ⟨S1024x8x1024, .f32⟩
  | .hbm, ⟨4, _⟩ => ⟨S8x1024x1024, .f32⟩
  | .hbm, ⟨5, _⟩ => ⟨S8x1024x1024, .bf16⟩
  | .hbm, ⟨6, _⟩ => ⟨S2x1024x1024, .bf16⟩
  | .hbm, ⟨7, _⟩ => ⟨S8x4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .bf16⟩
  | .local _ .vmem, ⟨5, _⟩ => ⟨S1x2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![v0.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjFarRefIdeal.lean ====
abbrev S4096x1024 : Shape := ⟨2, ![4096, 1024]⟩
abbrev S1024x8192 : Shape := ⟨2, ![1024, 8192]⟩
abbrev S8x4096x1024 : Shape := ⟨3, ![8, 4096, 1024]⟩
abbrev S6x4096x1024 : Shape := ⟨3, ![6, 4096, 1024]⟩
abbrev S1024x2048 : Shape := ⟨2, ![1024, 2048]⟩
abbrev S4096x2048 : Shape := ⟨2, ![4096, 2048]⟩
abbrev S4096x2x1024 : Shape := ⟨3, ![4096, 2, 1024]⟩
abbrev S2x4096x1024 : Shape := ⟨3, ![2, 4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .f32⟩
  | .hbm, ⟨2, _⟩ => ⟨S8x4096x1024, .bf16⟩
  | .hbm, ⟨3, _⟩ => ⟨S6x4096x1024, .bf16⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S4096x2x1024, .f32⟩
  | .hbm, ⟨8, _⟩ => ⟨S2x4096x1024, .f32⟩
  | .hbm, ⟨9, _⟩ => ⟨S2x4096x1024, .bf16⟩
  | .hbm, ⟨10, _⟩ => ⟨S8x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnLoss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S2816x1024, .bf16⟩
  | .hbm, ⟨6, _⟩ => ⟨S4096x1024, .f32⟩
  | .hbm, ⟨7, _⟩ => ⟨S8x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnLossRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S8x1024, .f32⟩
  | .hbm, ⟨78, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Merge.lean ====
abbrev S8x4096x1024 : Shape := ⟨3, ![8, 4096, 1024]⟩
abbrev S4096x1024 : Shape := ⟨2, ![4096, 1024]⟩
abbrev S8x256x256 : Shape := ⟨3, ![8, 256, 256]⟩
abbrev S1024x1024 : Shape := ⟨2, ![1024, 1024]⟩
abbrev S1x1024 : Shape := ⟨2, ![1, 1024]⟩
abbrev S1x512x1024 : Shape := ⟨3, ![1, 512, 1024]⟩
abbrev S512x1024 : Shape := ⟨2, ![512, 1024]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 16
  | .vmem => 29
  | .smem => 0
  | _ => 0

abbrev bufTy : (tb : Table) → Fin (tcTables nBuf tb) → BufTy
  | .hbm, ⟨0, _⟩ => ⟨S8x4096x1024, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S8x256x256, .bf16⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S1024x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .f32⟩
  | .hbm, ⟨15, _⟩ => ⟨S4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S8x256x256, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_1 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_2 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_3 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S8x4096x1024 : Shape := ⟨3, ![8, 4096, 1024]⟩
abbrev S4096x1024 : Shape := ⟨2, ![4096, 1024]⟩
abbrev S8x256x256 : Shape := ⟨3, ![8, 256, 256]⟩
abbrev S1024x1024 : Shape := ⟨2, ![1024, 1024]⟩
abbrev S1x1024 : Shape := ⟨2, ![1, 1024]⟩
abbrev S1x4096x1024 : Shape := ⟨3, ![1, 4096, 1024]⟩
abbrev S4x256x256 : Shape := ⟨3, ![4, 256, 256]⟩
abbrev S4096x4x256 : Shape := ⟨3, ![4096, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S1024 : Shape := ⟨1, ![1024]⟩
abbrev S4096 : Shape := ⟨1, ![4096]⟩
abbrev S4096x1 : Shape := ⟨2, ![4096, 1]⟩

abbrev nBuf : Space → Nat
  | .hbm => 106
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S8x256x256, .bf16⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1x4096x1024, .bf16⟩
  | .hbm, ⟨10, _⟩ => ⟨S4096x1024, .bf16⟩
  | .hbm, ⟨11, _⟩ => ⟨S4096x1024, .f32⟩
  | .hbm, ⟨12, _⟩ => ⟨S1x4096x1024, .bf16⟩
  | .hbm, ⟨13, _⟩ => ⟨S4096x1024, .bf16⟩
  | .hbm, ⟨14, _⟩ => ⟨S4096x1024, .f32⟩
  | .hbm, ⟨15, _⟩ => ⟨S1x4096x1024, .bf16⟩
  | .hbm, ⟨16, _⟩ => ⟨S4096x1024, .bf16⟩
  | .hbm, ⟨17, _⟩ => ⟨S4096x1024, .f32⟩
  | .hbm, ⟨18, _⟩ => ⟨S1x4096x1024, .bf16⟩
  | .hbm, ⟨19, _⟩ => ⟨S4096x1024, .bf16⟩
  | .hbm, ⟨20, _⟩ => ⟨S4096x1024, .f32⟩
  | .hbm, ⟨21, _⟩ => ⟨S4x256x256, .bf16⟩
  | .hbm, ⟨22, _⟩ => ⟨S4x256x256, .f32⟩
  | .hbm, ⟨23, _⟩ => ⟨S4x256x256, .bf16⟩
  | .hbm, ⟨24, _⟩ => ⟨S4x256x256, .f32⟩
  | .hbm, ⟨25, _⟩ => ⟨S4096x4x256, .f32⟩
  | .hbm, ⟨26, _⟩ => ⟨S4x4096x256, .f32⟩
  | .hbm, ⟨27, _⟩ => ⟨S_, .f32⟩
  | .hbm, ⟨28, _⟩ => ⟨S4x4096x256, .f32⟩
  | .hbm, ⟨29, _⟩ => ⟨S4x4096x256, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096x1, .f32⟩
  | .hbm, ⟨36, _⟩ => ⟨S4x4096x256, .f32⟩
  | .hbm, ⟨37, _⟩ => ⟨S4x4096x256, .f32⟩
  | .hbm, ⟨38, _⟩ => ⟨S4x4096x256, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S4x4096x256, .f32⟩
  | .hbm, ⟨43, _⟩ => ⟨S4x4096x256, .f32⟩
  | .hbm, ⟨44, _⟩ => ⟨S4x256x4096, .f32⟩
  | .hbm, ⟨45, _⟩ => ⟨S4096x4x256, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .bf16⟩
  | .hbm, ⟨86, _⟩ => ⟨S4096x1024, .bf16⟩
  | .hbm, ⟨87, _⟩ => ⟨S4096x1024, .bf16⟩
  | .hbm, ⟨88, _⟩ => ⟨S1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S4096x1, .f32⟩
  | .hbm, ⟨100, _⟩ => ⟨S4096x1024, .f32⟩
  | .hbm, ⟨101, _⟩ => ⟨S4096x1024, .f32⟩
  | .hbm, ⟨102, _⟩ => ⟨S1x1024, .f32⟩
  | .hbm, ⟨103, _⟩ => ⟨S4096x1024, .f32⟩
  | .hbm, ⟨104, _⟩ => ⟨S4096x1024, .f32⟩
  | .hbm, ⟨105, _⟩ => ⟨S4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== Proof.Row.lean ====
module

public import Idealize.ShloMosaic.Lib.Pointwise

@[expose] public section

set_option maxRecDepth 16384

noncomputable section

/-! One query row of one attention head, over the extended reals: the scores against the 256 memory
    tokens, the softmax weights, and the gradients that come back through them. `q` is the query row,
    `o` the incoming gradient of the head's output row, `K j` and `V j` the key and value of token `j`. -/

namespace Cert.Row

open Idealize.ShloMosaic

/-- The score scale `1/16` as the programs write it. -/
def c16 : EReal := Ideal.ofBits .f32 0x3D800000#32

/-- The start value of the row maximum as the programs write it (minus infinity). -/
def lo : EReal := Ideal.ofBits .f32 0xFF800000#32

/-- The scaled score of token `j`. -/
def sc (q : Fin 256 → EReal) (K : Fin 256 → Fin 256 → EReal) (j : Fin 256) : EReal := (∑ d, q d * K j d) * c16

/-- The row's largest score. -/
def mx (q : Fin 256 → EReal) (K : Fin 256 → Fin 256 → EReal) : EReal := Finset.univ.fold max lo fun j => sc q K j

/-- The exponential of the score less the row's largest. -/
def ex (q : Fin 256 → EReal) (K : Fin 256 → Fin 256 → EReal) (j : Fin 256) : EReal := Ideal.exp (sc q K j - mx q K)

/-- The sum of the row's exponentials. -/
def sm (q : Fin 256 → EReal) (K : Fin 256 → Fin 256 → EReal) : EReal := ∑ j, ex q K j

/-- The softmax weight of token `j`. -/
def pr (q : Fin 256 → EReal) (K : Fin 256 → Fin 256 → EReal) (j : Fin 256) : EReal := Ideal.div (ex q K j) (sm q K)

/-- The gradient of the weight of token `j`. -/
def dp (o : Fin 256 → EReal) (V : Fin 256 → Fin 256 → EReal) (j : Fin 256) : EReal := ∑ d, o d * V j d

/-- The gradient of the unscaled score of token `j`. -/
def ds (q : Fin 256 → EReal) (K : Fin 256 → Fin 256 → EReal) (o : Fin 256 → EReal) (V : Fin 256 → Fin 256 → EReal)
    (j : Fin 256) : EReal := pr q K j * (dp o V j - ∑ i, dp o V i * pr q K i) * c16

/-- The gradient of component `d` of the query row. -/
def dq (q : Fin 256 → EReal) (K : Fin 256 → Fin 256 → EReal) (o : Fin 256 → EReal) (V : Fin 256 → Fin 256 → EReal)
    (d : Fin 256) : EReal := ∑ j, ds q K o V j * K j d

/-- Column `d` of head `h` among the 1024 columns. -/
abbrev hd (h : Fin 4) (d : Fin 256) : Fin 1024 := ⟨256 * h.val + d.val, by omega⟩

/-- The key slot of head `h`. -/
abbrev sk (h : Fin 4) : Fin 8 := ⟨h.val, by omega⟩

/-- The value slot of head `h`. -/
abbrev sv (h : Fin 4) : Fin 8 := ⟨4 + h.val, by omega⟩

/-- Column `d` of slot `g` among the 2048 key and value columns. -/
abbrev c8 (g : Fin 8) (d : Fin 256) : Fin 2048 := ⟨256 * g.val + d.val, by omega⟩

/-- Head 0's columns are the first 256. -/
theorem hd0 (d : Fin 256) : hd 0 d = ⟨d.val, by omega⟩ := Fin.ext (by show 256 * 0 + d.val = d.val; omega)

/-! The whole call, from the memory tokens `x`, the norm's gain `g`, the weights `w`, the queries `P` and the
    incoming gradient `O`. -/

/-- The reciprocal root mean square of memory token `m`. -/
def gr (x : Fin 256 → Fin 1024 → EReal) (m : Fin 256) : EReal :=
  Ideal.rsqrt (Ideal.div (∑ k, x m k * x m k) (Ideal.ofBits .f32 0x44800000#32) + Ideal.ofBits .f32 0x358637BD#32)

/-- The normalised memory. -/
def memn (x : Fin 256 → Fin 1024 → EReal) (g : Fin 1024 → EReal) (m : Fin 256) (a : Fin 1024) : EReal := x m a * gr x m * g a

/-- The keys and values: the normalised memory times the weights. -/
def kvF (x : Fin 256 → Fin 1024 → EReal) (g : Fin 1024 → EReal) (w : Fin 1024 → Fin 2048 → EReal) (m : Fin 256) (c : Fin 2048) : EReal :=
  ∑ a, memn x g m a * w a c

/-- The gradient of the queries. `kv` holds the keys and values. -/
def DQ (kv : Fin 256 → Fin 2048 → EReal) (P O : Fin 4096 → Fin 1024 → EReal) (t : Fin 4096) (h : Fin 4) (d : Fin 256) : EReal :=
  dq (fun e => P t (hd h e)) (fun j e => kv j (c8 (sk h) e)) (fun e => O t (hd h e)) (fun j e => kv j (c8 (sv h) e)) d

/-- The gradient of head `h`'s keys. -/
def DK (kv : Fin 256 → Fin 2048 → EReal) (P O : Fin 4096 → Fin 1024 → EReal) (h : Fin 4) (a d : Fin 256) : EReal :=
  ∑ t : Fin 4096, ds (fun e => P t (hd h e)) (fun j e => kv j (c8 (sk h) e)) (fun e => O t (hd h e)) (fun j e => kv j (c8 (sv h) e)) a
    * P t (hd h d)

/-- The gradient of head `h`'s values. -/
def DV (kv : Fin 256 → Fin 2048 → EReal) (P O : Fin 4096 → Fin 1024 → EReal) (h : Fin 4) (a d : Fin 256) : EReal :=
  ∑ t : Fin 4096, pr (fun e => P t (hd h e)) (fun j e => kv j (c8 (sk h) e)) a * O t (hd h d)

/-- The gradient of the keys and values at slot `g`. -/
def DKV (kv : Fin 256 → Fin 2048 → EReal) (P O : Fin 4096 → Fin 1024 → EReal) (g : Fin 8) (a d : Fin 256) : EReal :=
  if h : g.val < 4 then DK kv P O ⟨g.val, h⟩ a d else DV kv P O ⟨g.val - 4, by omega⟩ a d

/-- The gradient of the weights at slot `g`, from the gradient `s` of the keys and values. -/
def DW (n : Fin 256 → Fin 1024 → EReal) (s : Fin 8 → Fin 256 → Fin 256 → EReal) (g : Fin 8) (a : Fin 1024) (d : Fin 256) : EReal :=
  ∑ m : Fin 256, n m a * s g m d

/-- The gradient of the gain at column `a`, from the gradient `s` of the keys and values. -/
def DG (x : Fin 256 → Fin 1024 → EReal) (w : Fin 1024 → Fin 2048 → EReal) (s : Fin 8 → Fin 256 → Fin 256 → EReal) (a : Fin 1024) : EReal :=
  ∑ m : Fin 256, ((∑ d, s 0 m d * w a (c8 0 d)) + (∑ d, s 1 m d * w a (c8 1 d)) + (∑ d, s 2 m d * w a (c8 2 d)) + (∑ d, s 3 m d * w a (c8 3 d))
      + (∑ d, s 4 m d * w a (c8 4 d)) + (∑ d, s 5 m d * w a (c8 5 d)) + (∑ d, s 6 m d * w a (c8 6 d)) + (∑ d, s 7 m d * w a (c8 7 d)))
    * (x m a * gr x m)

end Cert.Row
-- ==== Proof.Entry.lean ====
module

public import Idealize.ShloMosaic.Lib.Pointwise
public import Idealize.ShloMosaic.Lib.Claim
public import Idealize.ShloMosaic.Lib.StableHlo.ReadAt
public import Idealize.ShloMosaic.Lib.Pipeline.ValueKit
public import proofs.«01_k».proof.Proof.Gen.AttnIdeal.Frame
public import proofs.«01_k».proof.Proof.Row

@[expose] public section

set_option maxRecDepth 16384

noncomputable section

/-! What the host prepares for the call, and the staged blocks, read at an index from the arguments. -/

namespace Cert.AttnIdeal.Val

open Idealize.ShloMosaic Idealize.ShloMosaic.TcCoe Idealize.ShloMosaic.Tactic Idealize.SL.Sem
open Cert.AttnIdeal Cert.AttnIdeal.Gen Cert.Row

variable (m : (ℓ : Loc nD τ sig) → Buf (Elt Ideal) ℓ)

/-- The memory tokens. -/
def aX (c : Dev nD) (j : Fin 256) (a : Fin 1024) : EReal := m ((c : Thread nD τ).loc main_arg3) (ix3 0 j a)
/-- The norm's gain. -/
def aG (c : Dev nD) (a : Fin 1024) : EReal := m ((c : Thread nD τ).loc main_arg4) (ix2 0 a)
/-- The key and value weights. -/
def aW (c : Dev nD) (a : Fin 1024) (k : Fin 2048) : EReal := m ((c : Thread nD τ).loc main_arg5) (ix3 0 a k)
/-- The queries: the projections' slot 4. -/
def aP (c : Dev nD) (t : Fin 4096) (k : Fin 1024) : EReal := m ((c : Thread nD τ).loc main_arg1) (ix3 4 t k)
/-- The incoming gradient. -/
def aO (c : Dev nD) (t : Fin 4096) (k : Fin 1024) : EReal := m ((c : Thread nD τ).loc main_arg2) (ix2 t k)

theorem slot_col (g : Fin 8) (d : Fin 256) (h : g.val * 256 + d.val < 2048) : (⟨g.val * 256 + d.val, h⟩ : Fin 2048) = c8 g d :=
  Fin.ext (by show g.val * 256 + d.val = 256 * g.val + d.val; omega)

theorem V23_at (c : Dev nD) (j : Fin 256) (a : Fin 1024) : V m c main_v23 (ix2 j a) = aX m c j a := by
  entry_read
  pointwise
  rfl

theorem V21_at (c : Dev nD) (j : Fin 256) (a : Fin 1024) : V m c main_v21 (ix2 j a) = memn (aX m c) (aG m c) j a := by
  entry_read
  pointwise
  rfl

theorem V22_at (c : Dev nD) (g : Fin 8) (a : Fin 1024) (d : Fin 256) : V m c main_v22 (ix3 g a d) = aW m c a (c8 g d) := by
  entry_read
  pointwise
  exact congrArg (fun z => m ((c : Thread nD τ).loc main_arg5) (ix3 0 a z)) (slot_col g d _)

theorem V20_at (c : Dev nD) (g : Fin 8) (j d : Fin 256) : V m c main_v20 (ix3 g j d) = kvF (aX m c) (aG m c) (aW m c) j (c8 g d) := by
  entry_read
  pointwise
  simp only [slot_col]
  rfl

theorem V24_at (c : Dev nD) : V m c main_v24_0 = m ((c : Thread nD τ).loc main_arg0) := by
  entry_read
  rfl

/-- The windows' block indices. -/
theorem idx : ∀ t : Fin cfg0.N, win0_0.index t = ![4, t.val, 0] ∧ win0_1.index t = ![t.val, 0] ∧ win0_2.index t = ![0, 0, 0]
    ∧ win0_3.index t = ![0, 0] ∧ win0_4.index t = ![0, 0, 0] ∧ win0_5.index t = ![0, 0] ∧ win0_6.index t = ![0, 0]
    ∧ win0_7.index t = ![3, t.val, 0] ∧ win0_8.index t = ![0, 0, 0] ∧ win0_9.index t = ![0, 0] :=
  (by decide +kernel : ∀ t : Fin grid0.N, _)

theorem V1_at (c : Dev nD) : V m c main_arg1 = m ((c : Thread nD τ).loc main_arg1) := by unfold V; after_results; try rfl
theorem V2_at (c : Dev nD) : V m c main_arg2 = m ((c : Thread nD τ).loc main_arg2) := by unfold V; after_results; try rfl

/-- The query block of point `t`. -/
theorem blk0_at (c : Dev nD) (t : Fin cfg0.N) (r : Fin 1024) (k : Fin 1024) (h : 1024 * t.val + r.val < 4096) :
    (show Vec Ideal S1x1024x1024 .bf16 from iblk m c 0 t) (ix3 0 r k) = aP m c ⟨1024 * t.val + r.val, h⟩ k := by
  unfold aP
  rw [← V1_at m c]
  blk_ext [iblk, idx t]

/-- The gradient block of point `t`. -/
theorem blk1_at (c : Dev nD) (t : Fin cfg0.N) (r : Fin 1024) (k : Fin 1024) (h : 1024 * t.val + r.val < 4096) :
    (show Vec Ideal S1024x1024 .bf16 from iblk m c 1 t) (ix2 r k) = aO m c ⟨1024 * t.val + r.val, h⟩ k := by
  unfold aO
  rw [← V2_at m c]
  blk_ext [iblk, idx t]

theorem blk2_at (c : Dev nD) (t : Fin cfg0.N) (g : Fin 8) (j d : Fin 256) :
    (show Vec Ideal S8x256x256 .bf16 from iblk m c 2 t) (ix3 g j d) = kvF (aX m c) (aG m c) (aW m c) j (c8 g d) := by
  rw [← V20_at]
  blk_ext [iblk, idx t]

theorem blk3_at (c : Dev nD) (t : Fin cfg0.N) (j : Fin 256) (a : Fin 1024) :
    (show Vec Ideal S256x1024 .bf16 from iblk m c 3 t) (ix2 j a) = memn (aX m c) (aG m c) j a := by
  rw [← V21_at]
  blk_ext [iblk, idx t]

theorem blk4_at (c : Dev nD) (t : Fin cfg0.N) (g : Fin 8) (a : Fin 1024) (d : Fin 256) :
    (show Vec Ideal S8x1024x256 .bf16 from iblk m c 4 t) (ix3 g a d) = aW m c a (c8 g d) := by
  rw [← V22_at]
  blk_ext [iblk, idx t]

theorem blk5_at (c : Dev nD) (t : Fin cfg0.N) (j : Fin 256) (a : Fin 1024) :
    (show Vec Ideal S256x1024 .f32 from iblk m c 5 t) (ix2 j a) = aX m c j a := by
  rw [← V23_at]
  blk_ext [iblk, idx t]

end Cert.AttnIdeal.Val
-- ==== Proof.Heads.lean ====
module

public import Idealize.ShloMosaic.Lib.Pointwise
public import proofs.«01_k».proof.Proof.Gen.AttnIdeal.Skeleton
public import proofs.«01_k».proof.Proof.Row

@[expose] public section

set_option maxRecDepth 16384

noncomputable section

/-! The body's vectors of the four heads, read at an index: each is the row function of the loaded blocks. -/

namespace Cert.AttnIdeal.Val

open Idealize.ShloMosaic Idealize.ShloMosaic.TcCoe Idealize.SL.Sem
open Cert.AttnIdeal Cert.AttnIdeal.Gen Cert.Row

/-- Head 0's softmax weights. -/
theorem pr0_at (q : Vec Ideal S1x1024x256 .bf16) (k : Vec Ideal S1x256x256 .bf16) (r : Fin 1024) (j : Fin 256) :
    k0_pay29 (F := Ideal) q k (ix2 r j) = pr (fun d => q (ix3 0 r d)) (fun j d => k (ix3 0 j d)) j := by
  pointwise [k0_pay29, k0_pay28]
  rfl

/-- Head 0's gradient of the scores. -/
theorem ds0_at (q : Vec Ideal S1x1024x256 .bf16) (o : Vec Ideal S1024x256 .bf16) (k : Vec Ideal S1x256x256 .bf16) (v : Vec Ideal S1x256x256 .bf16) (r : Fin 1024) (j : Fin 256) :
    k0_pay30 (F := Ideal) q o k v (ix2 r j) = ds (fun d => q (ix3 0 r d)) (fun j d => k (ix3 0 j d)) (fun d => o (ix2 r d)) (fun j d => v (ix3 0 j d)) j := by
  pointwise [k0_pay30, pr0_at]
  rfl

/-- Head 0's gradient of the query rows. -/
theorem dq0_at (q : Vec Ideal S1x1024x256 .bf16) (o : Vec Ideal S1024x256 .bf16) (k : Vec Ideal S1x256x256 .bf16) (v : Vec Ideal S1x256x256 .bf16) (r : Fin 1024) (d : Fin 256) :
    k0_pay32 (F := Ideal) (k0_pay30 q o k v) (k0_pay31 k) (constant S1024x256 .f32 0x00000000#32) (ix3 0 r d) = dq (fun d => q (ix3 0 r d)) (fun j d => k (ix3 0 j d)) (fun d => o (ix2 r d)) (fun j d => v (ix3 0 j d)) d := by
  pointwise [k0_pay32, k0_pay31, ds0_at]
  rfl

/-- Head 0's keys: the tile's share is added to what the accumulator held. -/
theorem dk0_at (q : Vec Ideal S1x1024x256 .bf16) (o : Vec Ideal S1024x256 .bf16) (k : Vec Ideal S1x256x256 .bf16) (v : Vec Ideal S1x256x256 .bf16) (s : Vec Ideal S1x256x256 .f32) (a d : Fin 256) :
    k0_pay33 (F := Ideal) (k0_pay28 q) (k0_pay30 q o k v) s (ix3 0 a d) = s (ix3 0 a d) + ∑ r : Fin 1024, ds (fun d => q (ix3 0 r d)) (fun j d => k (ix3 0 j d)) (fun d => o (ix2 r d)) (fun j d => v (ix3 0 j d)) a * q (ix3 0 r d) := by
  pointwise [k0_pay33, k0_pay28, ds0_at]

/-- Head 0's values: the tile's share is added to what the accumulator held. -/
theorem dv0_at (q : Vec Ideal S1x1024x256 .bf16) (o : Vec Ideal S1024x256 .bf16) (k : Vec Ideal S1x256x256 .bf16) (s : Vec Ideal S1x256x256 .f32) (a d : Fin 256) :
    k0_pay34 (F := Ideal) o (k0_pay29 q k) s (ix3 0 a d) = s (ix3 0 a d) + ∑ r : Fin 1024, pr (fun d => q (ix3 0 r d)) (fun j d => k (ix3 0 j d)) a * o (ix2 r d) := by
  pointwise [k0_pay34, pr0_at]

/-- Head 1's softmax weights. -/
theorem pr1_at (q : Vec Ideal S1x1024x256 .bf16) (k : Vec Ideal S1x256x256 .bf16) (r : Fin 1024) (j : Fin 256) :
    k0_pay38 (F := Ideal) (k0_pay36 q k) (k0_pay37 q k) (ix2 r j) = pr (fun d => q (ix3 0 r d)) (fun j d => k (ix3 0 j d)) j := by
  pointwise [k0_pay38, k0_pay37, k0_pay36, k0_pay35]
  rfl

/-- Head 1's gradient of the scores. -/
theorem ds1_at (q : Vec Ideal S1x1024x256 .bf16) (o : Vec Ideal S1024x256 .bf16) (k : Vec Ideal S1x256x256 .bf16) (v : Vec Ideal S1x256x256 .bf16) (r : Fin 1024) (j : Fin 256) :
    k0_pay39 (F := Ideal) o (k0_pay36 q k) (k0_pay37 q k) v (ix2 r j) = ds (fun d => q (ix3 0 r d)) (fun j d => k (ix3 0 j d)) (fun d => o (ix2 r d)) (fun j d => v (ix3 0 j d)) j := by
  pointwise [k0_pay39, pr1_at]
  rfl

/-- Head 1's gradient of the query rows. -/
theorem dq1_at (q : Vec Ideal S1x1024x256 .bf16) (o : Vec Ideal S1024x256 .bf16) (k : Vec Ideal S1x256x256 .bf16) (v : Vec Ideal S1x256x256 .bf16) (r : Fin 1024) (d : Fin 256) :
    k0_pay40 (F := Ideal) o (k0_pay36 q k) (k0_pay37 q k) v k (ix3 0 r d) = dq (fun d => q (ix3 0 r d)) (fun j d => k (ix3 0 j d)) (fun d => o (ix2 r d)) (fun j d => v (ix3 0 j d)) d := by
  pointwise [k0_pay40, ds1_at]
  rfl

/-- Head 1's keys: the tile's share is added to what the accumulator held. -/
theorem dk1_at (q : Vec Ideal S1x1024x256 .bf16) (o : Vec Ideal S1024x256 .bf16) (k : Vec Ideal S1x256x256 .bf16) (v : Vec Ideal S1x256x256 .bf16) (s : Vec Ideal S1x256x256 .f32) (a d : Fin 256) :
    k0_pay41 (F := Ideal) (k0_pay35 q) o (k0_pay36 q k) (k0_pay37 q k) v s (ix3 0 a d) = s (ix3 0 a d) + ∑ r : Fin 1024, ds (fun d => q (ix3 0 r d)) (fun j d => k (ix3 0 j d)) (fun d => o (ix2 r d)) (fun j d => v (ix3 0 j d)) a * q (ix3 0 r d) := by
  pointwise [k0_pay41, k0_pay35, ds1_at]

/-- Head 1's values: the tile's share is added to what the accumulator held. -/
theorem dv1_at (q : Vec Ideal S1x1024x256 .bf16) (o : Vec Ideal S1024x256 .bf16) (k : Vec Ideal S1x256x256 .bf16) (s : Vec Ideal S1x256x256 .f32) (a d : Fin 256) :
    k0_pay42 (F := Ideal) o (k0_pay38 (k0_pay36 q k) (k0_pay37 q k)) s (ix3 0 a d) = s (ix3 0 a d) + ∑ r : Fin 1024, pr (fun d => q (ix3 0 r d)) (fun j d => k (ix3 0 j d)) a * o (ix2 r d) := by
  pointwise [k0_pay42, pr1_at]

/-- Head 2's softmax weights. -/
theorem pr2_at (q : Vec Ideal S1x1024x256 .bf16) (k : Vec Ideal S1x256x256 .bf16) (r : Fin 1024) (j : Fin 256) :
    k0_pay44 (F := Ideal) q k (ix2 r j) = pr (fun d => q (ix3 0 r d)) (fun j d => k (ix3 0 j d)) j := by
  pointwise [k0_pay44, k0_pay43]
  rfl

/-- Head 2's gradient of the scores. -/
theorem ds2_at (q : Vec Ideal S1x1024x256 .bf16) (o : Vec Ideal S1024x256 .bf16) (k : Vec Ideal S1x256x256 .bf16) (v : Vec Ideal S1x256x256 .bf16) (r : Fin 1024) (j : Fin 256) :
    k0_pay45 (F := Ideal) q o k v (ix2 r j) = ds (fun d => q (ix3 0 r d)) (fun j d => k (ix3 0 j d)) (fun d => o (ix2 r d)) (fun j d => v (ix3 0 j d)) j := by
  pointwise [k0_pay45, pr2_at]
  rfl

/-- Head 2's gradient of the query rows. -/
theorem dq2_at (q : Vec Ideal S1x1024x256 .bf16) (o : Vec Ideal S1024x256 .bf16) (k : Vec Ideal S1x256x256 .bf16) (v : Vec Ideal S1x256x256 .bf16) (r : Fin 1024) (d : Fin 256) :
    k0_pay46 (F := Ideal) (k0_pay45 q o k v) k (ix3 0 r d) = dq (fun d => q (ix3 0 r d)) (fun j d => k (ix3 0 j d)) (fun d => o (ix2 r d)) (fun j d => v (ix3 0 j d)) d := by
  pointwise [k0_pay46, ds2_at]
  rfl

/-- Head 2's keys: the tile's share is added to what the accumulator held. -/
theorem dk2_at (q : Vec Ideal S1x1024x256 .bf16) (o : Vec Ideal S1024x256 .bf16) (k : Vec Ideal S1x256x256 .bf16) (v : Vec Ideal S1x256x256 .bf16) (s : Vec Ideal S1x256x256 .f32) (a d : Fin 256) :
    k0_pay47 (F := Ideal) (k0_pay43 q) (k0_pay45 q o k v) s (ix3 0 a d) = s (ix3 0 a d) + ∑ r : Fin 1024, ds (fun d => q (ix3 0 r d)) (fun j d => k (ix3 0 j d)) (fun d => o (ix2 r d)) (fun j d => v (ix3 0 j d)) a * q (ix3 0 r d) := by
  pointwise [k0_pay47, k0_pay43, ds2_at]

/-- Head 2's values: the tile's share is added to what the accumulator held. -/
theorem dv2_at (q : Vec Ideal S1x1024x256 .bf16) (o : Vec Ideal S1024x256 .bf16) (k : Vec Ideal S1x256x256 .bf16) (s : Vec Ideal S1x256x256 .f32) (a d : Fin 256) :
    k0_pay48 (F := Ideal) o (k0_pay44 q k) s (ix3 0 a d) = s (ix3 0 a d) + ∑ r : Fin 1024, pr (fun d => q (ix3 0 r d)) (fun j d => k (ix3 0 j d)) a * o (ix2 r d) := by
  pointwise [k0_pay48, pr2_at]

/-- Head 3's softmax weights. -/
theorem pr3_at (q : Vec Ideal S1x1024x256 .bf16) (k : Vec Ideal S1x256x256 .bf16) (r : Fin 1024) (j : Fin 256) :
    k0_pay51 (F := Ideal) (k0_pay49 q) (k0_pay50 k) (constant S1024x256 .f32 0x00000000#32) (ix2 r j) = pr (fun d => q (ix3 0 r d)) (fun j d => k (ix3 0 j d)) j := by
  pointwise [k0_pay51, k0_pay50, k0_pay49]
  rfl

/-- Head 3's gradient of the scores. -/
theorem ds3_at (q : Vec Ideal S1x1024x256 .bf16) (o : Vec Ideal S1024x256 .bf16) (k : Vec Ideal S1x256x256 .bf16) (v : Vec Ideal S1x256x256 .bf16) (r : Fin 1024) (j : Fin 256) :
    k0_pay52 (F := Ideal) (k0_pay49 q) o (k0_pay50 k) (constant S1024x256 .f32 0x00000000#32) v (ix2 r j) = ds (fun d => q (ix3 0 r d)) (fun j d => k (ix3 0 j d)) (fun d => o (ix2 r d)) (fun j d => v (ix3 0 j d)) j := by
  pointwise [k0_pay52, pr3_at]
  rfl

/-- Head 3's gradient of the query rows. -/
theorem dq3_at (q : Vec Ideal S1x1024x256 .bf16) (o : Vec Ideal S1024x256 .bf16) (k : Vec Ideal S1x256x256 .bf16) (v : Vec Ideal S1x256x256 .bf16) (r : Fin 1024) (d : Fin 256) :
    k0_pay53 (F := Ideal) (k0_pay49 q) o (k0_pay50 k) (constant S1024x256 .f32 0x00000000#32) v k (ix3 0 r d) = dq (fun d => q (ix3 0 r d)) (fun j d => k (ix3 0 j d)) (fun d => o (ix2 r d)) (fun j d => v (ix3 0 j d)) d := by
  pointwise [k0_pay53, ds3_at]
  rfl

/-- Head 3's keys: the tile's share is added to what the accumulator held. -/
theorem dk3_at (q : Vec Ideal S1x1024x256 .bf16) (o : Vec Ideal S1024x256 .bf16) (k : Vec Ideal S1x256x256 .bf16) (v : Vec Ideal S1x256x256 .bf16) (s : Vec Ideal S1x256x256 .f32) (a d : Fin 256) :
    k0_pay1 (F := Ideal) (k0_pay54 (k0_pay49 q) o (k0_pay50 k) (constant S1024x256 .f32 0x00000000#32) v s) (ix3 0 a d) = s (ix3 0 a d) + ∑ r : Fin 1024, ds (fun d => q (ix3 0 r d)) (fun j d => k (ix3 0 j d)) (fun d => o (ix2 r d)) (fun j d => v (ix3 0 j d)) a * q (ix3 0 r d) := by
  pointwise [k0_pay1, k0_pay54, ds3_at]
  pointwise [k0_pay49]

/-- Head 3's values: the tile's share is added to what the accumulator held. -/
theorem dv3_at (q : Vec Ideal S1x1024x256 .bf16) (o : Vec Ideal S1024x256 .bf16) (k : Vec Ideal S1x256x256 .bf16) (s : Vec Ideal S1x256x256 .f32) (a d : Fin 256) :
    k0_pay2 (F := Ideal) o (k0_pay51 (k0_pay49 q) (k0_pay50 k) (constant S1024x256 .f32 0x00000000#32)) s (ix3 0 a d) = s (ix3 0 a d) + ∑ r : Fin 1024, pr (fun d => q (ix3 0 r d)) (fun j d => k (ix3 0 j d)) a * o (ix2 r d) := by
  pointwise [k0_pay2, pr3_at]

end Cert.AttnIdeal.Val
-- ==== Proof.Leaf.lean ====
module

public import Idealize.ShloMosaic.Lib.Pointwise
public import Idealize.ShloMosaic.Lib.Pipeline.ReadBack
public import proofs.«01_k».proof.Proof.Heads

@[expose] public section

set_option maxRecDepth 16384

noncomputable section

namespace Cert.AttnIdeal.Val

open Idealize.ShloMosaic Idealize.ShloMosaic.TcCoe Idealize.ShloMosaic.Tactic Idealize.SL.Sem
open Cert.AttnIdeal Cert.AttnIdeal.Gen Cert.Row

/-- The gradient of the query tile at row `r`, column `d` of head `h`, from the staged blocks. -/
def tileDq (x0 : Vec Ideal S1x1024x1024 .bf16) (x1 : Vec Ideal S1024x1024 .bf16) (x2 : Vec Ideal S8x256x256 .bf16)
    (h : Fin 4) (r : Fin 1024) (d : Fin 256) : EReal :=
  dq (fun e => x0 (ix3 0 r (hd h e))) (fun j e => x2 (ix3 (sk h) j e)) (fun e => x1 (ix2 r (hd h e))) (fun j e => x2 (ix3 (sv h) j e)) d

/-- The tile's share of the gradient of head `h`'s keys. -/
def tileDk (x0 : Vec Ideal S1x1024x1024 .bf16) (x1 : Vec Ideal S1024x1024 .bf16) (x2 : Vec Ideal S8x256x256 .bf16)
    (h : Fin 4) (a d : Fin 256) : EReal :=
  ∑ r : Fin 1024, ds (fun e => x0 (ix3 0 r (hd h e))) (fun j e => x2 (ix3 (sk h) j e)) (fun e => x1 (ix2 r (hd h e)))
    (fun j e => x2 (ix3 (sv h) j e)) a * x0 (ix3 0 r (hd h d))

/-- The tile's share of the gradient of head `h`'s values. -/
def tileDv (x0 : Vec Ideal S1x1024x1024 .bf16) (x1 : Vec Ideal S1024x1024 .bf16) (x2 : Vec Ideal S8x256x256 .bf16)
    (h : Fin 4) (a d : Fin 256) : EReal :=
  ∑ r : Fin 1024, pr (fun e => x0 (ix3 0 r (hd h e))) (fun j e => x2 (ix3 (sk h) j e)) a * x1 (ix2 r (hd h d))

/-- The query gradient's tile as one block. -/
def blkDq (x0 : Vec Ideal S1x1024x1024 .bf16) (x1 : Vec Ideal S1024x1024 .bf16) (x2 : Vec Ideal S8x256x256 .bf16) :
    Vec Ideal S1x1024x1024 .bf16 := fun y =>
  tileDq x0 x1 x2 ⟨(y 2).val / 256, by have h : (y 2).val < 1024 := (y 2).isLt; omega⟩ (y 1) ⟨(y 2).val % 256, by omega⟩

theorem blkDq_at (x0 : Vec Ideal S1x1024x1024 .bf16) (x1 : Vec Ideal S1024x1024 .bf16) (x2 : Vec Ideal S8x256x256 .bf16)
    (h : Fin 4) (r : Fin 1024) (d : Fin 256) : blkDq x0 x1 x2 (ix3 0 r (hd h d)) = tileDq x0 x1 x2 h r d := by
  have e1 : (⟨(256 * h.val + d.val) / 256, by omega⟩ : Fin 4) = h := Fin.ext (by show (256 * h.val + d.val) / 256 = h.val; omega)
  have e2 : (⟨(256 * h.val + d.val) % 256, by omega⟩ : Fin 256) = d := Fin.ext (by show (256 * h.val + d.val) % 256 = d.val; omega)
  show tileDq x0 x1 x2 ⟨(256 * h.val + d.val) / 256, _⟩ r ⟨(256 * h.val + d.val) % 256, _⟩ = _
  rw [e1, e2]

/-- What the accumulator holds after a tile, from what it held before: at the slots of the heads' keys and of the heads' values. -/
def blkAcc (x0 : Vec Ideal S1x1024x1024 .bf16) (x1 : Vec Ideal S1024x1024 .bf16) (x2 : Vec Ideal S8x256x256 .bf16)
    (s : Vec Ideal S8x256x256 .f32) : Vec Ideal S8x256x256 .f32 := fun y =>
  s y + if h : (y 0).val < 4 then tileDk x0 x1 x2 ⟨(y 0).val, h⟩ (y 1) (y 2)
    else tileDv x0 x1 x2 ⟨(y 0).val - 4, by have h : (y 0).val < 8 := (y 0).isLt; omega⟩ (y 1) (y 2)

theorem blkAcc_k (x0 : Vec Ideal S1x1024x1024 .bf16) (x1 : Vec Ideal S1024x1024 .bf16) (x2 : Vec Ideal S8x256x256 .bf16)
    (s : Vec Ideal S8x256x256 .f32) (h : Fin 4) (a d : Fin 256) :
    blkAcc x0 x1 x2 s (ix3 (sk h) a d) = s (ix3 (sk h) a d) + tileDk x0 x1 x2 h a d := by
  show s (ix3 (sk h) a d) + (if h' : h.val < 4 then _ else _) = _
  rw [dif_pos h.isLt]; rfl

theorem blkAcc_v (x0 : Vec Ideal S1x1024x1024 .bf16) (x1 : Vec Ideal S1024x1024 .bf16) (x2 : Vec Ideal S8x256x256 .bf16)
    (s : Vec Ideal S8x256x256 .f32) (h : Fin 4) (a d : Fin 256) :
    blkAcc x0 x1 x2 s (ix3 (sv h) a d) = s (ix3 (sv h) a d) + tileDv x0 x1 x2 h a d := by
  have e : (⟨4 + h.val - 4, by omega⟩ : Fin 4) = h := Fin.ext (by show 4 + h.val - 4 = h.val; omega)
  show s (ix3 (sv h) a d) + (if h' : 4 + h.val < 4 then _ else tileDv x0 x1 x2 ⟨4 + h.val - 4, _⟩ a d) = _
  rw [dif_neg (by omega), e]

end Cert.AttnIdeal.Val
-- ==== Proof.LeafA.lean ====
module

public import Idealize.ShloMosaic.Lib.Pointwise
public import Idealize.ShloMosaic.Lib.Pipeline.ReadBack
public import proofs.«01_k».proof.Proof.Gen.AttnIdeal.Frame
public import proofs.«01_k».proof.Proof.Leaf

@[expose] public section

set_option maxRecDepth 16384

noncomputable section

namespace Cert.AttnIdeal.Val

open Idealize.ShloMosaic Idealize.ShloMosaic.TcCoe Idealize.ShloMosaic.Tactic Idealize.SL.Sem
open Cert.AttnIdeal Cert.AttnIdeal.Gen Cert.Row

section
variable (c : Dev nD) (i : grid0.Coords) (arg2 : Memref sig .tc .vmem S1x1024x1024 .bf16) (harg2 : arg2.IsWhole)
  (arg3 : Memref sig .tc .vmem S1024x1024 .bf16) (harg3 : arg3.IsWhole) (arg4 : Memref sig .tc .vmem S8x256x256 .bf16) (harg4 : arg4.IsWhole)
  (arg5 : Memref sig .tc .vmem S256x1024 .bf16) (harg5 : arg5.IsWhole) (arg6 : Memref sig .tc .vmem S8x1024x256 .bf16) (harg6 : arg6.IsWhole)
  (arg7 : Memref sig .tc .vmem S256x1024 .f32) (harg7 : arg7.IsWhole) (arg8 : Memref sig .tc .vmem S1x1024 .f32) (harg8 : arg8.IsWhole)
  (arg9 : Memref sig .tc .vmem S1x1024x1024 .bf16) (harg9 : arg9.IsWhole) (arg10 : Memref sig .tc .vmem S8x1024x256 .bf16) (harg10 : arg10.IsWhole)
  (arg11 : Memref sig .tc .vmem S1x1024 .f32) (harg11 : arg11.IsWhole) (arg12 : Memref sig .tc .vmem S8x256x256 .f32) (harg12 : arg12.IsWhole)
  (x0 : Vec Ideal S1x1024x1024 .bf16) (x1 : Vec Ideal S1024x1024 .bf16) (x2 : Vec Ideal S8x256x256 .bf16) (x3 : Vec Ideal S256x1024 .bf16)
  (x4 : Vec Ideal S8x1024x256 .bf16) (x5 : Vec Ideal S256x1024 .f32) (x6 : Vec Ideal S1x1024 .f32)

/-- What a point of case A leaves in the query gradient's staging block. -/
theorem out7_A (hc0 : cond0_0 i) (hc1 : ¬cond0_1 i) :
    out0_A_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = blkDq x0 x1 x2 := by
  funext y
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 hc1 x0 x1 x2 x3 x4 x5 x6)]
  refine View.canon_apply_of_pieces (blkDq x0 x1 x2) _ (View.PiecesOf.mem ?_) y (cover0_A_7 c i arg2 harg2 arg3 harg3 arg4 harg4 arg5 harg5 arg6 harg6 arg7 harg7 arg8 harg8 arg9 harg9 arg10 harg10 arg11 harg11 arg12 harg12 hc0 hc1 x0 x1 x2 x3 x4 x5 x6 y)
  unfold kernelRun0_A
  dsimp only
  sl_unfold_words
  refine ⟨?_, ?_, ?_, ?_, trivial⟩
  · intro w
    change S1x1024x256.Idx at w
    idx_vars w
    obtain rfl : w0 = 0 := Subsingleton.elim _ _
    refine (dq3_at _ _ _ _ _ _).trans ?_
    change _ = View.ld (blkDq x0 x1 x2) (Rect.unit ![0, 0, 768] ![1, 1024, 256] inb_S1x1024x1024_S1x1024x256_0_0_768) (ix3 0 w1 w2)
    simp only [View.readAt_eq_ld, harg2.read_unread, harg3.read_unread, harg4.read_unread, harg12.read_unread]
    pointwise
    exact (blkDq_at x0 x1 x2 3 w1 w2).symm
  · intro w
    change S1x1024x256.Idx at w
    idx_vars w
    obtain rfl : w0 = 0 := Subsingleton.elim _ _
    refine (dq2_at _ _ _ _ _ _).trans ?_
    change _ = View.ld (blkDq x0 x1 x2) (Rect.unit ![0, 0, 512] ![1, 1024, 256] inb_S1x1024x1024_S1x1024x256_0_0_512) (ix3 0 w1 w2)
    simp only [View.readAt_eq_ld, harg2.read_unread, harg3.read_unread, harg4.read_unread, harg12.read_unread]
    pointwise
    exact (blkDq_at x0 x1 x2 2 w1 w2).symm
  · intro w
    change S1x1024x256.Idx at w
    idx_vars w
    obtain rfl : w0 = 0 := Subsingleton.elim _ _
    refine (dq1_at _ _ _ _ _ _).trans ?_
    change _ = View.ld (blkDq x0 x1 x2) (Rect.unit ![0, 0, 256] ![1, 1024, 256] inb_S1x1024x1024_S1x1024x256_0_0_256) (ix3 0 w1 w2)
    simp only [View.readAt_eq_ld, harg2.read_unread, harg3.read_unread, harg4.read_unread, harg12.read_unread]
    pointwise
    exact (blkDq_at x0 x1 x2 1 w1 w2).symm
  · intro w
    change S1x1024x256.Idx at w
    idx_vars w
    obtain rfl : w0 = 0 := Subsingleton.elim _ _
    refine (dq0_at _ _ _ _ _ _).trans ?_
    change _ = View.ld (blkDq x0 x1 x2) (Rect.unit ![0, 0, 0] ![1, 1024, 256] inb_S1x1024x1024_S1x1024x256_0_0_0) (ix3 0 w1 w2)
    simp only [View.readAt_eq_ld, harg2.read_unread, harg3.read_unread, harg4.read_unread, harg12.read_unread]
    pointwise
    have e := blkDq_at x0 x1 x2 0 w1 w2; simp only [tileDq, hd0] at e; exact e.symm

set_option maxHeartbeats 1600000 in
/-- What a point of case A leaves in the accumulator, which it clears first. -/
theorem sout_A (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = blkAcc x0 x1 x2 (fun _ => 0) := by
  funext y
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  refine View.canon_append_of_piecesOf (blkAcc x0 x1 x2 (fun _ => 0)) [_] [_, _, _, _, _, _, _, _] ?_ y ?_
  swap
  · exact View.cover_of_tiledL (s := S8x256x256) _ S1x256x256.size (by sl_kernel_rfl) y
  refine ⟨?_, ?_, ?_, ?_, ?_, ?_, ?_, ?_, trivial⟩
  · intro w
    change S1x256x256.Idx at w
    idx_vars w
    obtain rfl : w0 = 0 := Subsingleton.elim _ _
    refine (dv3_at _ _ _ _ _ _).trans ?_
    change _ = View.ld (blkAcc x0 x1 x2 (fun _ => 0)) (Rect.unit ![7, 0, 0] ![1, 256, 256] inb_S8x256x256_S1x256x256_7_0_0) (ix3 0 w1 w2)
    simp (disch := decide) only [↓ View.readCov_skip, ↓ View.readCov_cons_toLoadRect, ↓ View.readCov_fill]
    simp only [View.readAt_eq_ld, harg2.read_unread, harg3.read_unread, harg4.read_unread, harg12.read_unread]
    pointwise [k0_pay27]
    exact ((blkAcc_v x0 x1 x2 (fun _ => 0) 3 w1 w2).trans (zero_add _)).symm
  · intro w
    change S1x256x256.Idx at w
    idx_vars w
    obtain rfl : w0 = 0 := Subsingleton.elim _ _
    refine (dk3_at _ _ _ _ _ _ _).trans ?_
    change _ = View.ld (blkAcc x0 x1 x2 (fun _ => 0)) (Rect.unit ![3, 0, 0] ![1, 256, 256] inb_S8x256x256_S1x256x256_3_0_0) (ix3 0 w1 w2)
    simp (disch := decide) only [↓ View.readCov_skip, ↓ View.readCov_cons_toLoadRect, ↓ View.readCov_fill]
    simp only [View.readAt_eq_ld, harg2.read_unread, harg3.read_unread, harg4.read_unread, harg12.read_unread]
    pointwise [k0_pay27]
    exact ((blkAcc_k x0 x1 x2 (fun _ => 0) 3 w1 w2).trans (zero_add _)).symm
  · intro w
    change S1x256x256.Idx at w
    idx_vars w
    obtain rfl : w0 = 0 := Subsingleton.elim _ _
    refine (dv2_at _ _ _ _ _ _).trans ?_
    change _ = View.ld (blkAcc x0 x1 x2 (fun _ => 0)) (Rect.unit ![6, 0, 0] ![1, 256, 256] inb_S8x256x256_S1x256x256_6_0_0) (ix3 0 w1 w2)
    simp (disch := decide) only [↓ View.readCov_skip, ↓ View.readCov_cons_toLoadRect, ↓ View.readCov_fill]
    simp only [View.readAt_eq_ld, harg2.read_unread, harg3.read_unread, harg4.read_unread, harg12.read_unread]
    pointwise [k0_pay27]
    exact ((blkAcc_v x0 x1 x2 (fun _ => 0) 2 w1 w2).trans (zero_add _)).symm
  · intro w
    change S1x256x256.Idx at w
    idx_vars w
    obtain rfl : w0 = 0 := Subsingleton.elim _ _
    refine (dk2_at _ _ _ _ _ _ _).trans ?_
    change _ = View.ld (blkAcc x0 x1 x2 (fun _ => 0)) (Rect.unit ![2, 0, 0] ![1, 256, 256] inb_S8x256x256_S1x256x256_2_0_0) (ix3 0 w1 w2)
    simp (disch := decide) only [↓ View.readCov_skip, ↓ View.readCov_cons_toLoadRect, ↓ View.readCov_fill]
    simp only [View.readAt_eq_ld, harg2.read_unread, harg3.read_unread, harg4.read_unread, harg12.read_unread]
    pointwise [k0_pay27]
    exact ((blkAcc_k x0 x1 x2 (fun _ => 0) 2 w1 w2).trans (zero_add _)).symm
  · intro w
    change S1x256x256.Idx at w
    idx_vars w
    obtain rfl : w0 = 0 := Subsingleton.elim _ _
    refine (dv1_at _ _ _ _ _ _).trans ?_
    change _ = View.ld (blkAcc x0 x1 x2 (fun _ => 0)) (Rect.unit ![5, 0, 0] ![1, 256, 256] inb_S8x256x256_S1x256x256_5_0_0) (ix3 0 w1 w2)
    simp (disch := decide) only [↓ View.readCov_skip, ↓ View.readCov_cons_toLoadRect, ↓ View.readCov_fill]
    simp only [View.readAt_eq_ld, harg2.read_unread, harg3.read_unread, harg4.read_unread, harg12.read_unread]
    pointwise [k0_pay27]
    exact ((blkAcc_v x0 x1 x2 (fun _ => 0) 1 w1 w2).trans (zero_add _)).symm
  · intro w
    change S1x256x256.Idx at w
    idx_vars w
    obtain rfl : w0 = 0 := Subsingleton.elim _ _
    refine (dk1_at _ _ _ _ _ _ _).trans ?_
    change _ = View.ld (blkAcc x0 x1 x2 (fun _ => 0)) (Rect.unit ![1, 0, 0] ![1, 256, 256] inb_S8x256x256_S1x256x256_1_0_0) (ix3 0 w1 w2)
    simp (disch := decide) only [↓ View.readCov_skip, ↓ View.readCov_cons_toLoadRect, ↓ View.readCov_fill]
    simp only [View.readAt_eq_ld, harg2.read_unread, harg3.read_unread, harg4.read_unread, harg12.read_unread]
    pointwise [k0_pay27]
    exact ((blkAcc_k x0 x1 x2 (fun _ => 0) 1 w1 w2).trans (zero_add _)).symm
  · intro w
    change S1x256x256.Idx at w
    idx_vars w
    obtain rfl : w0 = 0 := Subsingleton.elim _ _
    refine (dv0_at _ _ _ _ _ _).trans ?_
    change _ = View.ld (blkAcc x0 x1 x2 (fun _ => 0)) (Rect.unit ![4, 0, 0] ![1, 256, 256] inb_S8x256x256_S1x256x256_4_0_0) (ix3 0 w1 w2)
    simp (disch := decide) only [↓ View.readCov_skip, ↓ View.readCov_cons_toLoadRect, ↓ View.readCov_fill]
    simp only [View.readAt_eq_ld, harg2.read_unread, harg3.read_unread, harg4.read_unread, harg12.read_unread]
    pointwise [k0_pay27]
    have e := ((blkAcc_v x0 x1 x2 (fun _ => 0) 0 w1 w2).trans (zero_add _)); simp only [tileDk, tileDv, hd0] at e; exact e.symm
  · intro w
    change S1x256x256.Idx at w
    idx_vars w
    obtain rfl : w0 = 0 := Subsingleton.elim _ _
    refine (dk0_at _ _ _ _ _ _ _).trans ?_
    change _ = View.ld (blkAcc x0 x1 x2 (fun _ => 0)) (Rect.unit ![0, 0, 0] ![1, 256, 256] inb_S8x256x256_S1x256x256_0_0_0) (ix3 0 w1 w2)
    simp (disch := decide) only [↓ View.readCov_skip, ↓ View.readCov_cons_toLoadRect, ↓ View.readCov_fill]
    simp only [View.readAt_eq_ld, harg2.read_unread, harg3.read_unread, harg4.read_unread, harg12.read_unread]
    pointwise [k0_pay27]
    have e := ((blkAcc_k x0 x1 x2 (fun _ => 0) 0 w1 w2).trans (zero_add _)); simp only [tileDk, tileDv, hd0] at e; exact e.symm
end

end Cert.AttnIdeal.Val
-- ==== Proof.LeafB.lean ====
module

public import Idealize.ShloMosaic.Lib.Pointwise
public import Idealize.ShloMosaic.Lib.Pipeline.ReadBack
public import proofs.«01_k».proof.Proof.Gen.AttnIdeal.Frame
public import proofs.«01_k».proof.Proof.Leaf

@[expose] public section

set_option maxRecDepth 16384

noncomputable section

namespace Cert.AttnIdeal.Val

open Idealize.ShloMosaic Idealize.ShloMosaic.TcCoe Idealize.ShloMosaic.Tactic Idealize.SL.Sem
open Cert.AttnIdeal Cert.AttnIdeal.Gen Cert.Row

section
variable (c : Dev nD) (i : grid0.Coords) (arg2 : Memref sig .tc .vmem S1x1024x1024 .bf16) (harg2 : arg2.IsWhole)
  (arg3 : Memref sig .tc .vmem S1024x1024 .bf16) (harg3 : arg3.IsWhole) (arg4 : Memref sig .tc .vmem S8x256x256 .bf16) (harg4 : arg4.IsWhole)
  (arg5 : Memref sig .tc .vmem S256x1024 .bf16) (harg5 : arg5.IsWhole) (arg6 : Memref sig .tc .vmem S8x1024x256 .bf16) (harg6 : arg6.IsWhole)
  (arg7 : Memref sig .tc .vmem S256x1024 .f32) (harg7 : arg7.IsWhole) (arg8 : Memref sig .tc .vmem S1x1024 .f32) (harg8 : arg8.IsWhole)
  (arg9 : Memref sig .tc .vmem S1x1024x1024 .bf16) (harg9 : arg9.IsWhole) (arg10 : Memref sig .tc .vmem S8x1024x256 .bf16) (harg10 : arg10.IsWhole)
  (arg11 : Memref sig .tc .vmem S1x1024 .f32) (harg11 : arg11.IsWhole) (arg12 : Memref sig .tc .vmem S8x256x256 .f32) (harg12 : arg12.IsWhole)
  (x0 : Vec Ideal S1x1024x1024 .bf16) (x1 : Vec Ideal S1024x1024 .bf16) (x2 : Vec Ideal S8x256x256 .bf16) (x3 : Vec Ideal S256x1024 .bf16)
  (x4 : Vec Ideal S8x1024x256 .bf16) (x5 : Vec Ideal S256x1024 .f32) (x6 : Vec Ideal S1x1024 .f32)

/-- What a point of case B leaves in the query gradient's staging block. -/
theorem out7_B (hc0 : ¬cond0_0 i) (hc1 : ¬cond0_1 i) (xs0 : Vec Ideal S8x256x256 .f32) :
    out0_B_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 = blkDq x0 x1 x2 := by
  funext y
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0)]
  refine View.canon_apply_of_pieces (blkDq x0 x1 x2) _ (View.PiecesOf.mem ?_) y (cover0_B_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_B
  dsimp only
  sl_unfold_words
  refine ⟨?_, ?_, ?_, ?_, trivial⟩
  · intro w
    change S1x1024x256.Idx at w
    idx_vars w
    obtain rfl : w0 = 0 := Subsingleton.elim _ _
    refine (dq3_at _ _ _ _ _ _).trans ?_
    change _ = View.ld (blkDq x0 x1 x2) (Rect.unit ![0, 0, 768] ![1, 1024, 256] inb_S1x1024x1024_S1x1024x256_0_0_768) (ix3 0 w1 w2)
    simp only [View.readAt_eq_ld, harg2.read_unread, harg3.read_unread, harg4.read_unread, harg12.read_unread]
    pointwise
    exact (blkDq_at x0 x1 x2 3 w1 w2).symm
  · intro w
    change S1x1024x256.Idx at w
    idx_vars w
    obtain rfl : w0 = 0 := Subsingleton.elim _ _
    refine (dq2_at _ _ _ _ _ _).trans ?_
    change _ = View.ld (blkDq x0 x1 x2) (Rect.unit ![0, 0, 512] ![1, 1024, 256] inb_S1x1024x1024_S1x1024x256_0_0_512) (ix3 0 w1 w2)
    simp only [View.readAt_eq_ld, harg2.read_unread, harg3.read_unread, harg4.read_unread, harg12.read_unread]
    pointwise
    exact (blkDq_at x0 x1 x2 2 w1 w2).symm
  · intro w
    change S1x1024x256.Idx at w
    idx_vars w
    obtain rfl : w0 = 0 := Subsingleton.elim _ _
    refine (dq1_at _ _ _ _ _ _).trans ?_
    change _ = View.ld (blkDq x0 x1 x2) (Rect.unit ![0, 0, 256] ![1, 1024, 256] inb_S1x1024x1024_S1x1024x256_0_0_256) (ix3 0 w1 w2)
    simp only [View.readAt_eq_ld, harg2.read_unread, harg3.read_unread, harg4.read_unread, harg12.read_unread]
    pointwise
    exact (blkDq_at x0 x1 x2 1 w1 w2).symm
  · intro w
    change S1x1024x256.Idx at w
    idx_vars w
    obtain rfl : w0 = 0 := Subsingleton.elim _ _
    refine (dq0_at _ _ _ _ _ _).trans ?_
    change _ = View.ld (blkDq x0 x1 x2) (Rect.unit ![0, 0, 0] ![1, 1024, 256] inb_S1x1024x1024_S1x1024x256_0_0_0) (ix3 0 w1 w2)
    simp only [View.readAt_eq_ld, harg2.read_unread, harg3.read_unread, harg4.read_unread, harg12.read_unread]
    pointwise
    have e := blkDq_at x0 x1 x2 0 w1 w2; simp only [tileDq, hd0] at e; exact e.symm

set_option maxHeartbeats 1600000 in
/-- What a point of case B leaves in the accumulator. -/
theorem sout_B (hc0 : ¬cond0_0 i) (hc1 : ¬cond0_1 i) (xs0 : Vec Ideal S8x256x256 .f32) :
    sout0_B_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 = blkAcc x0 x1 x2 xs0 := by
  funext y
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0)]
  refine View.canon_apply_of_pieces (blkAcc x0 x1 x2 xs0) _ (View.PiecesOf.mem ?_) y (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_B
  dsimp only
  sl_unfold_words
  refine ⟨?_, ?_, ?_, ?_, ?_, ?_, ?_, ?_, trivial⟩
  · intro w
    change S1x256x256.Idx at w
    idx_vars w
    obtain rfl : w0 = 0 := Subsingleton.elim _ _
    refine (dv3_at _ _ _ _ _ _).trans ?_
    change _ = View.ld (blkAcc x0 x1 x2 xs0) (Rect.unit ![7, 0, 0] ![1, 256, 256] inb_S8x256x256_S1x256x256_7_0_0) (ix3 0 w1 w2)
    simp only [View.readAt_eq_ld, harg2.read_unread, harg3.read_unread, harg4.read_unread, harg12.read_unread]
    pointwise
    exact (blkAcc_v x0 x1 x2 xs0 3 w1 w2).symm
  · intro w
    change S1x256x256.Idx at w
    idx_vars w
    obtain rfl : w0 = 0 := Subsingleton.elim _ _
    refine (dk3_at _ _ _ _ _ _ _).trans ?_
    change _ = View.ld (blkAcc x0 x1 x2 xs0) (Rect.unit ![3, 0, 0] ![1, 256, 256] inb_S8x256x256_S1x256x256_3_0_0) (ix3 0 w1 w2)
    simp only [View.readAt_eq_ld, harg2.read_unread, harg3.read_unread, harg4.read_unread, harg12.read_unread]
    pointwise
    exact (blkAcc_k x0 x1 x2 xs0 3 w1 w2).symm
  · intro w
    change S1x256x256.Idx at w
    idx_vars w
    obtain rfl : w0 = 0 := Subsingleton.elim _ _
    refine (dv2_at _ _ _ _ _ _).trans ?_
    change _ = View.ld (blkAcc x0 x1 x2 xs0) (Rect.unit ![6, 0, 0] ![1, 256, 256] inb_S8x256x256_S1x256x256_6_0_0) (ix3 0 w1 w2)
    simp only [View.readAt_eq_ld, harg2.read_unread, harg3.read_unread, harg4.read_unread, harg12.read_unread]
    pointwise
    exact (blkAcc_v x0 x1 x2 xs0 2 w1 w2).symm
  · intro w
    change S1x256x256.Idx at w
    idx_vars w
    obtain rfl : w0 = 0 := Subsingleton.elim _ _
    refine (dk2_at _ _ _ _ _ _ _).trans ?_
    change _ = View.ld (blkAcc x0 x1 x2 xs0) (Rect.unit ![2, 0, 0] ![1, 256, 256] inb_S8x256x256_S1x256x256_2_0_0) (ix3 0 w1 w2)
    simp only [View.readAt_eq_ld, harg2.read_unread, harg3.read_unread, harg4.read_unread, harg12.read_unread]
    pointwise
    exact (blkAcc_k x0 x1 x2 xs0 2 w1 w2).symm
  · intro w
    change S1x256x256.Idx at w
    idx_vars w
    obtain rfl : w0 = 0 := Subsingleton.elim _ _
    refine (dv1_at _ _ _ _ _ _).trans ?_
    change _ = View.ld (blkAcc x0 x1 x2 xs0) (Rect.unit ![5, 0, 0] ![1, 256, 256] inb_S8x256x256_S1x256x256_5_0_0) (ix3 0 w1 w2)
    simp only [View.readAt_eq_ld, harg2.read_unread, harg3.read_unread, harg4.read_unread, harg12.read_unread]
    pointwise
    exact (blkAcc_v x0 x1 x2 xs0 1 w1 w2).symm
  · intro w
    change S1x256x256.Idx at w
    idx_vars w
    obtain rfl : w0 = 0 := Subsingleton.elim _ _
    refine (dk1_at _ _ _ _ _ _ _).trans ?_
    change _ = View.ld (blkAcc x0 x1 x2 xs0) (Rect.unit ![1, 0, 0] ![1, 256, 256] inb_S8x256x256_S1x256x256_1_0_0) (ix3 0 w1 w2)
    simp only [View.readAt_eq_ld, harg2.read_unread, harg3.read_unread, harg4.read_unread, harg12.read_unread]
    pointwise
    exact (blkAcc_k x0 x1 x2 xs0 1 w1 w2).symm
  · intro w
    change S1x256x256.Idx at w
    idx_vars w
    obtain rfl : w0 = 0 := Subsingleton.elim _ _
    refine (dv0_at _ _ _ _ _ _).trans ?_
    change _ = View.ld (blkAcc x0 x1 x2 xs0) (Rect.unit ![4, 0, 0] ![1, 256, 256] inb_S8x256x256_S1x256x256_4_0_0) (ix3 0 w1 w2)
    simp only [View.readAt_eq_ld, harg2.read_unread, harg3.read_unread, harg4.read_unread, harg12.read_unread]
    pointwise
    have e := (blkAcc_v x0 x1 x2 xs0 0 w1 w2); simp only [tileDk, tileDv, hd0] at e; exact e.symm
  · intro w
    change S1x256x256.Idx at w
    idx_vars w
    obtain rfl : w0 = 0 := Subsingleton.elim _ _
    refine (dk0_at _ _ _ _ _ _ _).trans ?_
    change _ = View.ld (blkAcc x0 x1 x2 xs0) (Rect.unit ![0, 0, 0] ![1, 256, 256] inb_S8x256x256_S1x256x256_0_0_0) (ix3 0 w1 w2)
    simp only [View.readAt_eq_ld, harg2.read_unread, harg3.read_unread, harg4.read_unread, harg12.read_unread]
    pointwise
    have e := (blkAcc_k x0 x1 x2 xs0 0 w1 w2); simp only [tileDk, tileDv, hd0] at e; exact e.symm
end

end Cert.AttnIdeal.Val
-- ==== Proof.LeafC.lean ====
module

public import Idealize.ShloMosaic.Lib.Pointwise
public import Idealize.ShloMosaic.Lib.Pipeline.ReadBack
public import proofs.«01_k».proof.Proof.Gen.AttnIdeal.Frame
public import proofs.«01_k».proof.Proof.Leaf

@[expose] public section

set_option maxRecDepth 16384

noncomputable section

namespace Cert.AttnIdeal.Val

open Idealize.ShloMosaic Idealize.ShloMosaic.TcCoe Idealize.ShloMosaic.Tactic Idealize.SL.Sem
open Cert.AttnIdeal Cert.AttnIdeal.Gen Cert.Row

section
variable (c : Dev nD) (i : grid0.Coords) (arg2 : Memref sig .tc .vmem S1x1024x1024 .bf16) (harg2 : arg2.IsWhole)
  (arg3 : Memref sig .tc .vmem S1024x1024 .bf16) (harg3 : arg3.IsWhole) (arg4 : Memref sig .tc .vmem S8x256x256 .bf16) (harg4 : arg4.IsWhole)
  (arg5 : Memref sig .tc .vmem S256x1024 .bf16) (harg5 : arg5.IsWhole) (arg6 : Memref sig .tc .vmem S8x1024x256 .bf16) (harg6 : arg6.IsWhole)
  (arg7 : Memref sig .tc .vmem S256x1024 .f32) (harg7 : arg7.IsWhole) (arg8 : Memref sig .tc .vmem S1x1024 .f32) (harg8 : arg8.IsWhole)
  (arg9 : Memref sig .tc .vmem S1x1024x1024 .bf16) (harg9 : arg9.IsWhole) (arg10 : Memref sig .tc .vmem S8x1024x256 .bf16) (harg10 : arg10.IsWhole)
  (arg11 : Memref sig .tc .vmem S1x1024 .f32) (harg11 : arg11.IsWhole) (arg12 : Memref sig .tc .vmem S8x256x256 .f32) (harg12 : arg12.IsWhole)
  (x0 : Vec Ideal S1x1024x1024 .bf16) (x1 : Vec Ideal S1024x1024 .bf16) (x2 : Vec Ideal S8x256x256 .bf16) (x3 : Vec Ideal S256x1024 .bf16)
  (x4 : Vec Ideal S8x1024x256 .bf16) (x5 : Vec Ideal S256x1024 .f32) (x6 : Vec Ideal S1x1024 .f32)

/-- What a point of case C leaves in the query gradient's staging block. -/
theorem out7_C (hc0 : ¬cond0_0 i) (hc1 : cond0_1 i) (xs0 : Vec Ideal S8x256x256 .f32) :
    out0_C_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 = blkDq x0 x1 x2 := by
  funext y
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0)]
  refine View.canon_apply_of_pieces (blkDq x0 x1 x2) _ (View.PiecesOf.mem ?_) y (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_C
  dsimp only
  sl_unfold_words
  refine ⟨?_, ?_, ?_, ?_, trivial⟩
  · intro w
    change S1x1024x256.Idx at w
    idx_vars w
    obtain rfl : w0 = 0 := Subsingleton.elim _ _
    refine (dq3_at _ _ _ _ _ _).trans ?_
    change _ = View.ld (blkDq x0 x1 x2) (Rect.unit ![0, 0, 768] ![1, 1024, 256] inb_S1x1024x1024_S1x1024x256_0_0_768) (ix3 0 w1 w2)
    simp only [View.readAt_eq_ld, harg2.read_unread, harg3.read_unread, harg4.read_unread, harg12.read_unread]
    pointwise
    exact (blkDq_at x0 x1 x2 3 w1 w2).symm
  · intro w
    change S1x1024x256.Idx at w
    idx_vars w
    obtain rfl : w0 = 0 := Subsingleton.elim _ _
    refine (dq2_at _ _ _ _ _ _).trans ?_
    change _ = View.ld (blkDq x0 x1 x2) (Rect.unit ![0, 0, 512] ![1, 1024, 256] inb_S1x1024x1024_S1x1024x256_0_0_512) (ix3 0 w1 w2)
    simp only [View.readAt_eq_ld, harg2.read_unread, harg3.read_unread, harg4.read_unread, harg12.read_unread]
    pointwise
    exact (blkDq_at x0 x1 x2 2 w1 w2).symm
  · intro w
    change S1x1024x256.Idx at w
    idx_vars w
    obtain rfl : w0 = 0 := Subsingleton.elim _ _
    refine (dq1_at _ _ _ _ _ _).trans ?_
    change _ = View.ld (blkDq x0 x1 x2) (Rect.unit ![0, 0, 256] ![1, 1024, 256] inb_S1x1024x1024_S1x1024x256_0_0_256) (ix3 0 w1 w2)
    simp only [View.readAt_eq_ld, harg2.read_unread, harg3.read_unread, harg4.read_unread, harg12.read_unread]
    pointwise
    exact (blkDq_at x0 x1 x2 1 w1 w2).symm
  · intro w
    change S1x1024x256.Idx at w
    idx_vars w
    obtain rfl : w0 = 0 := Subsingleton.elim _ _
    refine (dq0_at _ _ _ _ _ _).trans ?_
    change _ = View.ld (blkDq x0 x1 x2) (Rect.unit ![0, 0, 0] ![1, 1024, 256] inb_S1x1024x1024_S1x1024x256_0_0_0) (ix3 0 w1 w2)
    simp only [View.readAt_eq_ld, harg2.read_unread, harg3.read_unread, harg4.read_unread, harg12.read_unread]
    pointwise
    have e := blkDq_at x0 x1 x2 0 w1 w2; simp only [tileDq, hd0] at e; exact e.symm

set_option maxHeartbeats 1600000 in
/-- What a point of case C leaves in the accumulator. -/
theorem sout_C (hc0 : ¬cond0_0 i) (hc1 : cond0_1 i) (xs0 : Vec Ideal S8x256x256 .f32) :
    sout0_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 = blkAcc x0 x1 x2 xs0 := by
  funext y
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0)]
  refine View.canon_apply_of_pieces (blkAcc x0 x1 x2 xs0) _ (View.PiecesOf.mem ?_) y (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_C
  dsimp only
  sl_unfold_words
  refine ⟨?_, ?_, ?_, ?_, ?_, ?_, ?_, ?_, trivial⟩
  · intro w
    change S1x256x256.Idx at w
    idx_vars w
    obtain rfl : w0 = 0 := Subsingleton.elim _ _
    refine (dv3_at _ _ _ _ _ _).trans ?_
    change _ = View.ld (blkAcc x0 x1 x2 xs0) (Rect.unit ![7, 0, 0] ![1, 256, 256] inb_S8x256x256_S1x256x256_7_0_0) (ix3 0 w1 w2)
    simp only [View.readAt_eq_ld, harg2.read_unread, harg3.read_unread, harg4.read_unread, harg12.read_unread]
    pointwise
    exact (blkAcc_v x0 x1 x2 xs0 3 w1 w2).symm
  · intro w
    change S1x256x256.Idx at w
    idx_vars w
    obtain rfl : w0 = 0 := Subsingleton.elim _ _
    refine (dk3_at _ _ _ _ _ _ _).trans ?_
    change _ = View.ld (blkAcc x0 x1 x2 xs0) (Rect.unit ![3, 0, 0] ![1, 256, 256] inb_S8x256x256_S1x256x256_3_0_0) (ix3 0 w1 w2)
    simp only [View.readAt_eq_ld, harg2.read_unread, harg3.read_unread, harg4.read_unread, harg12.read_unread]
    pointwise
    exact (blkAcc_k x0 x1 x2 xs0 3 w1 w2).symm
  · intro w
    change S1x256x256.Idx at w
    idx_vars w
    obtain rfl : w0 = 0 := Subsingleton.elim _ _
    refine (dv2_at _ _ _ _ _ _).trans ?_
    change _ = View.ld (blkAcc x0 x1 x2 xs0) (Rect.unit ![6, 0, 0] ![1, 256, 256] inb_S8x256x256_S1x256x256_6_0_0) (ix3 0 w1 w2)
    simp only [View.readAt_eq_ld, harg2.read_unread, harg3.read_unread, harg4.read_unread, harg12.read_unread]
    pointwise
    exact (blkAcc_v x0 x1 x2 xs0 2 w1 w2).symm
  · intro w
    change S1x256x256.Idx at w
    idx_vars w
    obtain rfl : w0 = 0 := Subsingleton.elim _ _
    refine (dk2_at _ _ _ _ _ _ _).trans ?_
    change _ = View.ld (blkAcc x0 x1 x2 xs0) (Rect.unit ![2, 0, 0] ![1, 256, 256] inb_S8x256x256_S1x256x256_2_0_0) (ix3 0 w1 w2)
    simp only [View.readAt_eq_ld, harg2.read_unread, harg3.read_unread, harg4.read_unread, harg12.read_unread]
    pointwise
    exact (blkAcc_k x0 x1 x2 xs0 2 w1 w2).symm
  · intro w
    change S1x256x256.Idx at w
    idx_vars w
    obtain rfl : w0 = 0 := Subsingleton.elim _ _
    refine (dv1_at _ _ _ _ _ _).trans ?_
    change _ = View.ld (blkAcc x0 x1 x2 xs0) (Rect.unit ![5, 0, 0] ![1, 256, 256] inb_S8x256x256_S1x256x256_5_0_0) (ix3 0 w1 w2)
    simp only [View.readAt_eq_ld, harg2.read_unread, harg3.read_unread, harg4.read_unread, harg12.read_unread]
    pointwise
    exact (blkAcc_v x0 x1 x2 xs0 1 w1 w2).symm
  · intro w
    change S1x256x256.Idx at w
    idx_vars w
    obtain rfl : w0 = 0 := Subsingleton.elim _ _
    refine (dk1_at _ _ _ _ _ _ _).trans ?_
    change _ = View.ld (blkAcc x0 x1 x2 xs0) (Rect.unit ![1, 0, 0] ![1, 256, 256] inb_S8x256x256_S1x256x256_1_0_0) (ix3 0 w1 w2)
    simp only [View.readAt_eq_ld, harg2.read_unread, harg3.read_unread, harg4.read_unread, harg12.read_unread]
    pointwise
    exact (blkAcc_k x0 x1 x2 xs0 1 w1 w2).symm
  · intro w
    change S1x256x256.Idx at w
    idx_vars w
    obtain rfl : w0 = 0 := Subsingleton.elim _ _
    refine (dv0_at _ _ _ _ _ _).trans ?_
    change _ = View.ld (blkAcc x0 x1 x2 xs0) (Rect.unit ![4, 0, 0] ![1, 256, 256] inb_S8x256x256_S1x256x256_4_0_0) (ix3 0 w1 w2)
    simp only [View.readAt_eq_ld, harg2.read_unread, harg3.read_unread, harg4.read_unread, harg12.read_unread]
    pointwise
    have e := (blkAcc_v x0 x1 x2 xs0 0 w1 w2); simp only [tileDk, tileDv, hd0] at e; exact e.symm
  · intro w
    change S1x256x256.Idx at w
    idx_vars w
    obtain rfl : w0 = 0 := Subsingleton.elim _ _
    refine (dk0_at _ _ _ _ _ _ _).trans ?_
    change _ = View.ld (blkAcc x0 x1 x2 xs0) (Rect.unit ![0, 0, 0] ![1, 256, 256] inb_S8x256x256_S1x256x256_0_0_0) (ix3 0 w1 w2)
    simp only [View.readAt_eq_ld, harg2.read_unread, harg3.read_unread, harg4.read_unread, harg12.read_unread]
    pointwise
    have e := (blkAcc_k x0 x1 x2 xs0 0 w1 w2); simp only [tileDk, tileDv, hd0] at e; exact e.symm
end

end Cert.AttnIdeal.Val
-- ==== Proof.Tail.lean ====
module

public import Idealize.ShloMosaic.Lib.Pointwise
public import proofs.«01_k».proof.Proof.Gen.AttnIdeal.Skeleton
public import proofs.«01_k».proof.Proof.Row

@[expose] public section

set_option maxRecDepth 16384

noncomputable section

/-! The vectors of the last grid point, read at an index: the weight gradients and the gain gradient from the finished accumulator. -/

namespace Cert.AttnIdeal.Val

open Idealize.ShloMosaic Idealize.ShloMosaic.TcCoe Idealize.SL.Sem
open Cert.AttnIdeal Cert.AttnIdeal.Gen Cert.Row

/-- Slot 0 of the weight gradient. -/
theorem dw0_at (s : Vec Ideal S1x256x256 .f32) (n : Vec Ideal S256x1024 .bf16) (a : Fin 1024) (d : Fin 256) :
    k0_pay5 (F := Ideal) s n (ix3 0 a d) = ∑ m : Fin 256, n (ix2 m a) * s (ix3 0 m d) := by
  pointwise [k0_pay5, k0_pay4]

/-- Slot 1 of the weight gradient. -/
theorem dw1_at (s : Vec Ideal S1x256x256 .f32) (n : Vec Ideal S256x1024 .bf16) (a : Fin 1024) (d : Fin 256) :
    k0_pay7 (F := Ideal) s n (ix3 0 a d) = ∑ m : Fin 256, n (ix2 m a) * s (ix3 0 m d) := by
  pointwise [k0_pay7, k0_pay6]

/-- Slot 2 of the weight gradient. -/
theorem dw2_at (s : Vec Ideal S1x256x256 .f32) (n : Vec Ideal S256x1024 .bf16) (a : Fin 1024) (d : Fin 256) :
    k0_pay10 (F := Ideal) s n (ix3 0 a d) = ∑ m : Fin 256, n (ix2 m a) * s (ix3 0 m d) := by
  pointwise [k0_pay10, k0_pay9]

/-- Slot 3 of the weight gradient. -/
theorem dw3_at (s : Vec Ideal S1x256x256 .f32) (n : Vec Ideal S256x1024 .bf16) (a : Fin 1024) (d : Fin 256) :
    k0_pay12 (F := Ideal) s n (ix3 0 a d) = ∑ m : Fin 256, n (ix2 m a) * s (ix3 0 m d) := by
  pointwise [k0_pay12, k0_pay11]

/-- Slot 4 of the weight gradient. -/
theorem dw4_at (s : Vec Ideal S1x256x256 .f32) (n : Vec Ideal S256x1024 .bf16) (a : Fin 1024) (d : Fin 256) :
    k0_pay15 (F := Ideal) (k0_pay14 s) n (ix3 0 a d) = ∑ m : Fin 256, n (ix2 m a) * s (ix3 0 m d) := by
  pointwise [k0_pay15, k0_pay14]

/-- Slot 5 of the weight gradient. -/
theorem dw5_at (s : Vec Ideal S1x256x256 .f32) (n : Vec Ideal S256x1024 .bf16) (a : Fin 1024) (d : Fin 256) :
    k0_pay17 (F := Ideal) s n (ix3 0 a d) = ∑ m : Fin 256, n (ix2 m a) * s (ix3 0 m d) := by
  pointwise [k0_pay17, k0_pay16]

/-- Slot 6 of the weight gradient. -/
theorem dw6_at (s : Vec Ideal S1x256x256 .f32) (n : Vec Ideal S256x1024 .bf16) (a : Fin 1024) (d : Fin 256) :
    k0_pay21 (F := Ideal) (k0_pay19 s) (k0_pay20 n) (ix3 0 a d) = ∑ m : Fin 256, n (ix2 m a) * s (ix3 0 m d) := by
  pointwise [k0_pay21, k0_pay20, k0_pay19]

/-- Slot 7 of the weight gradient. -/
theorem dw7_at (s : Vec Ideal S1x256x256 .f32) (n : Vec Ideal S256x1024 .bf16) (a : Fin 1024) (d : Fin 256) :
    k0_pay23 (F := Ideal) s n (ix3 0 a d) = ∑ m : Fin 256, n (ix2 m a) * s (ix3 0 m d) := by
  pointwise [k0_pay23, k0_pay22]

/-- The slots' share of the gradient of the normalised memory at token `m`, column `a`. -/
def slotShare (s : Vec Ideal S1x256x256 .f32) (w : Vec Ideal S1x1024x256 .bf16) (m : Fin 256) (a : Fin 1024) : EReal :=
  ∑ d : Fin 256, s (ix3 0 m d) * w (ix3 0 a d)

/-- The gain gradient at column `a`. -/
theorem dgain_at (s0 s1 s2 s3 s4 s5 s6 s7 : Vec Ideal S1x256x256 .f32) (w0 w1 w2 w3 w4 w5 w6 w7 : Vec Ideal S1x1024x256 .bf16) (x : Vec Ideal S256x1024 .f32) (a : Fin 1024) :
    k0_pay3 (F := Ideal) (k0_pay24 (k0_pay18 (k0_pay13 (k0_pay8 s0 w0 s1 w1) s2 w2 s3 w3) (k0_pay14 s4) w4 s5 w5) (k0_pay19 s6) w6 s7 w7)
      (k0_pay25 x) (k0_pay26 x) (ix2 0 a)
      = ∑ m : Fin 256, (slotShare s0 w0 m a + slotShare s1 w1 m a + slotShare s2 w2 m a + slotShare s3 w3 m a
          + slotShare s4 w4 m a + slotShare s5 w5 m a + slotShare s6 w6 m a + slotShare s7 w7 m a)
        * (x (ix2 m a) * Ideal.rsqrt (Ideal.div (∑ k : Fin 1024, x (ix2 m k) * x (ix2 m k)) (Ideal.ofBits .f32 0x44800000#32)
            + Ideal.ofBits .f32 0x358637BD#32)) := by
  pointwise [k0_pay3, k0_pay24, k0_pay18, k0_pay13, k0_pay8, k0_pay4, k0_pay6, k0_pay9, k0_pay11, k0_pay14, k0_pay16, k0_pay19, k0_pay22, k0_pay25, k0_pay26]
  rfl

end Cert.AttnIdeal.Val
-- ==== Proof.LeafT.lean ====
module

public import Idealize.ShloMosaic.Lib.Pointwise
public import Idealize.ShloMosaic.Lib.Pipeline.ReadBack
public import proofs.«01_k».proof.Proof.Gen.AttnIdeal.Frame
public import proofs.«01_k».proof.Proof.Leaf
public import proofs.«01_k».proof.Proof.Tail

@[expose] public section

set_option maxRecDepth 16384

noncomputable section

namespace Cert.AttnIdeal.Val

open Idealize.ShloMosaic Idealize.ShloMosaic.TcCoe Idealize.ShloMosaic.Tactic Idealize.SL.Sem
open Cert.AttnIdeal Cert.AttnIdeal.Gen Cert.Row

/-- The weight gradient from the finished accumulator: one product per slot. -/
def blkDw (n : Vec Ideal S256x1024 .bf16) (s : Vec Ideal S8x256x256 .f32) : Vec Ideal S8x1024x256 .bf16 := fun y =>
  ∑ m : Fin 256, n (ix2 m (y 1)) * s (ix3 (y 0) m (y 2))

/-- The gain gradient from the finished accumulator. -/
def blkDg (s : Vec Ideal S8x256x256 .f32) (w : Vec Ideal S8x1024x256 .bf16) (x : Vec Ideal S256x1024 .f32) : Vec Ideal S1x1024 .f32 := fun y =>
  ∑ m : Fin 256, ((∑ d : Fin 256, s (ix3 0 m d) * w (ix3 0 (y 1) d)) + (∑ d : Fin 256, s (ix3 1 m d) * w (ix3 1 (y 1) d)) + (∑ d : Fin 256, s (ix3 2 m d) * w (ix3 2 (y 1) d)) + (∑ d : Fin 256, s (ix3 3 m d) * w (ix3 3 (y 1) d)) + (∑ d : Fin 256, s (ix3 4 m d) * w (ix3 4 (y 1) d)) + (∑ d : Fin 256, s (ix3 5 m d) * w (ix3 5 (y 1) d)) + (∑ d : Fin 256, s (ix3 6 m d) * w (ix3 6 (y 1) d)) + (∑ d : Fin 256, s (ix3 7 m d) * w (ix3 7 (y 1) d)))
    * (x (ix2 m (y 1)) * Ideal.rsqrt (Ideal.div (∑ k : Fin 1024, x (ix2 m k) * x (ix2 m k)) (Ideal.ofBits .f32 0x44800000#32)
        + Ideal.ofBits .f32 0x358637BD#32))

/-- Eight sums agree when their terms do. -/
theorem add8 {a0 a1 a2 a3 a4 a5 a6 a7 b0 b1 b2 b3 b4 b5 b6 b7 : EReal} (h0 : a0 = b0) (h1 : a1 = b1) (h2 : a2 = b2) (h3 : a3 = b3)
    (h4 : a4 = b4) (h5 : a5 = b5) (h6 : a6 = b6) (h7 : a7 = b7) :
    a0 + a1 + a2 + a3 + a4 + a5 + a6 + a7 = b0 + b1 + b2 + b3 + b4 + b5 + b6 + b7 := by
  rw [h0, h1, h2, h3, h4, h5, h6, h7]

section
variable (c : Dev nD) (i : grid0.Coords) (arg2 : Memref sig .tc .vmem S1x1024x1024 .bf16) (harg2 : arg2.IsWhole)
  (arg3 : Memref sig .tc .vmem S1024x1024 .bf16) (harg3 : arg3.IsWhole) (arg4 : Memref sig .tc .vmem S8x256x256 .bf16) (harg4 : arg4.IsWhole)
  (arg5 : Memref sig .tc .vmem S256x1024 .bf16) (harg5 : arg5.IsWhole) (arg6 : Memref sig .tc .vmem S8x1024x256 .bf16) (harg6 : arg6.IsWhole)
  (arg7 : Memref sig .tc .vmem S256x1024 .f32) (harg7 : arg7.IsWhole) (arg8 : Memref sig .tc .vmem S1x1024 .f32) (harg8 : arg8.IsWhole)
  (arg9 : Memref sig .tc .vmem S1x1024x1024 .bf16) (harg9 : arg9.IsWhole) (arg10 : Memref sig .tc .vmem S8x1024x256 .bf16) (harg10 : arg10.IsWhole)
  (arg11 : Memref sig .tc .vmem S1x1024 .f32) (harg11 : arg11.IsWhole) (arg12 : Memref sig .tc .vmem S8x256x256 .f32) (harg12 : arg12.IsWhole)
  (x0 : Vec Ideal S1x1024x1024 .bf16) (x1 : Vec Ideal S1024x1024 .bf16) (x2 : Vec Ideal S8x256x256 .bf16) (x3 : Vec Ideal S256x1024 .bf16)
  (x4 : Vec Ideal S8x1024x256 .bf16) (x5 : Vec Ideal S256x1024 .f32) (x6 : Vec Ideal S1x1024 .f32)

set_option maxHeartbeats 3200000 in
/-- What the last point leaves in the weight gradient's staging block. -/
theorem out8_C (hc0 : ¬cond0_0 i) (hc1 : cond0_1 i) (xs0 : Vec Ideal S8x256x256 .f32) :
    out0_C_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 = blkDw x3 (blkAcc x0 x1 x2 xs0) := by
  funext y
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0)]
  refine View.canon_apply_of_pieces (blkDw x3 (blkAcc x0 x1 x2 xs0)) _ (View.PiecesOf.mem ?_) y (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_C
  dsimp only
  sl_unfold_words
  refine ⟨?_, ?_, ?_, ?_, ?_, ?_, ?_, ?_, trivial⟩
  · intro w
    change S1x1024x256.Idx at w
    idx_vars w
    obtain rfl : w0 = 0 := Subsingleton.elim _ _
    simp (disch := decide) only [↓ View.readCov_skip, ↓ View.readCov_cons_toLoadRect]
    refine (dw7_at _ _ _ _).trans ?_
    change _ = View.ld (blkDw x3 (blkAcc x0 x1 x2 xs0)) (Rect.unit ![7, 0, 0] ![1, 1024, 256] inb_S8x1024x256_S1x1024x256_7_0_0) (ix3 0 w1 w2)
    simp only [dv3_at, View.readAt_eq_ld, harg2.read_unread, harg3.read_unread, harg4.read_unread, harg5.read_unread, harg6.read_unread, harg7.read_unread, harg12.read_unread]
    pointwise
    refine Finset.sum_congr rfl fun m _ => congrArg (x3 (ix2 m w1) * ·) ?_
    exact (blkAcc_v x0 x1 x2 xs0 3 m w2).symm
  · intro w
    change S1x1024x256.Idx at w
    idx_vars w
    obtain rfl : w0 = 0 := Subsingleton.elim _ _
    simp (disch := decide) only [↓ View.readCov_skip, ↓ View.readCov_cons_toLoadRect]
    refine (dw6_at _ _ _ _).trans ?_
    change _ = View.ld (blkDw x3 (blkAcc x0 x1 x2 xs0)) (Rect.unit ![6, 0, 0] ![1, 1024, 256] inb_S8x1024x256_S1x1024x256_6_0_0) (ix3 0 w1 w2)
    simp only [dv2_at, View.readAt_eq_ld, harg2.read_unread, harg3.read_unread, harg4.read_unread, harg5.read_unread, harg6.read_unread, harg7.read_unread, harg12.read_unread]
    pointwise
    refine Finset.sum_congr rfl fun m _ => congrArg (x3 (ix2 m w1) * ·) ?_
    exact (blkAcc_v x0 x1 x2 xs0 2 m w2).symm
  · intro w
    change S1x1024x256.Idx at w
    idx_vars w
    obtain rfl : w0 = 0 := Subsingleton.elim _ _
    simp (disch := decide) only [↓ View.readCov_skip, ↓ View.readCov_cons_toLoadRect]
    refine (dw5_at _ _ _ _).trans ?_
    change _ = View.ld (blkDw x3 (blkAcc x0 x1 x2 xs0)) (Rect.unit ![5, 0, 0] ![1, 1024, 256] inb_S8x1024x256_S1x1024x256_5_0_0) (ix3 0 w1 w2)
    simp only [dv1_at, View.readAt_eq_ld, harg2.read_unread, harg3.read_unread, harg4.read_unread, harg5.read_unread, harg6.read_unread, harg7.read_unread, harg12.read_unread]
    pointwise
    refine Finset.sum_congr rfl fun m _ => congrArg (x3 (ix2 m w1) * ·) ?_
    exact (blkAcc_v x0 x1 x2 xs0 1 m w2).symm
  · intro w
    change S1x1024x256.Idx at w
    idx_vars w
    obtain rfl : w0 = 0 := Subsingleton.elim _ _
    simp (disch := decide) only [↓ View.readCov_skip, ↓ View.readCov_cons_toLoadRect]
    refine (dw4_at _ _ _ _).trans ?_
    change _ = View.ld (blkDw x3 (blkAcc x0 x1 x2 xs0)) (Rect.unit ![4, 0, 0] ![1, 1024, 256] inb_S8x1024x256_S1x1024x256_4_0_0) (ix3 0 w1 w2)
    simp only [dv0_at, View.readAt_eq_ld, harg2.read_unread, harg3.read_unread, harg4.read_unread, harg5.read_unread, harg6.read_unread, harg7.read_unread, harg12.read_unread]
    pointwise
    refine Finset.sum_congr rfl fun m _ => congrArg (x3 (ix2 m w1) * ·) ?_
    have e := blkAcc_v x0 x1 x2 xs0 0 m w2; simp only [tileDk, tileDv, hd0] at e; exact e.symm
  · intro w
    change S1x1024x256.Idx at w
    idx_vars w
    obtain rfl : w0 = 0 := Subsingleton.elim _ _
    simp (disch := decide) only [↓ View.readCov_skip, ↓ View.readCov_cons_toLoadRect]
    refine (dw3_at _ _ _ _).trans ?_
    change _ = View.ld (blkDw x3 (blkAcc x0 x1 x2 xs0)) (Rect.unit ![3, 0, 0] ![1, 1024, 256] inb_S8x1024x256_S1x1024x256_3_0_0) (ix3 0 w1 w2)
    simp only [dk3_at, View.readAt_eq_ld, harg2.read_unread, harg3.read_unread, harg4.read_unread, harg5.read_unread, harg6.read_unread, harg7.read_unread, harg12.read_unread]
    pointwise
    refine Finset.sum_congr rfl fun m _ => congrArg (x3 (ix2 m w1) * ·) ?_
    exact (blkAcc_k x0 x1 x2 xs0 3 m w2).symm
  · intro w
    change S1x1024x256.Idx at w
    idx_vars w
    obtain rfl : w0 = 0 := Subsingleton.elim _ _
    simp (disch := decide) only [↓ View.readCov_skip, ↓ View.readCov_cons_toLoadRect]
    refine (dw2_at _ _ _ _).trans ?_
    change _ = View.ld (blkDw x3 (blkAcc x0 x1 x2 xs0)) (Rect.unit ![2, 0, 0] ![1, 1024, 256] inb_S8x1024x256_S1x1024x256_2_0_0) (ix3 0 w1 w2)
    simp only [dk2_at, View.readAt_eq_ld, harg2.read_unread, harg3.read_unread, harg4.read_unread, harg5.read_unread, harg6.read_unread, harg7.read_unread, harg12.read_unread]
    pointwise
    refine Finset.sum_congr rfl fun m _ => congrArg (x3 (ix2 m w1) * ·) ?_
    exact (blkAcc_k x0 x1 x2 xs0 2 m w2).symm
  · intro w
    change S1x1024x256.Idx at w
    idx_vars w
    obtain rfl : w0 = 0 := Subsingleton.elim _ _
    simp (disch := decide) only [↓ View.readCov_skip, ↓ View.readCov_cons_toLoadRect]
    refine (dw1_at _ _ _ _).trans ?_
    change _ = View.ld (blkDw x3 (blkAcc x0 x1 x2 xs0)) (Rect.unit ![1, 0, 0] ![1, 1024, 256] inb_S8x1024x256_S1x1024x256_1_0_0) (ix3 0 w1 w2)
    simp only [dk1_at, View.readAt_eq_ld, harg2.read_unread, harg3.read_unread, harg4.read_unread, harg5.read_unread, harg6.read_unread, harg7.read_unread, harg12.read_unread]
    pointwise
    refine Finset.sum_congr rfl fun m _ => congrArg (x3 (ix2 m w1) * ·) ?_
    exact (blkAcc_k x0 x1 x2 xs0 1 m w2).symm
  · intro w
    change S1x1024x256.Idx at w
    idx_vars w
    obtain rfl : w0 = 0 := Subsingleton.elim _ _
    simp (disch := decide) only [↓ View.readCov_skip, ↓ View.readCov_cons_toLoadRect]
    refine (dw0_at _ _ _ _).trans ?_
    change _ = View.ld (blkDw x3 (blkAcc x0 x1 x2 xs0)) (Rect.unit ![0, 0, 0] ![1, 1024, 256] inb_S8x1024x256_S1x1024x256_0_0_0) (ix3 0 w1 w2)
    simp only [dk0_at, View.readAt_eq_ld, harg2.read_unread, harg3.read_unread, harg4.read_unread, harg5.read_unread, harg6.read_unread, harg7.read_unread, harg12.read_unread]
    pointwise
    refine Finset.sum_congr rfl fun m _ => congrArg (x3 (ix2 m w1) * ·) ?_
    have e := blkAcc_k x0 x1 x2 xs0 0 m w2; simp only [tileDk, tileDv, hd0] at e; exact e.symm

set_option maxHeartbeats 3200000 in
/-- What the last point leaves in the gain gradient's staging block. -/
theorem out9_C (hc0 : ¬cond0_0 i) (hc1 : cond0_1 i) (xs0 : Vec Ideal S8x256x256 .f32) :
    out0_C_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 = blkDg (blkAcc x0 x1 x2 xs0) x4 x5 := by
  funext y
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 xs0)]
  refine View.canon_apply_of_pieces (blkDg (blkAcc x0 x1 x2 xs0) x4 x5) _ (View.PiecesOf.mem ?_) y (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 xs0 y)
  unfold kernelRun0_C
  dsimp only
  sl_unfold_words
  refine ⟨?_, trivial⟩
  intro w
  change S1x1024.Idx at w
  idx_vars w
  obtain rfl : w0 = 0 := Subsingleton.elim _ _
  simp (disch := decide) only [↓ View.readCov_skip, ↓ View.readCov_cons_toLoadRect]
  refine (dgain_at _ _ _ _ _ _ _ _ _ _ _ _ _ _ _ _ _ _).trans ?_
  change _ = View.ld (blkDg (blkAcc x0 x1 x2 xs0) x4 x5) (Rect.unit ![0, 0] ![1, 1024] inb_S1x1024_S1x1024_0_0) (ix2 0 w1)
  simp only [slotShare, dk0_at, dk1_at, dk2_at, dk3_at, dv0_at, dv1_at, dv2_at, dv3_at, View.readAt_eq_ld, harg2.read_unread, harg3.read_unread, harg4.read_unread, harg5.read_unread, harg6.read_unread, harg7.read_unread, harg12.read_unread]
  pointwise
  have e0 := blkAcc_k x0 x1 x2 xs0 0
  have e4 := blkAcc_v x0 x1 x2 xs0 0
  simp only [tileDk, tileDv, hd0] at e0 e4
  have e1 := blkAcc_k x0 x1 x2 xs0 1
  have e2 := blkAcc_k x0 x1 x2 xs0 2
  have e3 := blkAcc_k x0 x1 x2 xs0 3
  have e5 := blkAcc_v x0 x1 x2 xs0 1
  have e6 := blkAcc_v x0 x1 x2 xs0 2
  have e7 := blkAcc_v x0 x1 x2 xs0 3
  refine Finset.sum_congr rfl fun m _ => congrArg (· * _) (add8 ?_ ?_ ?_ ?_ ?_ ?_ ?_ ?_)
  · exact Finset.sum_congr rfl fun d _ => congrArg (· * _) (e0 m d).symm
  · exact Finset.sum_congr rfl fun d _ => congrArg (· * _) (e1 m d).symm
  · exact Finset.sum_congr rfl fun d _ => congrArg (· * _) (e2 m d).symm
  · exact Finset.sum_congr rfl fun d _ => congrArg (· * _) (e3 m d).symm
  · exact Finset.sum_congr rfl fun d _ => congrArg (· * _) (e4 m d).symm
  · exact Finset.sum_congr rfl fun d _ => congrArg (· * _) (e5 m d).symm
  · exact Finset.sum_congr rfl fun d _ => congrArg (· * _) (e6 m d).symm
  · exact Finset.sum_congr rfl fun d _ => congrArg (· * _) (e7 m d).symm
end

end Cert.AttnIdeal.Val
-- ==== Proof.Kernel.lean ====
module

public import Idealize.ShloMosaic.Lib.Pipeline.ValueKit
public import proofs.«01_k».proof.Proof.Gen.AttnIdeal.Value
public import proofs.«01_k».proof.Proof.Entry
public import proofs.«01_k».proof.Proof.LeafA
public import proofs.«01_k».proof.Proof.LeafB
public import proofs.«01_k».proof.Proof.LeafC
public import proofs.«01_k».proof.Proof.LeafT

@[expose] public section

set_option maxRecDepth 16384

noncomputable section

/-! The kernel's three result arrays as functions of the arguments. -/

namespace Cert.AttnIdeal.Val

open Idealize.ShloMosaic Idealize.ShloMosaic.TcCoe Idealize.ShloMosaic.Tactic Idealize.SL.Sem
open Cert.AttnIdeal Cert.AttnIdeal.Gen Cert.AttnIdeal.Value Cert.Row

variable (m : (ℓ : Loc nD τ sig) → Buf (Elt Ideal) ℓ)

/-- The keys and values, from the memory. -/
abbrev aKV (c : Dev nD) : Fin 256 → Fin 2048 → EReal := kvF (aX m c) (aG m c) (aW m c)

/-- The staged blocks of point `t`, at their shapes. -/
def b0 (c : Dev nD) (t : Fin cfg0.N) : Vec Ideal S1x1024x1024 .bf16 := iblk m c 0 t
def b1 (c : Dev nD) (t : Fin cfg0.N) : Vec Ideal S1024x1024 .bf16 := iblk m c 1 t
def b2 (c : Dev nD) (t : Fin cfg0.N) : Vec Ideal S8x256x256 .bf16 := iblk m c 2 t
def b3 (c : Dev nD) (t : Fin cfg0.N) : Vec Ideal S256x1024 .bf16 := iblk m c 3 t
def b4 (c : Dev nD) (t : Fin cfg0.N) : Vec Ideal S8x1024x256 .bf16 := iblk m c 4 t
def b5 (c : Dev nD) (t : Fin cfg0.N) : Vec Ideal S256x1024 .f32 := iblk m c 5 t

theorem b0_at (c : Dev nD) (t : Fin cfg0.N) (r k : Fin 1024) (h : 1024 * t.val + r.val < 4096) :
    b0 m c t (ix3 0 r k) = aP m c ⟨1024 * t.val + r.val, h⟩ k := blk0_at m c t r k h
theorem b1_at (c : Dev nD) (t : Fin cfg0.N) (r k : Fin 1024) (h : 1024 * t.val + r.val < 4096) :
    b1 m c t (ix2 r k) = aO m c ⟨1024 * t.val + r.val, h⟩ k := blk1_at m c t r k h
theorem b2_at (c : Dev nD) (t : Fin cfg0.N) (g : Fin 8) (j d : Fin 256) :
    b2 m c t (ix3 g j d) = kvF (aX m c) (aG m c) (aW m c) j (c8 g d) := blk2_at m c t g j d
theorem b3_at (c : Dev nD) (t : Fin cfg0.N) (j : Fin 256) (a : Fin 1024) :
    b3 m c t (ix2 j a) = memn (aX m c) (aG m c) j a := blk3_at m c t j a
theorem b4_at (c : Dev nD) (t : Fin cfg0.N) (g : Fin 8) (a : Fin 1024) (d : Fin 256) :
    b4 m c t (ix3 g a d) = aW m c a (c8 g d) := blk4_at m c t g a d
theorem b5_at (c : Dev nD) (t : Fin cfg0.N) (j : Fin 256) (a : Fin 1024) :
    b5 m c t (ix2 j a) = aX m c j a := blk5_at m c t j a

/-- The accumulator after point `n`. -/
def acc (c : Dev nD) (n : Nat) (h : n < cfg0.N) : Vec Ideal S8x256x256 .f32 := (outsAt0 m c n h).2.2.2

/-- Every point leaves its tile of the query gradient. -/
theorem tile7 (c : Dev nD) (t : Fin cfg0.N) : (outsAt0 m c t.val t.isLt).1 = blkDq (b0 m c t) (b1 m c t) (b2 m c t) := by
  by_cases h0 : t.val % 4 = 0
  · have h1 : ¬t.val % 4 = 3 := by omega
    have e := congrArg (fun x => x.1) (outsAt0_A m c t h0 h1)
    dsimp only at e
    exact e.trans (out7_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h)))
  · by_cases h1 : t.val % 4 = 3
    · have e := congrArg (fun x => x.1) (outsAt0_C m c t h0 h1)
      dsimp only at e
      exact e.trans (out7_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (fun h => h0 ((hcond0_0 t).mp h)) ((hcond0_1 t).mpr h1) (outsAt0 m c (t.val - 1) (Nat.lt_of_le_of_lt (Nat.sub_le _ _) t.isLt)).2.2.2)
    · have e := congrArg (fun x => x.1) (outsAt0_B m c t h0 h1)
      dsimp only at e
      exact e.trans (out7_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (fun h => h0 ((hcond0_0 t).mp h)) (fun h => h1 ((hcond0_1 t).mp h)) (outsAt0 m c (t.val - 1) (Nat.lt_of_le_of_lt (Nat.sub_le _ _) t.isLt)).2.2.2)

/-- The accumulator after the first point. -/
theorem acc_first (c : Dev nD) (t : Fin cfg0.N) (h0 : t.val % 4 = 0) :
    acc m c t.val t.isLt = blkAcc (b0 m c t) (b1 m c t) (b2 m c t) (fun _ => 0) := by
  have h1 : ¬t.val % 4 = 3 := by omega
  have e := congrArg (fun x => x.2.2.2) (outsAt0_A m c t h0 h1)
  dsimp only at e
  exact e.trans (sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h)))

/-- The accumulator after a middle point. -/
theorem acc_mid (c : Dev nD) (t : Fin cfg0.N) (h0 : ¬t.val % 4 = 0) (h1 : ¬t.val % 4 = 3) :
    acc m c t.val t.isLt = blkAcc (b0 m c t) (b1 m c t) (b2 m c t) (acc m c (t.val - 1) (Nat.lt_of_le_of_lt (Nat.sub_le _ _) t.isLt)) := by
  have e := congrArg (fun x => x.2.2.2) (outsAt0_B m c t h0 h1)
  dsimp only at e
  exact e.trans (sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (fun h => h0 ((hcond0_0 t).mp h)) (fun h => h1 ((hcond0_1 t).mp h)) (outsAt0 m c (t.val - 1) (Nat.lt_of_le_of_lt (Nat.sub_le _ _) t.isLt)).2.2.2)

/-- The weight gradient at the last point, over what the point before left. -/
theorem dw_last (c : Dev nD) (t : Fin cfg0.N) (h0 : ¬t.val % 4 = 0) (h1 : t.val % 4 = 3) :
    (outsAt0 m c t.val t.isLt).2.1 = blkDw (b3 m c t) (blkAcc (b0 m c t) (b1 m c t) (b2 m c t) (acc m c (t.val - 1) (Nat.lt_of_le_of_lt (Nat.sub_le _ _) t.isLt))) := by
  have e := congrArg (fun x => x.2.1) (outsAt0_C m c t h0 h1)
  dsimp only at e
  exact e.trans (out8_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (fun h => h0 ((hcond0_0 t).mp h)) ((hcond0_1 t).mpr h1) (outsAt0 m c (t.val - 1) (Nat.lt_of_le_of_lt (Nat.sub_le _ _) t.isLt)).2.2.2)

/-- The gain gradient at the last point, over what the point before left. -/
theorem dg_last (c : Dev nD) (t : Fin cfg0.N) (h0 : ¬t.val % 4 = 0) (h1 : t.val % 4 = 3) :
    (outsAt0 m c t.val t.isLt).2.2.1 = blkDg (blkAcc (b0 m c t) (b1 m c t) (b2 m c t) (acc m c (t.val - 1) (Nat.lt_of_le_of_lt (Nat.sub_le _ _) t.isLt))) (b4 m c t) (b5 m c t) := by
  have e := congrArg (fun x => x.2.2.1) (outsAt0_C m c t h0 h1)
  dsimp only at e
  exact e.trans (out9_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (fun h => h0 ((hcond0_0 t).mp h)) ((hcond0_1 t).mpr h1) (outsAt0 m c (t.val - 1) (Nat.lt_of_le_of_lt (Nat.sub_le _ _) t.isLt)).2.2.2)

theorem acc0 (c : Dev nD) (h) : acc m c 0 h = blkAcc (b0 m c ⟨0, h⟩) (b1 m c ⟨0, h⟩) (b2 m c ⟨0, h⟩) (fun _ => 0) :=
  acc_first m c ⟨0, h⟩ (Nat.zero_mod _)

theorem acc_succ (c : Dev nD) (n : Nat) (h : n + 1 < cfg0.N) (h' : n < cfg0.N) (hn : n < 2) :
    acc m c (n + 1) h = blkAcc (b0 m c ⟨n + 1, h⟩) (b1 m c ⟨n + 1, h⟩) (b2 m c ⟨n + 1, h⟩) (acc m c n h') :=
  acc_mid m c ⟨n + 1, h⟩ (by show ¬(n + 1) % 4 = 0; omega) (by show ¬(n + 1) % 4 = 3; omega)

/-- The four points. -/
def pt (k : Fin 4) : Fin cfg0.N := ⟨k.val, k.isLt⟩

theorem pt_val (k : Fin 4) : (pt k).val = k.val := rfl

/-- The accumulator after all four tiles. -/
def acc4 (c : Dev nD) : Vec Ideal S8x256x256 .f32 :=
  blkAcc (b0 m c (pt 3)) (b1 m c (pt 3)) (b2 m c (pt 3))
    (blkAcc (b0 m c (pt 2)) (b1 m c (pt 2)) (b2 m c (pt 2))
      (blkAcc (b0 m c (pt 1)) (b1 m c (pt 1)) (b2 m c (pt 1))
        (blkAcc (b0 m c (pt 0)) (b1 m c (pt 0)) (b2 m c (pt 0)) (fun _ => 0))))

theorem acc4_eq (c : Dev nD) (h) : blkAcc (b0 m c (pt 3)) (b1 m c (pt 3)) (b2 m c (pt 3)) (acc m c 2 h) = acc4 m c := by
  have e2 : acc m c 2 h = blkAcc (b0 m c (pt 2)) (b1 m c (pt 2)) (b2 m c (pt 2)) (acc m c 1 (pt 1).isLt) :=
    acc_succ m c 1 h (pt 1).isLt (by decide)
  have e1 : acc m c 1 (pt 1).isLt = blkAcc (b0 m c (pt 1)) (b1 m c (pt 1)) (b2 m c (pt 1)) (acc m c 0 (pt 0).isLt) :=
    acc_succ m c 0 (pt 1).isLt (pt 0).isLt (by decide)
  have e0 : acc m c 0 (pt 0).isLt = blkAcc (b0 m c (pt 0)) (b1 m c (pt 0)) (b2 m c (pt 0)) (fun _ => 0) := acc0 m c _
  rw [e2, e1, e0]
  rfl

theorem last8 (c : Dev nD) (t : Fin cfg0.N) (h : t.val = 3) : (outsAt0 m c t.val t.isLt).2.1 = blkDw (b3 m c t) (acc4 m c) := by
  obtain rfl : t = pt 3 := Fin.ext h
  refine (dw_last m c (pt 3) (by decide) (by decide)).trans ?_
  rw [← acc4_eq m c (pt 2).isLt]
  rfl

theorem last9 (c : Dev nD) (t : Fin cfg0.N) (h : t.val = 3) : (outsAt0 m c t.val t.isLt).2.2.1 = blkDg (acc4 m c) (b4 m c t) (b5 m c t) := by
  obtain rfl : t = pt 3 := Fin.ext h
  refine (dg_last m c (pt 3) (by decide) (by decide)).trans ?_
  rw [← acc4_eq m c (pt 2).isLt]
  rfl

/-- Row `t`'s share of the keys' gradient. -/
def tmk (c : Dev nD) (h : Fin 4) (a d : Fin 256) (t : Fin 4096) : EReal :=
  ds (fun e => aP m c t (hd h e)) (fun j e => aKV m c j (c8 (sk h) e)) (fun e => aO m c t (hd h e)) (fun j e => aKV m c j (c8 (sv h) e)) a * aP m c t (hd h d)

theorem DK_eq (c : Dev nD) (h : Fin 4) (a d : Fin 256) : DK (aKV m c) (aP m c) (aO m c) h a d = ∑ t, tmk m c h a d t := rfl

/-- A tile's share of the keys' gradient, from the arguments. -/
theorem tileDk_at (c : Dev nD) (k : Fin 4) (h : Fin 4) (a d : Fin 256) :
    tileDk (b0 m c (pt k)) (b1 m c (pt k)) (b2 m c (pt k)) h a d
      = ∑ r : Fin 1024, tmk m c h a d ⟨1024 * k.val + r.val, by omega⟩ := by
  unfold tileDk
  refine Finset.sum_congr rfl fun r _ => ?_
  have e0 := fun e => b0_at m c (pt k) r e (by show 1024 * k.val + r.val < 4096; omega)
  have e1 := fun e => b1_at m c (pt k) r e (by show 1024 * k.val + r.val < 4096; omega)
  have e2 := b2_at m c (pt k)
  simp only [e0, e1, e2]
  rfl

/-- Row `t`'s share of the values' gradient. -/
def tmv (c : Dev nD) (h : Fin 4) (a d : Fin 256) (t : Fin 4096) : EReal :=
  pr (fun e => aP m c t (hd h e)) (fun j e => aKV m c j (c8 (sk h) e)) a * aO m c t (hd h d)

theorem DV_eq (c : Dev nD) (h : Fin 4) (a d : Fin 256) : DV (aKV m c) (aP m c) (aO m c) h a d = ∑ t, tmv m c h a d t := rfl

/-- A tile's share of the values' gradient, from the arguments. -/
theorem tileDv_at (c : Dev nD) (k : Fin 4) (h : Fin 4) (a d : Fin 256) :
    tileDv (b0 m c (pt k)) (b1 m c (pt k)) (b2 m c (pt k)) h a d
      = ∑ r : Fin 1024, tmv m c h a d ⟨1024 * k.val + r.val, by omega⟩ := by
  unfold tileDv
  refine Finset.sum_congr rfl fun r _ => ?_
  have e0 := fun e => b0_at m c (pt k) r e (by show 1024 * k.val + r.val < 4096; omega)
  have e1 := fun e => b1_at m c (pt k) r e (by show 1024 * k.val + r.val < 4096; omega)
  have e2 := b2_at m c (pt k)
  simp only [e0, e1, e2]
  rfl

/-- A sum over the 4096 rows, tile by tile. -/
theorem sum_rows (f : Fin 4096 → EReal) : ∑ t, f t = (∑ r : Fin 1024, f ⟨1024 * (0 : Fin 4).val + r.val, by show 1024 * 0 + r.val < 4096; omega⟩)
    + (∑ r : Fin 1024, f ⟨1024 * (1 : Fin 4).val + r.val, by show 1024 * 1 + r.val < 4096; omega⟩)
    + (∑ r : Fin 1024, f ⟨1024 * (2 : Fin 4).val + r.val, by show 1024 * 2 + r.val < 4096; omega⟩)
    + (∑ r : Fin 1024, f ⟨1024 * (3 : Fin 4).val + r.val, by show 1024 * 3 + r.val < 4096; omega⟩) := by
  rw [Fin.sum_univ_tiles 4 1024 rfl f, Fin.sum_univ_four]
  rfl

theorem four_k (x0 y0 z0 w0 : Vec Ideal S1x1024x1024 .bf16) (x1 y1 z1 w1 : Vec Ideal S1024x1024 .bf16) (x2 y2 z2 w2 : Vec Ideal S8x256x256 .bf16)
    (h : Fin 4) (a d : Fin 256) :
    blkAcc w0 w1 w2 (blkAcc z0 z1 z2 (blkAcc y0 y1 y2 (blkAcc x0 x1 x2 (fun _ => 0)))) (ix3 (sk h) a d)
      = tileDk x0 x1 x2 h a d + tileDk y0 y1 y2 h a d + tileDk z0 z1 z2 h a d + tileDk w0 w1 w2 h a d := by
  have e1 := blkAcc_k x0 x1 x2 (fun _ => 0) h a d
  have e2 := blkAcc_k y0 y1 y2 (blkAcc x0 x1 x2 (fun _ => 0)) h a d
  have e3 := blkAcc_k z0 z1 z2 (blkAcc y0 y1 y2 (blkAcc x0 x1 x2 (fun _ => 0))) h a d
  have e4 := blkAcc_k w0 w1 w2 (blkAcc z0 z1 z2 (blkAcc y0 y1 y2 (blkAcc x0 x1 x2 (fun _ => 0)))) h a d
  rw [zero_add] at e1
  rw [e4, e3, e2, e1]

theorem four_v (x0 y0 z0 w0 : Vec Ideal S1x1024x1024 .bf16) (x1 y1 z1 w1 : Vec Ideal S1024x1024 .bf16) (x2 y2 z2 w2 : Vec Ideal S8x256x256 .bf16)
    (h : Fin 4) (a d : Fin 256) :
    blkAcc w0 w1 w2 (blkAcc z0 z1 z2 (blkAcc y0 y1 y2 (blkAcc x0 x1 x2 (fun _ => 0)))) (ix3 (sv h) a d)
      = tileDv x0 x1 x2 h a d + tileDv y0 y1 y2 h a d + tileDv z0 z1 z2 h a d + tileDv w0 w1 w2 h a d := by
  have e1 := blkAcc_v x0 x1 x2 (fun _ => 0) h a d
  have e2 := blkAcc_v y0 y1 y2 (blkAcc x0 x1 x2 (fun _ => 0)) h a d
  have e3 := blkAcc_v z0 z1 z2 (blkAcc y0 y1 y2 (blkAcc x0 x1 x2 (fun _ => 0))) h a d
  have e4 := blkAcc_v w0 w1 w2 (blkAcc z0 z1 z2 (blkAcc y0 y1 y2 (blkAcc x0 x1 x2 (fun _ => 0)))) h a d
  rw [zero_add] at e1
  rw [e4, e3, e2, e1]

theorem acc4_k (c : Dev nD) (h : Fin 4) (a d : Fin 256) : acc4 m c (ix3 (sk h) a d) = DK (aKV m c) (aP m c) (aO m c) h a d := by
  have e := four_k (b0 m c (pt 0)) (b0 m c (pt 1)) (b0 m c (pt 2)) (b0 m c (pt 3)) (b1 m c (pt 0)) (b1 m c (pt 1)) (b1 m c (pt 2)) (b1 m c (pt 3))
    (b2 m c (pt 0)) (b2 m c (pt 1)) (b2 m c (pt 2)) (b2 m c (pt 3)) h a d
  rw [tileDk_at m c 0, tileDk_at m c 1, tileDk_at m c 2, tileDk_at m c 3] at e
  rw [DK_eq, sum_rows (tmk m c h a d)]
  exact e

theorem acc4_v (c : Dev nD) (h : Fin 4) (a d : Fin 256) : acc4 m c (ix3 (sv h) a d) = DV (aKV m c) (aP m c) (aO m c) h a d := by
  have e := four_v (b0 m c (pt 0)) (b0 m c (pt 1)) (b0 m c (pt 2)) (b0 m c (pt 3)) (b1 m c (pt 0)) (b1 m c (pt 1)) (b1 m c (pt 2)) (b1 m c (pt 3))
    (b2 m c (pt 0)) (b2 m c (pt 1)) (b2 m c (pt 2)) (b2 m c (pt 3)) h a d
  rw [tileDv_at m c 0, tileDv_at m c 1, tileDv_at m c 2, tileDv_at m c 3] at e
  rw [DV_eq, sum_rows (tmv m c h a d)]
  exact e

/-- The accumulator's entries are the sums over all 4096 rows. -/
theorem acc4_at (c : Dev nD) (g : Fin 8) (a d : Fin 256) : acc4 m c (ix3 g a d) = DKV (aKV m c) (aP m c) (aO m c) g a d := by
  by_cases h : g.val < 4
  · have e : g = sk ⟨g.val, h⟩ := rfl
    rw [DKV, dif_pos h]
    exact acc4_k m c ⟨g.val, h⟩ a d
  · have e : g = sv ⟨g.val - 4, by omega⟩ := Fin.ext (by show g.val = 4 + (g.val - 4); omega)
    rw [DKV, dif_neg h]
    exact (congrArg (fun z => acc4 m c (ix3 z a d)) e).trans (acc4_v m c ⟨g.val - 4, by omega⟩ a d)

/-- The query gradient at row `r`, column `k`. -/
def resDq (c : Dev nD) (r : Fin 4096) (k : Fin 1024) : EReal :=
  DQ (aKV m c) (aP m c) (aO m c) r ⟨k.val / 256, by omega⟩ ⟨k.val % 256, by omega⟩

theorem tile7_at (c : Dev nD) (t : Fin cfg0.N) (r k : Fin 1024) (h : 1024 * t.val + r.val < 4096) :
    blkDq (b0 m c t) (b1 m c t) (b2 m c t) (ix3 0 r k) = resDq m c ⟨1024 * t.val + r.val, h⟩ k := by
  show tileDq _ _ _ ⟨k.val / 256, _⟩ r ⟨k.val % 256, _⟩ = DQ _ _ _ _ ⟨k.val / 256, _⟩ ⟨k.val % 256, _⟩
  unfold tileDq DQ
  simp only [b0_at m c t r _ h, b1_at m c t r _ h, b2_at]

/-- The query gradient in the projections' slot 3; the other slots keep what they held. -/
theorem final7 (c : Dev nD) : (dats m 0 c).arrAt 7 cfg0.N = fun i : S8x4096x1024.Idx => if (i 0).val = 3 then resDq m c (i 1) (i 2)
    else m ((c : Thread nD τ).loc main_arg0) i := by
  rw [← V24_at m c]
  refine (dats m 0 c).arrAt_eq_of_coversWhere 7 _ (fun β => β 0 = 3) (by decide +kernel) (fun t hf y => ?_)
    (fun j => by blk_simp [Pipeline.Window.cell_apply]; omega)
  blk_simp
  rw [after0_7, tile7]
  obtain ⟨-, -, -, -, -, -, -, i7, -, -⟩ := idx t
  change S1x1024x1024.Idx at y
  idx_vars y
  obtain rfl : y0 = 0 := Subsingleton.elim _ _
  have ht : t.val < 4 := t.isLt
  rw [tile7_at m c t y1 y2 (by omega)]
  refine congrArg₂ (resDq m c) (Fin.ext ?_) (Fin.ext ?_)
  · blk_simp [idx t]
    show 1024 * t.val + y1.val = t.val * 1024 + y1.val
    omega
  · blk_simp [idx t]

theorem final8 (c : Dev nD) : (dats m 0 c).arrAt 8 cfg0.N = fun i : S8x1024x256.Idx =>
    DW (memn (aX m c) (aG m c)) (DKV (aKV m c) (aP m c) (aO m c)) (i 0) (i 1) (i 2) := by
  refine (dats m 0 c).arrAt_eq_of_covers 8 _ (by decide +kernel) fun t hf y => ?_
  have ht : t.val = 3 := by
    have := (flush0_8 t).mp hf
    have := t.isLt
    change t.val < 4 at this
    omega
  blk_simp
  rw [after0_8, last8 m c t ht]
  change S8x1024x256.Idx at y
  idx_vars y
  have e (a0 : Fin 8) (a1 : Fin 1024) (a2 : Fin 256) (h0 : a0 = y0) (h1 : a1 = y1) (h2 : a2 = y2) :
      blkDw (b3 m c t) (acc4 m c) (ix3 y0 y1 y2) = DW (memn (aX m c) (aG m c)) (DKV (aKV m c) (aP m c) (aO m c)) a0 a1 a2 := by
    rw [h0, h1, h2]
    unfold blkDw DW
    refine Finset.sum_congr rfl fun k _ => ?_
    exact congrArg₂ (· * ·) (b3_at m c t k y1) (acc4_at m c y0 k y2)
  refine e _ _ _ (Fin.ext ?_) (Fin.ext ?_) (Fin.ext ?_) <;> blk_simp [idx t]

theorem blkDg_at (s : Vec Ideal S8x256x256 .f32) (w : Vec Ideal S8x1024x256 .bf16) (x : Vec Ideal S256x1024 .f32)
    (S : Fin 8 → Fin 256 → Fin 256 → EReal) (W : Fin 1024 → Fin 2048 → EReal) (X : Fin 256 → Fin 1024 → EReal)
    (hs : ∀ g k d, s (ix3 g k d) = S g k d) (hw : ∀ g a d, w (ix3 g a d) = W a (c8 g d)) (hx : ∀ k a, x (ix2 k a) = X k a) (a : Fin 1024) :
    blkDg s w x (ix2 0 a) = DG X W S a := by
  unfold blkDg DG gr
  refine Finset.sum_congr rfl fun k _ => congrArg₂ (· * ·) (add8 (Finset.sum_congr rfl fun d _ => congrArg₂ (· * ·) (hs 0 k d) (hw 0 a d)) (Finset.sum_congr rfl fun d _ => congrArg₂ (· * ·) (hs 1 k d) (hw 1 a d)) (Finset.sum_congr rfl fun d _ => congrArg₂ (· * ·) (hs 2 k d) (hw 2 a d)) (Finset.sum_congr rfl fun d _ => congrArg₂ (· * ·) (hs 3 k d) (hw 3 a d)) (Finset.sum_congr rfl fun d _ => congrArg₂ (· * ·) (hs 4 k d) (hw 4 a d)) (Finset.sum_congr rfl fun d _ => congrArg₂ (· * ·) (hs 5 k d) (hw 5 a d)) (Finset.sum_congr rfl fun d _ => congrArg₂ (· * ·) (hs 6 k d) (hw 6 a d)) (Finset.sum_congr rfl fun d _ => congrArg₂ (· * ·) (hs 7 k d) (hw 7 a d))) ?_
  refine congrArg₂ (· * ·) (hx k a) (congrArg (fun z => Ideal.rsqrt (Ideal.div z _ + _)) ?_)
  exact Finset.sum_congr rfl fun j _ => congrArg₂ (· * ·) (hx k j) (hx k j)

/-- The gain's gradient. -/
theorem final9 (c : Dev nD) : (dats m 0 c).arrAt 9 cfg0.N = fun i : S1x1024.Idx =>
    DG (aX m c) (aW m c) (DKV (aKV m c) (aP m c) (aO m c)) (i 1) := by
  refine (dats m 0 c).arrAt_eq_of_covers 9 _ (by decide +kernel) fun t hf y => ?_
  have ht : t.val = 3 := by
    have := (flush0_9 t).mp hf
    have := t.isLt
    change t.val < 4 at this
    omega
  blk_simp
  rw [after0_9, last9 m c t ht]
  change S1x1024.Idx at y
  idx_vars y
  obtain rfl : y0 = 0 := Subsingleton.elim _ _
  have e (a1 : Fin 1024) (h1 : a1 = y1) :
      blkDg (acc4 m c) (b4 m c t) (b5 m c t) (ix2 0 y1) = DG (aX m c) (aW m c) (DKV (aKV m c) (aP m c) (aO m c)) a1 := by
    rw [h1]
    exact blkDg_at _ _ _ _ _ _ (acc4_at m c) (b4_at m c t) (b5_at m c t) y1
  refine e _ (Fin.ext ?_) <;> blk_simp [idx t]

end Cert.AttnIdeal.Val
-- ==== Proof.RowReal.lean ====
module

public import proofs.«01_k».proof.Proof.Row

@[expose] public section

noncomputable section

/-! One softmax row over the reals: with real scores the transpose that differentiation writes and the closed form agree. -/

namespace Cert.Row

open Idealize.ShloMosaic

/-- The gradient of the unscaled score as differentiating the softmax row by its operations writes it: through the quotient's
    numerator and through its denominator. -/
def rds (q : Fin 256 → EReal) (K : Fin 256 → Fin 256 → EReal) (o : Fin 256 → EReal) (V : Fin 256 → Fin 256 → EReal)
    (j : Fin 256) : EReal :=
  (Ideal.div (dp o V j) (sm q K) + -(∑ i, dp o V i * Ideal.div 1 (sm q K * sm q K) * ex q K i))
    * ex q K j * c16

theorem lo_eq : lo = ⊥ := by simp [lo, Ideal.ofBits, Ideal.ieee]

/-- A finite sum distributes over a nonnegative finite factor. -/
theorem sum_mul_real {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- With real scores the row's largest is real. -/
theorem mx_real (q : Fin 256 → EReal) (K : Fin 256 → Fin 256 → EReal) (s : Fin 256 → ℝ) (h : ∀ j, sc q K j = (s j : EReal)) :
    ∃ M : ℝ, mx q K = (M : EReal) := by
  unfold mx
  simp only [h, lo_eq]
  have key : ∀ t : Finset (Fin 256), t.Nonempty → ∃ M : ℝ, t.fold max (⊥ : EReal) (fun j => (s j : EReal)) = (M : EReal) := by
    intro t ht
    induction ht using Finset.Nonempty.cons_induction with
    | singleton a => exact ⟨s a, by simp⟩
    | cons a t ha _ ih =>
      obtain ⟨M, hM⟩ := ih
      exact ⟨max (s a) M, by rw [Finset.fold_cons, hM]; exact (EReal.coe_strictMono.monotone.map_max).symm⟩
  exact key Finset.univ ⟨0, Finset.mem_univ _⟩

/-- With real scores the exponentials are positive reals, and so is their sum. -/
theorem ex_real (q : Fin 256 → EReal) (K : Fin 256 → Fin 256 → EReal) (s : Fin 256 → ℝ) (h : ∀ j, sc q K j = (s j : EReal)) :
    ∃ (e : Fin 256 → ℝ) (S : ℝ), (∀ j, 0 < e j) ∧ 0 < S ∧ (∀ j, ex q K j = (e j : EReal)) ∧ sm q K = (S : EReal) := by
  obtain ⟨M, hM⟩ := mx_real q K s h
  have he : ∀ j, ex q K j = (Real.exp (s j - M) : EReal) := fun j => by
    unfold ex
    rw [h, hM, ← EReal.coe_sub]
    rfl
  refine ⟨fun j => Real.exp (s j - M), ∑ j, Real.exp (s j - M), fun j => Real.exp_pos _,
    Finset.sum_pos (fun j _ => Real.exp_pos _) ⟨0, Finset.mem_univ _⟩, he, ?_⟩
  unfold sm
  simp only [he]
  exact (map_sum (⟨⟨((↑) : ℝ → EReal), EReal.coe_zero⟩, EReal.coe_add⟩ : ℝ →+ EReal) _ _).symm

/-- With real scores both forms of the score's gradient agree, whatever the incoming gradient. -/
theorem rds_eq (q : Fin 256 → EReal) (K : Fin 256 → Fin 256 → EReal) (o : Fin 256 → EReal) (V : Fin 256 → Fin 256 → EReal)
    (hs : ∀ j, ∃ s : ℝ, sc q K j = (s : EReal)) (j : Fin 256) : rds q K o V j = ds q K o V j := by
  choose s hs using hs
  obtain ⟨e, S, he, hS, hex, hsm⟩ := ex_real q K s hs
  have hpr : ∀ i, pr q K i = ((e i * S⁻¹ : ℝ) : EReal) := fun i => by
    unfold pr
    rw [hex, hsm, Ideal.div_coe hS.ne', ← EReal.coe_mul, one_div]
  unfold rds ds
  congr 1
  have hq : Ideal.div 1 (sm q K * sm q K) = ((S⁻¹ * S⁻¹ : ℝ) : EReal) := by
    rw [hsm, ← EReal.coe_mul, Ideal.div_coe (mul_pos hS hS).ne', one_mul]
    congr 1
    field_simp
  have hsum : (∑ i, dp o V i * Ideal.div 1 (sm q K * sm q K) * ex q K i)
      = (∑ i, dp o V i * pr q K i) * ((S⁻¹ : ℝ) : EReal) := by
    rw [sum_mul_real _ _ _ (inv_pos.mpr hS).le]
    refine Finset.sum_congr rfl fun i _ => ?_
    rw [hq, hex, hpr, mul_assoc, mul_assoc, ← EReal.coe_mul, ← EReal.coe_mul]
    congr 2
    ring
  rw [hsum, hsm, Ideal.div_coe hS.ne', one_div, hex, hpr, ← EReal.neg_mul,
    ← EReal.right_distrib_of_nonneg_of_ne_top (by exact_mod_cast (inv_pos.mpr hS).le) (EReal.coe_ne_top _), mul_assoc, ← EReal.coe_mul,
    mul_comm (e j * S⁻¹ : ℝ).toEReal, mul_comm (e j) S⁻¹]
  rfl

end Cert.Row
-- ==== Proof.RefA.lean ====
module

public import Idealize.ShloMosaic.Lib.Pointwise
public import Idealize.ShloMosaic.Lib.Claim
public import proofs.«01_k».proof.Proof.Gen.AttnRefIdeal.Read
public import proofs.«01_k».proof.Proof.RowReal

@[expose] public section

set_option maxRecDepth 16384

noncomputable section

/-! The reference's intermediate arrays read at an index. -/

namespace Cert.AttnRefIdeal.Val

open Idealize.ShloMosaic Idealize.ShloMosaic.Tactic
open Cert.AttnRefIdeal Cert.AttnRefIdeal.Gen Cert.AttnRefIdeal.Read Cert.Row

variable (x0 : (⟨S8x4096x1024, .bf16⟩ : BufTy).Contents (Elt Ideal)) (x1 : (⟨S8x4096x1024, .bf16⟩ : BufTy).Contents (Elt Ideal))
  (x2 : (⟨S4096x1024, .bf16⟩ : BufTy).Contents (Elt Ideal))
  (x3 : (⟨S1x256x1024, .f32⟩ : BufTy).Contents (Elt Ideal)) (x4 : (⟨S1x1024, .f32⟩ : BufTy).Contents (Elt Ideal))
  (x5 : (⟨S1x1024x2048, .f32⟩ : BufTy).Contents (Elt Ideal))

/-- The memory tokens, the gain, the weights, the queries, the incoming gradient. -/
def fX (j : Fin 256) (a : Fin 1024) : EReal := x3 (ix3 0 j a)
def fG (a : Fin 1024) : EReal := x4 (ix2 0 a)
def fW (a : Fin 1024) (k : Fin 2048) : EReal := x5 (ix3 0 a k)
def fP (t : Fin 4096) (k : Fin 1024) : EReal := x1 (ix3 4 t k)
def fO (t : Fin 4096) (k : Fin 1024) : EReal := x2 (ix2 t k)

/-- The keys and values. -/
abbrev fKV : Fin 256 → Fin 2048 → EReal := kvF (fX x3) (fG x4) (fW x5)

/-- Row `t` of head `h`: query, keys, incoming gradient, values. -/
def rq (t : Fin 4096) (h : Fin 4) (e : Fin 256) : EReal := fP x1 t (hd h e)
def rK (h : Fin 4) (j e : Fin 256) : EReal := fKV x3 x4 x5 j (c8 (sk h) e)
def rO (t : Fin 4096) (h : Fin 4) (e : Fin 256) : EReal := fO x2 t (hd h e)
def rV (h : Fin 4) (j e : Fin 256) : EReal := fKV x3 x4 x5 j (c8 (sv h) e)

theorem hd_eq (h : Fin 4) (d : Fin 256) (p) : (⟨h.val * 256 + d.val, p⟩ : Fin 1024) = hd h d :=
  Fin.ext (by show h.val * 256 + d.val = 256 * h.val + d.val; omega)

theorem v15_at (j : Fin 256) (a : Fin 1024) : val_main_v15 (F := Ideal) x3 (ix2 j a) = fX x3 j a * gr (fX x3) j := by
  pointwise [val_main_v15, val_main_v14, val_main_v13, val_main_v12, val_main_v11, val_main_cst_1, val_main_v10, val_main_v9, val_main_cst_0, val_main_v8, val_main_v7, val_main_cst, val_main_v6, val_main_v5]
  rfl

theorem v18_at (j : Fin 256) (a : Fin 1024) : val_main_v18 (F := Ideal) x3 x4 (ix2 j a) = memn (fX x3) (fG x4) j a := by
  pointwise [val_main_v18, val_main_v17, val_main_v16, val_main_v3, v15_at]
  rfl

theorem v20_at (j : Fin 256) (k : Fin 2048) : val_main_v20 (F := Ideal) x3 x4 x5 (ix2 j k) = fKV x3 x4 x5 j k := by
  pointwise [val_main_v20, val_main_v4, v18_at]
  rfl

theorem v19_at (t : Fin 4096) (h : Fin 4) (d : Fin 256) : val_main_v19 (F := Ideal) x1 (ix3 t h d) = rq x1 t h d := by
  pointwise [val_main_v19, val_main_v2, val_main_v1, val_main_v0]
  exact congrArg (fP x1 t) (hd_eq h d _)

theorem v23_at (j : Fin 256) (h : Fin 4) (d : Fin 256) : val_main_v23 (F := Ideal) x3 x4 x5 (ix3 j h d) = rK x3 x4 x5 h j d := by
  pointwise [val_main_v23, val_main_v21, v20_at]
  exact congrArg (fKV x3 x4 x5 j) (Fin.ext (by show h.val * 256 + d.val = 256 * h.val + d.val; omega))

theorem v24_at (j : Fin 256) (h : Fin 4) (d : Fin 256) : val_main_v24 (F := Ideal) x3 x4 x5 (ix3 j h d) = rV x3 x4 x5 h j d := by
  pointwise [val_main_v24, val_main_v22, v20_at]
  exact congrArg (fKV x3 x4 x5 j) (Fin.ext (by show 1024 + (h.val * 256 + d.val) = 256 * (4 + h.val) + d.val; omega))

theorem v27_at (h : Fin 4) (t : Fin 4096) (j : Fin 256) : val_main_v27 (F := Ideal) x1 x3 x4 x5 (ix3 h t j) = sc (rq x1 t h) (rK x3 x4 x5 h) j := by
  pointwise [val_main_v27, val_main_v26, val_main_cst_2, val_main_v25, v19_at, v23_at]
  rfl

theorem hmax_at (x : FVec Ideal S4x4096x256 .f32) (v : FVec Ideal S_ .f32) (h : Fin 4) (t : Fin 4096) :
    Host.reduce FloatOps.maximumf x v reducesTo_S4x4096x256_S4x4096_d2 h_S_ (ix2 h t)
      = Finset.univ.fold max (v (Shape.Idx.first h_S_)) fun k => x (ix3 h t k) := by
  pointwise

theorem c3_at (i : S_.Idx) : val_main_cst_3 (F := Ideal) i = lo := rfl

theorem fold_at (v : FVec Ideal S_ .f32) (x : FVec Ideal S4x4096x256 .f32) (h : Fin 4) (t : Fin 4096) (q : Fin 256 → EReal)
    (K : Fin 256 → Fin 256 → EReal) (hv : ∀ i, v i = lo) (hx : ∀ k, x (ix3 h t k) = sc q K k) :
    Host.reduce FloatOps.maximumf x v reducesTo_S4x4096x256_S4x4096_d2 h_S_ (ix2 h t) = mx q K := by
  rw [hmax_at, hv]
  simp only [hx]
  rfl

theorem v28_at (h : Fin 4) (t : Fin 4096) : val_main_v28 (F := Ideal) x1 x3 x4 x5 (ix2 h t) = mx (rq x1 t h) (rK x3 x4 x5 h) := by
  unfold val_main_v28
  exact fold_at _ _ h t _ _ c3_at (v27_at x1 x3 x4 x5 h t)

theorem max_lo (a b : FVec Ideal S4x4096 .f32) (i : S4x4096.Idx) (y : EReal) (ha : a i = lo) (hb : b i = y) : maximumf a b i = y := by
  refine (show maximumf a b i = max (a i) (b i) from rfl).trans ?_
  rw [ha, hb, lo_eq]
  exact max_eq_right bot_le

theorem v34_at (i : S4x4096.Idx) : val_main_v34 (F := Ideal) i = lo := rfl

theorem v35_at (h : Fin 4) (t : Fin 4096) : val_main_v35 (F := Ideal) x1 x3 x4 x5 (ix2 h t) = mx (rq x1 t h) (rK x3 x4 x5 h) := by
  unfold val_main_v35
  exact max_lo _ _ _ _ (v34_at _) (v28_at x1 x3 x4 x5 h t)

theorem v48_at (h : Fin 4) (t : Fin 4096) (j : Fin 256) : val_main_v48 (F := Ideal) x1 x3 x4 x5 (ix3 h t j) = ex (rq x1 t h) (rK x3 x4 x5 h) j := by
  pointwise [val_main_v48, val_main_v47, val_main_v46, val_main_v45, v27_at, v35_at]
  rfl

theorem v50_at (h : Fin 4) (t : Fin 4096) : val_main_v50 (F := Ideal) x1 x3 x4 x5 (ix3 h t 0) = sm (rq x1 t h) (rK x3 x4 x5 h) := by
  pointwise [val_main_v50, val_main_v49, val_main_cst_11, v48_at]
  rfl

theorem v52_at (h : Fin 4) (t : Fin 4096) (j : Fin 256) : val_main_v52 (F := Ideal) x1 x3 x4 x5 (ix3 h t j) = pr (rq x1 t h) (rK x3 x4 x5 h) j := by
  pointwise [val_main_v52, val_main_v51, v50_at, v48_at]
  rfl

theorem v61_at (h : Fin 4) (d : Fin 256) (t : Fin 4096) : val_main_v61 (F := Ideal) x2 (ix3 h d t) = rO x2 t h d := by
  pointwise [val_main_v61, val_main_v60, val_main_v59]
  exact congrArg (fO x2 t) (hd_eq h d _)

theorem v62_at (h : Fin 4) (t : Fin 4096) (j : Fin 256) : val_main_v62 (F := Ideal) x2 x3 x4 x5 (ix3 h t j) = dp (rO x2 t h) (rV x3 x4 x5 h) j := by
  pointwise [val_main_v62, v61_at, v24_at]
  rfl

theorem v78_at (h : Fin 4) (t : Fin 4096) (j : Fin 256) : val_main_v78 (F := Ideal) x1 x2 x3 x4 x5 (ix3 h t j) = rds (rq x1 t h) (rK x3 x4 x5 h) (rO x2 t h) (rV x3 x4 x5 h) j := by
  pointwise [val_main_v78, val_main_v77, val_main_cst_15, val_main_v76, val_main_v75, val_main_v74, val_main_v73, val_main_cst_14, val_main_v72, val_main_v71, val_main_v70, val_main_v69, val_main_v68, val_main_cst_13, val_main_v67, val_main_v66, val_main_v65, val_main_v55, val_main_v54, val_main_cst_12, val_main_v53, v48_at, v50_at, v62_at]
  simp only [Fin.sum_univ_one, Finset.univ_unique, Finset.sum_singleton]
  rfl

end Cert.AttnRefIdeal.Val
-- ==== Proof.RefB.lean ====
module

public import Idealize.ShloMosaic.Lib.Pointwise
public import Idealize.ShloMosaic.Lib.Claim
public import proofs.«01_k».proof.Proof.Gen.AttnRefIdeal.Read
public import proofs.«01_k».proof.Proof.RefA

@[expose] public section

set_option maxRecDepth 16384

noncomputable section

/-! The reference's results read at an index. -/

namespace Cert.AttnRefIdeal.Val

open Idealize.ShloMosaic Idealize.ShloMosaic.Tactic
open Cert.AttnRefIdeal Cert.AttnRefIdeal.Gen Cert.AttnRefIdeal.Read Cert.Row

variable (x0 : (⟨S8x4096x1024, .bf16⟩ : BufTy).Contents (Elt Ideal)) (x1 : (⟨S8x4096x1024, .bf16⟩ : BufTy).Contents (Elt Ideal))
  (x2 : (⟨S4096x1024, .bf16⟩ : BufTy).Contents (Elt Ideal))
  (x3 : (⟨S1x256x1024, .f32⟩ : BufTy).Contents (Elt Ideal)) (x4 : (⟨S1x1024, .f32⟩ : BufTy).Contents (Elt Ideal))
  (x5 : (⟨S1x1024x2048, .f32⟩ : BufTy).Contents (Elt Ideal))

theorem v81_at (h : Fin 4) (t : Fin 4096) (d : Fin 256) : val_main_v81 (F := Ideal) x1 x2 x3 x4 x5 (ix3 h t d) = ∑ j, rds (rq x1 t h) (rK x3 x4 x5 h) (rO x2 t h) (rV x3 x4 x5 h) j * rK x3 x4 x5 h j d := by
  pointwise [val_main_v81, v78_at, v23_at]

theorem v79_at (h : Fin 4) (j d : Fin 256) : val_main_v79 (F := Ideal) x1 x2 x3 x4 x5 (ix3 h j d) = ∑ t, rds (rq x1 t h) (rK x3 x4 x5 h) (rO x2 t h) (rV x3 x4 x5 h) j * rq x1 t h d := by
  pointwise [val_main_v79, v78_at, v19_at]

theorem v63_at (h : Fin 4) (j d : Fin 256) : val_main_v63 (F := Ideal) x1 x2 x3 x4 x5 (ix3 h d j) = ∑ t, rO x2 t h d * pr (rq x1 t h) (rK x3 x4 x5 h) j := by
  pointwise [val_main_v63, v61_at, v52_at]

/-- Every score of the call is a real number. -/
def Scores : Prop := ∀ (t : Fin 4096) (h : Fin 4) (j : Fin 256), ∃ s : ℝ, sc (rq x1 t h) (rK x3 x4 x5 h) j = (s : EReal)

variable (hs : Scores x1 x3 x4 x5)
include hs

/-- The first result: the query gradient in slot 3, the other slots as they came. -/
theorem v98_at (s : Fin 8) (t : Fin 4096) (k : Fin 1024) : val_main_v98 (F := Ideal) x0 x1 x2 x3 x4 x5 (ix3 s t k)
    = if s.val = 3 then DQ (fKV x3 x4 x5) (fP x1) (fO x2) t ⟨k.val / 256, by omega⟩ ⟨k.val % 256, by omega⟩ else x0 (ix3 s t k) := by
  pointwise [val_main_v98, val_main_v97, val_main_v96, val_main_v95, val_main_v94, val_main_v89, val_main_v82, v81_at]
  by_cases h3 : s.val = 3
  · rw [if_pos h3, dif_neg (by omega), dif_pos (by omega)]
    exact Finset.sum_congr rfl fun j _ => congrArg (· * _) (rds_eq _ _ _ _ (hs t ⟨k.val / 256, by omega⟩) j)
  · rw [if_neg h3]
    by_cases hl : s.val < 3
    · rw [dif_pos hl]
    · rw [dif_neg hl, dif_neg (by omega)]
      exact congrArg (fun z => x0 (ix3 z t k)) (Fin.ext (by show 4 + (s.val - 3 - 1) = s.val; omega))

/-- The gradient of the keys and values. -/
theorem v85_at (j : Fin 256) (g : Fin 8) (d : Fin 256) : val_main_v85 (F := Ideal) x1 x2 x3 x4 x5 (ix2 j (c8 g d))
    = DKV (fKV x3 x4 x5) (fP x1) (fO x2) g j d := by
  have raw : ∀ k : Fin 2048, val_main_v85 (F := Ideal) x1 x2 x3 x4 x5 (ix2 j k) = if h : k.val < 1024 then
      ∑ t, rds (rq x1 t ⟨k.val / 256, by omega⟩) (rK x3 x4 x5 ⟨k.val / 256, by omega⟩) (rO x2 t ⟨k.val / 256, by omega⟩)
        (rV x3 x4 x5 ⟨k.val / 256, by omega⟩) j * rq x1 t ⟨k.val / 256, by omega⟩ ⟨k.val % 256, by omega⟩
      else ∑ t, rO x2 t ⟨(k.val - 1024) / 256, by omega⟩ ⟨(k.val - 1024) % 256, by omega⟩ *
        pr (rq x1 t ⟨(k.val - 1024) / 256, by omega⟩) (rK x3 x4 x5 ⟨(k.val - 1024) / 256, by omega⟩) j := fun k => by
    pointwise [val_main_v85, val_main_v84, val_main_v83, val_main_v80, val_main_v64, v79_at, v63_at]
  rw [raw]
  unfold DKV
  have hc : (c8 g d).val = 256 * g.val + d.val := rfl
  by_cases h : g.val < 4
  · rw [dif_pos h, dif_pos (show 256 * g.val + d.val < 1024 by omega)]
    have e1 : (⟨(c8 g d).val / 256, by omega⟩ : Fin 4) = ⟨g.val, h⟩ := Fin.ext (by show (256 * g.val + d.val) / 256 = g.val; omega)
    have e2 : (⟨(c8 g d).val % 256, by omega⟩ : Fin 256) = d := Fin.ext (by show (256 * g.val + d.val) % 256 = d.val; omega)
    rw [e1, e2]
    exact Finset.sum_congr rfl fun t _ => congrArg (· * _) (rds_eq _ _ _ _ (hs t ⟨g.val, h⟩) j)
  · rw [dif_neg h, dif_neg (show ¬ 256 * g.val + d.val < 1024 by omega)]
    have e1 : (⟨((c8 g d).val - 1024) / 256, by omega⟩ : Fin 4) = ⟨g.val - 4, by omega⟩ :=
      Fin.ext (by show (256 * g.val + d.val - 1024) / 256 = g.val - 4; omega)
    have e2 : (⟨((c8 g d).val - 1024) % 256, by omega⟩ : Fin 256) = d := Fin.ext (by show (256 * g.val + d.val - 1024) % 256 = d.val; omega)
    rw [e1, e2]
    exact Finset.sum_congr rfl fun t _ => mul_comm _ _

/-- The second result: the weight gradient. -/
theorem v101_at (g : Fin 8) (a : Fin 1024) (d : Fin 256) : val_main_v101 (F := Ideal) x1 x2 x3 x4 x5 (ix3 g a d)
    = DW (memn (fX x3) (fG x4)) (DKV (fKV x3 x4 x5) (fP x1) (fO x2)) g a d := by
  pointwise [val_main_v101, val_main_v100, val_main_v99, val_main_v87, val_main_v86, v18_at]
  unfold DW
  refine Finset.sum_congr rfl fun k _ => (mul_comm _ _).trans (congrArg (memn (fX x3) (fG x4) k a * ·) ?_)
  rw [← v85_at x1 x2 x3 x4 x5 hs]
  exact congrArg (fun z => val_main_v85 (F := Ideal) x1 x2 x3 x4 x5 (ix2 k z)) (Fin.ext (by show g.val * 256 + d.val = 256 * g.val + d.val; omega))

omit hs in
/-- A sum over the 2048 columns, slot by slot. -/
theorem sum_cols (f : Fin 2048 → EReal) : ∑ k, f k = (∑ d, f (c8 0 d)) + (∑ d, f (c8 1 d)) + (∑ d, f (c8 2 d)) + (∑ d, f (c8 3 d))
    + (∑ d, f (c8 4 d)) + (∑ d, f (c8 5 d)) + (∑ d, f (c8 6 d)) + (∑ d, f (c8 7 d)) := by
  rw [Fin.sum_univ_tiles 8 256 rfl f, Fin.sum_univ_eight]
  rfl

/-- The third result: the gain's gradient. -/
theorem v102_at (a : Fin 1024) : val_main_v102 (F := Ideal) x1 x2 x3 x4 x5 (ix2 0 a)
    = DG (fX x3) (fW x5) (DKV (fKV x3 x4 x5) (fP x1) (fO x2)) a := by
  pointwise [val_main_v102, val_main_v93, val_main_cst_17, val_main_v92, val_main_v91, val_main_cst_16, val_main_v90, val_main_v88, val_main_v4, v15_at]
  rw [Fin.sum_univ_one]
  unfold DG
  refine Finset.sum_congr rfl fun k _ => (mul_comm _ _).trans (congrArg (· * _) ?_)
  refine (sum_cols _).trans ?_
  simp only [v85_at x1 x2 x3 x4 x5 hs]
  rfl

end Cert.AttnRefIdeal.Val
-- ==== Proof.Finite.lean ====
module

public import Idealize.ShloMosaic.Lib.ReduceAll
public import proofs.«01_k».proof.Proof.RowReal
public import proofs.«01_k».proof.Pre_attn_finite

@[expose] public section

set_option maxRecDepth 16384

noncomputable section

/-! Finite queries, memory, gain and weights make every score a real number. -/

namespace Cert.Row

open Idealize.ShloMosaic

/-- An extended real that is a real number. -/
def Re (x : EReal) : Prop := ∃ r : ℝ, x = (r : EReal)

theorem Re.mul {x y : EReal} (hx : Re x) (hy : Re y) : Re (x * y) := by
  obtain ⟨a, rfl⟩ := hx
  obtain ⟨b, rfl⟩ := hy
  exact ⟨a * b, (EReal.coe_mul a b).symm⟩

theorem Re.sum {ι : Type} (s : Finset ι) (f : ι → EReal) (h : ∀ i, Re (f i)) : Re (∑ i ∈ s, f i) := by
  choose g hg using h
  refine ⟨∑ i ∈ s, g i, ?_⟩
  simp only [hg]
  exact (map_sum (⟨⟨((↑) : ℝ → EReal), EReal.coe_zero⟩, EReal.coe_add⟩ : ℝ →+ EReal) _ _).symm

theorem Re.of_lt {x : EReal} (h : max x (-x) < ⊤) : Re x := by
  induction x using EReal.rec with
  | bot => simp at h
  | top => simp at h
  | coe r => exact ⟨r, rfl⟩

theorem c16_re : Re c16 := by
  unfold c16
  simp only [Ideal.ofBits, Ideal.ieee]
  norm_num
  exact ⟨_, rfl⟩

/-- With real tokens the reciprocal root mean square is real. -/
theorem gr_re (x : Fin 256 → Fin 1024 → EReal) (hx : ∀ j a, Re (x j a)) (j : Fin 256) : Re (gr x j) := by
  choose r hr using hx
  have hk : Ideal.ofBits .f32 0x44800000#32 = ((1024 : ℝ) : EReal) := by
    simp [Ideal.ofBits, Ideal.ieee, -EReal.coe_mul]
    norm_num
  have he : ∃ e : ℝ, 0 < e ∧ Ideal.ofBits .f32 0x358637BD#32 = (e : EReal) := by
    simp [Ideal.ofBits, Ideal.ieee]
    refine ⟨_, ?_, rfl⟩
    norm_num
  obtain ⟨e, he0, he⟩ := he
  have hS : (∑ k, x j k * x j k) = ((∑ k, r j k * r j k : ℝ) : EReal) := by
    simp only [hr, ← EReal.coe_mul]
    exact (map_sum (⟨⟨((↑) : ℝ → EReal), EReal.coe_zero⟩, EReal.coe_add⟩ : ℝ →+ EReal) _ _).symm
  have h0 : 0 ≤ ∑ k, r j k * r j k := Finset.sum_nonneg fun k _ => mul_self_nonneg _
  have hp : 0 < (∑ k, r j k * r j k) * (1 / 1024) + e := by positivity
  unfold gr
  rw [hk, he, hS, Ideal.div_coe (by norm_num), ← EReal.coe_mul, ← EReal.coe_add]
  refine ⟨(Real.sqrt ((∑ k, r j k * r j k) * (1 / 1024) + e))⁻¹, ?_⟩
  show (if _ < (0 : ℝ) then _ else if _ = (0 : ℝ) then _ else _) = _
  rw [if_neg (not_lt.2 hp.le), if_neg hp.ne']

/-- Finite arguments make finite keys and values. -/
theorem kvF_re (x : Fin 256 → Fin 1024 → EReal) (g : Fin 1024 → EReal) (w : Fin 1024 → Fin 2048 → EReal)
    (hx : ∀ j a, Re (x j a)) (hg : ∀ a, Re (g a)) (hw : ∀ a k, Re (w a k)) (j : Fin 256) (k : Fin 2048) : Re (kvF x g w j k) :=
  Re.sum _ _ fun a => (((hx j a).mul (gr_re x hx j)).mul (hg a)).mul (hw a k)

/-- Finite queries and keys make finite scores. -/
theorem sc_re (q : Fin 256 → EReal) (K : Fin 256 → Fin 256 → EReal) (hq : ∀ d, Re (q d)) (hK : ∀ j d, Re (K j d)) (j : Fin 256) :
    Re (sc q K j) :=
  (Re.sum _ _ fun d => (hq d).mul (hK j d)).mul c16_re

end Cert.Row

namespace Cert.Pre_attn_finite

open Idealize.ShloMosaic Cert.Row

theorem facts : Facts where
  slices_S8x4096x1024_S1x4096x1024_4_0_0 := by decide
  shapeCasts_S1x4096x1024_S4096x1024 := by decide
  bitsLt_bf16_f32 := by decide
  bcast_S_S4096x1024 := by decide
  reducesTo_S4096x1024_S_d0_1 := by decide
  h_S_ := by decide
  bcast_S_S1x256x1024 := by decide
  reducesTo_S1x256x1024_S_d0_1_2 := by decide
  bcast_S_S1x1024 := by decide
  reducesTo_S1x1024_S_d0_1 := by decide
  bcast_S_S1x1024x2048 := by decide
  reducesTo_S1x1024x2048_S_d0_1_2 := by decide

variable [Facts]
open Facts

theorem inf_eq : Ideal.ofBits .f32 0x7F800000#32 = ⊤ := by simp [Ideal.ofBits, Ideal.ieee]

/-- One conjunct of the precondition: every element of the array is real. -/
theorem all_re {s : Shape} {axes : List (Fin s.rank)} (x : FVec Ideal s .f32) (hb : S_.BroadcastsInDim s (![] : Fin 0 → Fin s.rank)) (hr : s.ReducesTo axes S_) (j : S_.Idx)
    (e : Host.reduce IntOp.andi (cmpf .olt (Host.absf x) (broadcastInDim s ![] hb (constant S_ .f32 0x7F800000#32))) (constantI S_ 1 1#1) hr h_S_ j = 1#1)
    (i : s.Idx) : Re (x i) := by
  have h := Host.reduce_andi_all _ _ _ _ j e i
  pointwise at h
  rw [inf_eq] at h
  exact Re.of_lt (of_decide_eq_true (by
    rcases hd : decide (max (x i) (-x i) < (⊤ : EReal)) with _ | _
    · rw [show FloatOps.absf (x i) = max (x i) (-x i) from rfl, hd] at h
      exact absurd h (by decide)
    · rfl))

/-- What the precondition says of each array. -/
theorem finite_of (a0 a1 : FVec Ideal S8x4096x1024 .bf16) (a2 : FVec Ideal S4096x1024 .bf16) (a3 : FVec Ideal S1x256x1024 .f32)
    (a4 : FVec Ideal S1x1024 .f32) (a5 : FVec Ideal S1x1024x2048 .f32) (h : fn (F := Ideal) a0 a1 a2 a3 a4 a5 = fun _ => 1#1) :
    (∀ t k, Re (a1 (ix3 4 t k))) ∧ (∀ i, Re (a3 i)) ∧ (∀ i, Re (a4 i)) ∧ (∀ i, Re (a5 i)) := by
  have e := congrFun h (Shape.Idx.first h_S_)
  unfold fn fn_part1 at e
  obtain ⟨e1, h5⟩ := IntOp.andi_eq_one.1 e
  obtain ⟨e2, h4⟩ := IntOp.andi_eq_one.1 e1
  obtain ⟨h1, h3⟩ := IntOp.andi_eq_one.1 e2
  refine ⟨fun t k => ?_, all_re _ _ _ _ h3, all_re _ _ _ _ h4, all_re _ _ _ _ h5⟩
  have hr := all_re _ _ _ _ h1 (ix2 t k)
  pointwise at hr
  exact hr

end Cert.Pre_attn_finite

end
-- ==== Proof.AttnAlg.lean ====
module

public import proofs.«01_k».proof.Defs
public import proofs.«01_k».proof.Proof.Gen.AttnIdeal.Value
public import proofs.«01_k».proof.Proof.Gen.AttnRefIdeal.Run
public import proofs.«01_k».proof.Proof.Kernel
public import proofs.«01_k».proof.Proof.RefB
public import proofs.«01_k».proof.Proof.Finite
public import Idealize.ShloMosaic.Lib.Quiescent
public import Idealize.ShloMosaic.Adequacy

@[expose] public section

set_option maxRecDepth 16384

noncomputable section

/-! The attention's backward call and its reference end with equal results. -/

namespace Cert.Proof.AttnAlg

open Idealize.ShloMosaic Idealize.ShloMosaic.TcCoe Idealize.ShloMosaic.Tactic Idealize.SL.Sem Cert.Row

/-- Under the precondition every score of the reference is real. -/
theorem scores (y0 y1 : FVec Ideal Cert.Pre_attn_finite.S8x4096x1024 .bf16) (y2 : FVec Ideal Cert.Pre_attn_finite.S4096x1024 .bf16)
    (y3 : FVec Ideal Cert.Pre_attn_finite.S1x256x1024 .f32) (y4 : FVec Ideal Cert.Pre_attn_finite.S1x1024 .f32)
    (y5 : FVec Ideal Cert.Pre_attn_finite.S1x1024x2048 .f32)
    (h : @Cert.Pre_attn_finite.fn Cert.Pre_attn_finite.facts Ideal _ y0 y1 y2 y3 y4 y5 = fun _ => 1#1) :
    Cert.AttnRefIdeal.Val.Scores y1 y3 y4 y5 := fun t h' j => by
  haveI := Cert.Pre_attn_finite.facts
  obtain ⟨hp, hx, hg, hw⟩ := Cert.Pre_attn_finite.finite_of y0 y1 y2 y3 y4 y5 h
  exact sc_re _ _ (fun d => hp t _) (fun j d => kvF_re _ _ _ (fun j a => hx _) (fun a => hg _) (fun a k => hw _) _ _) j

section

variable (m : (ℓ : Loc Cert.AttnIdeal.nD Cert.AttnIdeal.τ Cert.AttnIdeal.sig) → Buf (Elt Ideal) ℓ) (c : Dev Cert.AttnIdeal.nD)
  (m' : (ℓ : Loc Cert.AttnRefIdeal.nD Cert.AttnRefIdeal.τ Cert.AttnRefIdeal.sig) → Buf (Elt Ideal) ℓ)

open Cert.AttnRefIdeal.Read Cert.AttnRefIdeal.Val Cert.AttnIdeal.Val

/-- The two programs read the same arguments. -/
def Agree : Prop :=
  m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)

/-- The two programs' results agree, result by result. -/
theorem same (ha : Agree m c m') (hs : Scores (m ((c.tc : Thread Cert.AttnIdeal.nD Cert.AttnIdeal.τ).loc Cert.AttnIdeal.main_arg1))
      (m ((c.tc : Thread Cert.AttnIdeal.nD Cert.AttnIdeal.τ).loc Cert.AttnIdeal.main_arg3)) (m ((c.tc : Thread Cert.AttnIdeal.nD Cert.AttnIdeal.τ).loc Cert.AttnIdeal.main_arg4))
      (m ((c.tc : Thread Cert.AttnIdeal.nD Cert.AttnIdeal.τ).loc Cert.AttnIdeal.main_arg5))) :
    Cert.AttnRefIdeal.Value.res_main_v98 m' c = (Cert.AttnIdeal.Gen.dats m 0 c).arrAt 7 Cert.AttnIdeal.cfg0.N
    ∧ Cert.AttnRefIdeal.Value.res_main_v101 m' c = (Cert.AttnIdeal.Gen.dats m 0 c).arrAt 8 Cert.AttnIdeal.cfg0.N
    ∧ Cert.AttnRefIdeal.Value.res_main_v102 m' c = (Cert.AttnIdeal.Gen.dats m 0 c).arrAt 9 Cert.AttnIdeal.cfg0.N := by
  obtain ⟨h0, h1, h2, h3, h4, h5⟩ := ha
  refine ⟨?_, ?_, ?_⟩
  · rw [val_main_v98_eq, h0, h1, h2, h3, h4, h5, final7]
    funext y
    change Cert.AttnIdeal.S8x4096x1024.Idx at y
    idx_vars y
    exact v98_at _ _ _ _ _ _ hs _ _ _
  · rw [val_main_v101_eq, h1, h2, h3, h4, h5, final8]
    funext y
    change Cert.AttnIdeal.S8x1024x256.Idx at y
    idx_vars y
    exact v101_at _ _ _ _ _ hs _ _ _
  · rw [val_main_v102_eq, h1, h2, h3, h4, h5, final9]
    funext y
    change Cert.AttnIdeal.S1x1024.Idx at y
    idx_vars y
    obtain rfl : y0 = 0 := Subsingleton.elim _ _
    exact v102_at _ _ _ _ _ hs _

end

/-- The attention's backward call and the transpose of reference.py's attention lines end with equal results. -/
theorem algebraic : algebraic_AttnIdeal_AttnRefIdeal_pre_attn_finite (hAttnIdeal := Cert.AttnIdeal.Gen.facts) (hAttnRefIdeal := Cert.AttnRefIdeal.Gen.facts)
    (hPre_attn_finite := Cert.Pre_attn_finite.facts) := fun m ρ m' ρ' hp ha =>
  ⟨fun c => (Cert.AttnIdeal.Gen.dats m 0 c).arrAt 7 Cert.AttnIdeal.cfg0.N,
    fun c => (Cert.AttnIdeal.Gen.dats m 0 c).arrAt 8 Cert.AttnIdeal.cfg0.N,
    fun c => (Cert.AttnIdeal.Gen.dats m 0 c).arrAt 9 Cert.AttnIdeal.cfg0.N,
    Cert.AttnIdeal.Value.run_blocks m ρ,
    (θ_run _ _ _).mono (fun _ h c => by
      obtain ⟨e1, e2, e3⟩ := same m c m' (ha c) (scores _ _ _ _ _ _ (hp c))
      exact ⟨(h c).1.trans e1, (h c).2.1.trans e2, (h c).2.2.1.trans e3, (h c).2.2.2⟩) (Cert.AttnRefIdeal.Value.run m' ρ')⟩

/-- The reference runs, keeps its arguments and leaves every semaphore at zero. -/
theorem frameRef : quiescent_AttnRefIdeal (hAttnRefIdeal := Cert.AttnRefIdeal.Gen.facts) := fun m ρ _ =>
  (θ_run _ _ _).mono (fun r h => ⟨fun c => (h c).2.2.2, sem_eq_zero_of_no_sems (by decide) _⟩) (Cert.AttnRefIdeal.Value.run m ρ)

end Cert.Proof.AttnAlg

end
-- ==== Proof.WgDownAlg.lean ====
module

public import proofs.«01_k».proof.Defs
public import proofs.«01_k».proof.Proof.Gen.WgDown
public import proofs.«01_k».proof.Proof.Gen.WgDown.Frame
public import proofs.«01_k».proof.Proof.Gen.WgDownIdeal.Frame
public import proofs.«01_k».proof.Proof.Gen.WgDownIdeal.Value
public import proofs.«01_k».proof.Proof.Gen.WgDownRefIdeal.Run
public import proofs.«01_k».proof.Proof.Gen.WgDownRefIdeal.Read
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The weight gradient of the down projection. -/

namespace Cert.WgDownIdeal.Val

open Idealize.ShloMosaic Idealize.ShloMosaic.TcCoe Idealize.ShloMosaic.Tactic Idealize.SL.Sem
open Cert.WgDownIdeal Cert.WgDownIdeal.Gen Cert.WgDownIdeal.Value

variable (m : (ℓ : Loc nD τ sig) → Buf (Elt Ideal) ℓ)

theorem fill_at (j : S2816x1024.Idx) : k0_pay1 (F := Ideal) j = 0 := by pointwise [k0_pay1]; try rfl

/-- A point adds its tile's products to the accumulator. -/
theorem step_at (s : Vec Ideal S2816x1024 .f32) (x0 : Vec Ideal S1024x2816 .bf16) (x1 : Vec Ideal S1x1024x1024 .f32) (j : S2816x1024.Idx) :
    k0_pay2 (F := Ideal) s x0 x1 j = s j + ∑ k : Fin 1024, x0 (ix2 k (j 0)) * x1 (ix3 0 k (j 1)) := by
  idx_vars j
  pointwise [k0_pay2]

theorem cast_at (s : Vec Ideal S2816x1024 .f32) (a : Fin 2816) (b : Fin 1024) : k0_pay3 (F := Ideal) s (ix3 0 a b) = s (ix2 a b) := by
  pointwise [k0_pay3]

theorem idx : ∀ t : Fin cfg0.N, win0_0.index t = ![t.val, 0] ∧ win0_1.index t = ![0, t.val, 0] ∧ win0_2.index t = ![0, 0, 0] :=
  (by decide +kernel : ∀ t : Fin grid0.N, _)

/-- The two arguments. -/
abbrev aX (c : Dev nD) : Vec Ideal S4096x2816 .bf16 := m ((c : Thread nD τ).loc main_arg0)
abbrev aY (c : Dev nD) : Vec Ideal S4096x1024 .f32 := m ((c : Thread nD τ).loc main_arg1)

theorem blk0_at (c : Dev nD) (t : Fin cfg0.N) (r : Fin 1024) (k : Fin 2816) (h : t.val * 1024 + r.val < 4096) :
    (show Vec Ideal S1024x2816 .bf16 from iblk m c 0 t) (ix2 r k) = aX m c (ix2 ⟨t.val * 1024 + r.val, h⟩ k) := by
  unfold aX
  rw [← V_main_arg0 m c]
  blk_ext [iblk, idx t]

theorem V0_at (c : Dev nD) (r k) : (V m c main_v0 : Vec Ideal S1x4096x1024 .f32) (ix3 0 r k) = aY m c (ix2 r k) := by
  entry_read
  pointwise

theorem blk1_at (c : Dev nD) (t : Fin cfg0.N) (r k : Fin 1024) (h : t.val * 1024 + r.val < 4096) :
    (show Vec Ideal S1x1024x1024 .f32 from iblk m c 1 t) (ix3 0 r k) = aY m c (ix2 ⟨t.val * 1024 + r.val, h⟩ k) := by
  rw [← V0_at]
  blk_ext [iblk, idx t]

/-- What a tile adds. -/
def part (c : Dev nD) (t : Fin cfg0.N) (j : S2816x1024.Idx) : EReal :=
  ∑ k : Fin 1024, (show Vec Ideal S1024x2816 .bf16 from iblk m c 0 t) (ix2 k (j 0)) * (show Vec Ideal S1x1024x1024 .f32 from iblk m c 1 t) (ix3 0 k (j 1))

/-- The accumulator after the last point. -/
theorem acc_last (c : Dev nD) (t : Fin cfg0.N) (ht : t.val + 1 = cfg0.N) (j : S2816x1024.Idx) :
    (outsAt0 m c t.val t.isLt).2 j = ∑ p : Fin cfg0.N, part m c p j := by
  rw [Pipeline.eq_sum_fin_of_reset_step_apply_last (fun n h => (outsAt0 m c n h).2) 4 (fun _ => 0) (part m c)
    (fun t h j => by
      have h1 : ¬t.val % 4 = 3 := by omega
      rw [outsAt0_A m c t h h1]; frame_out; rw [step_at, fill_at]; rfl)
    (fun t h j => by
      by_cases h1 : t.val % 4 = 3
      · rw [outsAt0_C m c t h h1]; frame_out; rw [step_at]; exact congrArg (· + part m c t j) (congrFun ((Memref.isWhole_whole cc0_scratch0).read_unread _) j)
      · rw [outsAt0_B m c t h h1]; frame_out; rw [step_at]; exact congrArg (· + part m c t j) (congrFun ((Memref.isWhole_whole cc0_scratch0).read_unread _) j))
    (le_of_eq N_0) t ht j, zero_add]

/-- The last point writes the accumulator out. -/
theorem out_last (c : Dev nD) (t : Fin cfg0.N) (h1 : t.val % 4 = 3) (a : Fin 2816) (b : Fin 1024) :
    (outsAt0 m c t.val t.isLt).1 (ix3 0 a b) = (outsAt0 m c t.val t.isLt).2 (ix2 a b) := by
  have h : ¬t.val % 4 = 0 := by omega
  rw [outsAt0_C m c t h h1]; frame_out; rw [cast_at]

/-- The weight's gradient: the products summed over all rows. -/
def res (c : Dev nD) (a : Fin 2816) (b : Fin 1024) : EReal := ∑ r : Fin 4096, aX m c (ix2 r a) * aY m c (ix2 r b)

theorem sum_parts (c : Dev nD) (a : Fin 2816) (b : Fin 1024) : ∑ p : Fin cfg0.N, part m c p (ix2 a b) = res m c a b := by
  unfold res part
  refine Eq.trans ?_ (Fin.sum_univ_tiles 4 1024 rfl fun r : Fin 4096 => aX m c (ix2 r a) * aY m c (ix2 r b)).symm
  refine Finset.sum_congr rfl fun t _ => Finset.sum_congr rfl fun k _ => ?_
  have ht : t.val < 4 := t.isLt
  exact congrArg₂ (· * ·) (blk0_at m c t k a (by omega)) (blk1_at m c t k b (by omega))

theorem final2 (c : Dev nD) : (dats m 0 c).arrAt 2 cfg0.N = fun i : S1x2816x1024.Idx => res m c (i 1) (i 2) := by
  refine (dats m 0 c).arrAt_eq_of_covers 2 _ (by decide +kernel) fun t hf y => ?_
  have ht4 : t.val < 4 := t.isLt
  have ht : t.val % 4 = 3 := by
    have := (flush0_2 t).mp hf
    omega
  blk_simp
  rw [after0_2]
  change S1x2816x1024.Idx at y
  idx_vars y
  obtain rfl : y0 = 0 := Subsingleton.elim _ _
  refine (out_last m c t ht y1 y2).trans ((acc_last m c t (by show t.val + 1 = 4; omega) _).trans ((sum_parts m c y1 y2).trans ?_))
  refine congrArg₂ (res m c) (Fin.ext ?_) (Fin.ext ?_) <;> blk_simp [idx t]

end Cert.WgDownIdeal.Val

namespace Cert.Proof.WgDownAlg

open Idealize.ShloMosaic Idealize.ShloMosaic.TcCoe Idealize.ShloMosaic.Tactic Idealize.SL.Sem

open Cert.WgDownRefIdeal Cert.WgDownRefIdeal.Read in
theorem ref_at (x0 : Vec Ideal S4096x2816 .bf16) (x1 : Vec Ideal S4096x1024 .f32) (a : Fin 2816) (b : Fin 1024) :
    val_main_v6 (F := Ideal) x0 x1 (ix3 0 a b) = ∑ r : Fin 4096, x0 (ix2 r a) * x1 (ix2 r b) := by
  pointwise [val_main_v6, val_main_v5, val_main_v4, val_main_v3, val_main_v0]
  exact Finset.sum_congr rfl fun _ _ => mul_comm (G := EReal) _ _

theorem same (m : (ℓ : Loc Cert.WgDownIdeal.nD Cert.WgDownIdeal.τ Cert.WgDownIdeal.sig) → Buf (Elt Ideal) ℓ) (c : Dev Cert.WgDownIdeal.nD)
    (y0 : Vec Ideal Cert.WgDownRefIdeal.S4096x2816 .bf16) (y1 : Vec Ideal Cert.WgDownRefIdeal.S4096x1024 .f32)
    (h0 : y0 = Cert.WgDownIdeal.Val.aX m c) (h1 : y1 = Cert.WgDownIdeal.Val.aY m c) :
    Cert.WgDownRefIdeal.Read.val_main_v6 (F := Ideal) y0 y1 = (Cert.WgDownIdeal.Gen.dats m 0 c).arrAt 2 Cert.WgDownIdeal.cfg0.N := by
  rw [Cert.WgDownIdeal.Val.final2, h0, h1]
  funext y
  change Cert.WgDownRefIdeal.S1x2816x1024.Idx at y
  idx_vars y
  obtain rfl : y0 = 0 := Subsingleton.elim _ _
  exact ref_at _ _ _ _

theorem algebraic : algebraic_WgDownIdeal_WgDownRefIdeal (hWgDownIdeal := Cert.WgDownIdeal.Gen.facts) (hWgDownRefIdeal := Cert.WgDownRefIdeal.Gen.facts) := fun m ρ m' ρ' _ ha =>
  ⟨fun c => (Cert.WgDownIdeal.Gen.dats m 0 c).arrAt 2 Cert.WgDownIdeal.cfg0.N,
    Cert.WgDownIdeal.Value.run_blocks m ρ,
    (θ_run _ _ _).mono (fun _ h c => ⟨(h c).1.trans (same m c _ _ (ha c).1 (ha c).2.1), (h c).2⟩) (Cert.WgDownRefIdeal.Value.run m' ρ')⟩

theorem frameRef : quiescent_WgDownRefIdeal (hWgDownRefIdeal := Cert.WgDownRefIdeal.Gen.facts) := fun m ρ _ =>
  (θ_run _ _ _).mono (fun r h => ⟨fun c => (h c).2, sem_eq_zero_of_no_sems (by decide) _⟩) (Cert.WgDownRefIdeal.Value.run m ρ)

end Cert.Proof.WgDownAlg
-- ==== Proof.WgUpAlg.lean ====
module

public import proofs.«01_k».proof.Defs
public import proofs.«01_k».proof.Proof.Gen.WgUp
public import proofs.«01_k».proof.Proof.Gen.WgUp.Frame
public import proofs.«01_k».proof.Proof.Gen.WgUpIdeal.Frame
public import proofs.«01_k».proof.Proof.Gen.WgUpIdeal.Value
public import proofs.«01_k».proof.Proof.Gen.WgUpRefIdeal.Run
public import proofs.«01_k».proof.Proof.Gen.WgUpRefIdeal.Read
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The weight gradient of the gate and up projections. -/

namespace Cert.WgUpIdeal.Val

open Idealize.ShloMosaic Idealize.ShloMosaic.TcCoe Idealize.ShloMosaic.Tactic Idealize.SL.Sem
open Cert.WgUpIdeal Cert.WgUpIdeal.Gen Cert.WgUpIdeal.Value

variable (m : (ℓ : Loc nD τ sig) → Buf (Elt Ideal) ℓ)

theorem fill_at (j : S2816x1024.Idx) : k0_pay1 (F := Ideal) j = 0 := by pointwise [k0_pay1]; try rfl

/-- A point adds its tile's products to the accumulator. -/
theorem step_at (s : Vec Ideal S2816x1024 .f32) (x0 : Vec Ideal S1024x2816 .bf16) (x1 : Vec Ideal S1x1024x1024 .bf16) (j : S2816x1024.Idx) :
    k0_pay2 (F := Ideal) s x0 x1 j = s j + ∑ k : Fin 1024, x0 (ix2 k (j 0)) * x1 (ix3 0 k (j 1)) := by
  idx_vars j
  pointwise [k0_pay2]

theorem cast_at (s : Vec Ideal S2816x1024 .f32) (a : Fin 2816) (b : Fin 1024) : k0_pay3 (F := Ideal) s (ix3 0 a b) = s (ix2 a b) := by
  pointwise [k0_pay3]

theorem idx : ∀ t : Fin cfg0.N, win0_0.index t = ![t.val, 0] ∧ win0_1.index t = ![0, t.val, 0] ∧ win0_2.index t = ![0, 0, 0] :=
  (by decide +kernel : ∀ t : Fin grid0.N, _)

/-- The two arguments. -/
abbrev aX (c : Dev nD) : Vec Ideal S4096x2816 .bf16 := m ((c : Thread nD τ).loc main_arg0)
abbrev aY (c : Dev nD) : Vec Ideal S4096x1024 .bf16 := m ((c : Thread nD τ).loc main_arg1)

theorem blk0_at (c : Dev nD) (t : Fin cfg0.N) (r : Fin 1024) (k : Fin 2816) (h : t.val * 1024 + r.val < 4096) :
    (show Vec Ideal S1024x2816 .bf16 from iblk m c 0 t) (ix2 r k) = aX m c (ix2 ⟨t.val * 1024 + r.val, h⟩ k) := by
  unfold aX
  rw [← V_main_arg0 m c]
  blk_ext [iblk, idx t]

theorem V0_at (c : Dev nD) (r k) : (V m c main_v0 : Vec Ideal S1x4096x1024 .bf16) (ix3 0 r k) = aY m c (ix2 r k) := by
  entry_read
  pointwise

theorem blk1_at (c : Dev nD) (t : Fin cfg0.N) (r k : Fin 1024) (h : t.val * 1024 + r.val < 4096) :
    (show Vec Ideal S1x1024x1024 .bf16 from iblk m c 1 t) (ix3 0 r k) = aY m c (ix2 ⟨t.val * 1024 + r.val, h⟩ k) := by
  rw [← V0_at]
  blk_ext [iblk, idx t]

/-- What a tile adds. -/
def part (c : Dev nD) (t : Fin cfg0.N) (j : S2816x1024.Idx) : EReal :=
  ∑ k : Fin 1024, (show Vec Ideal S1024x2816 .bf16 from iblk m c 0 t) (ix2 k (j 0)) * (show Vec Ideal S1x1024x1024 .bf16 from iblk m c 1 t) (ix3 0 k (j 1))

/-- The accumulator after the last point. -/
theorem acc_last (c : Dev nD) (t : Fin cfg0.N) (ht : t.val + 1 = cfg0.N) (j : S2816x1024.Idx) :
    (outsAt0 m c t.val t.isLt).2 j = ∑ p : Fin cfg0.N, part m c p j := by
  rw [Pipeline.eq_sum_fin_of_reset_step_apply_last (fun n h => (outsAt0 m c n h).2) 4 (fun _ => 0) (part m c)
    (fun t h j => by
      have h1 : ¬t.val % 4 = 3 := by omega
      rw [outsAt0_A m c t h h1]; frame_out; rw [step_at, fill_at]; rfl)
    (fun t h j => by
      by_cases h1 : t.val % 4 = 3
      · rw [outsAt0_C m c t h h1]; frame_out; rw [step_at]; exact congrArg (· + part m c t j) (congrFun ((Memref.isWhole_whole cc0_scratch0).read_unread _) j)
      · rw [outsAt0_B m c t h h1]; frame_out; rw [step_at]; exact congrArg (· + part m c t j) (congrFun ((Memref.isWhole_whole cc0_scratch0).read_unread _) j))
    (le_of_eq N_0) t ht j, zero_add]

/-- The last point writes the accumulator out. -/
theorem out_last (c : Dev nD) (t : Fin cfg0.N) (h1 : t.val % 4 = 3) (a : Fin 2816) (b : Fin 1024) :
    (outsAt0 m c t.val t.isLt).1 (ix3 0 a b) = (outsAt0 m c t.val t.isLt).2 (ix2 a b) := by
  have h : ¬t.val % 4 = 0 := by omega
  rw [outsAt0_C m c t h h1]; frame_out; rw [cast_at]

/-- The weight's gradient: the products summed over all rows. -/
def res (c : Dev nD) (a : Fin 2816) (b : Fin 1024) : EReal := ∑ r : Fin 4096, aX m c (ix2 r a) * aY m c (ix2 r b)

theorem sum_parts (c : Dev nD) (a : Fin 2816) (b : Fin 1024) : ∑ p : Fin cfg0.N, part m c p (ix2 a b) = res m c a b := by
  unfold res part
  refine Eq.trans ?_ (Fin.sum_univ_tiles 4 1024 rfl fun r : Fin 4096 => aX m c (ix2 r a) * aY m c (ix2 r b)).symm
  refine Finset.sum_congr rfl fun t _ => Finset.sum_congr rfl fun k _ => ?_
  have ht : t.val < 4 := t.isLt
  exact congrArg₂ (· * ·) (blk0_at m c t k a (by omega)) (blk1_at m c t k b (by omega))

theorem final2 (c : Dev nD) : (dats m 0 c).arrAt 2 cfg0.N = fun i : S1x2816x1024.Idx => res m c (i 1) (i 2) := by
  refine (dats m 0 c).arrAt_eq_of_covers 2 _ (by decide +kernel) fun t hf y => ?_
  have ht4 : t.val < 4 := t.isLt
  have ht : t.val % 4 = 3 := by
    have := (flush0_2 t).mp hf
    omega
  blk_simp
  rw [after0_2]
  change S1x2816x1024.Idx at y
  idx_vars y
  obtain rfl : y0 = 0 := Subsingleton.elim _ _
  refine (out_last m c t ht y1 y2).trans ((acc_last m c t (by show t.val + 1 = 4; omega) _).trans ((sum_parts m c y1 y2).trans ?_))
  refine congrArg₂ (res m c) (Fin.ext ?_) (Fin.ext ?_) <;> blk_simp [idx t]

end Cert.WgUpIdeal.Val

namespace Cert.Proof.WgUpAlg

open Idealize.ShloMosaic Idealize.ShloMosaic.TcCoe Idealize.ShloMosaic.Tactic Idealize.SL.Sem

open Cert.WgUpRefIdeal Cert.WgUpRefIdeal.Read in
theorem ref_at (x0 : Vec Ideal S4096x2816 .bf16) (x1 : Vec Ideal S4096x1024 .bf16) (a : Fin 2816) (b : Fin 1024) :
    val_main_v8 (F := Ideal) x0 x1 (ix3 0 a b) = ∑ r : Fin 4096, x0 (ix2 r a) * x1 (ix2 r b) := by
  pointwise [val_main_v8, val_main_v7, val_main_v6, val_main_v5, val_main_v4, val_main_v1, val_main_v0]

theorem same (m : (ℓ : Loc Cert.WgUpIdeal.nD Cert.WgUpIdeal.τ Cert.WgUpIdeal.sig) → Buf (Elt Ideal) ℓ) (c : Dev Cert.WgUpIdeal.nD)
    (y0 : Vec Ideal Cert.WgUpRefIdeal.S4096x2816 .bf16) (y1 : Vec Ideal Cert.WgUpRefIdeal.S4096x1024 .bf16)
    (h0 : y0 = Cert.WgUpIdeal.Val.aX m c) (h1 : y1 = Cert.WgUpIdeal.Val.aY m c) :
    Cert.WgUpRefIdeal.Read.val_main_v8 (F := Ideal) y0 y1 = (Cert.WgUpIdeal.Gen.dats m 0 c).arrAt 2 Cert.WgUpIdeal.cfg0.N := by
  rw [Cert.WgUpIdeal.Val.final2, h0, h1]
  funext y
  change Cert.WgUpRefIdeal.S1x2816x1024.Idx at y
  idx_vars y
  obtain rfl : y0 = 0 := Subsingleton.elim _ _
  exact ref_at _ _ _ _

theorem algebraic : algebraic_WgUpIdeal_WgUpRefIdeal (hWgUpIdeal := Cert.WgUpIdeal.Gen.facts) (hWgUpRefIdeal := Cert.WgUpRefIdeal.Gen.facts) := fun m ρ m' ρ' _ ha =>
  ⟨fun c => (Cert.WgUpIdeal.Gen.dats m 0 c).arrAt 2 Cert.WgUpIdeal.cfg0.N,
    Cert.WgUpIdeal.Value.run_blocks m ρ,
    (θ_run _ _ _).mono (fun _ h c => ⟨(h c).1.trans (same m c _ _ (ha c).1 (ha c).2.1), (h c).2⟩) (Cert.WgUpRefIdeal.Value.run m' ρ')⟩

theorem frameRef : quiescent_WgUpRefIdeal (hWgUpRefIdeal := Cert.WgUpRefIdeal.Gen.facts) := fun m ρ _ =>
  (θ_run _ _ _).mono (fun r h => ⟨fun c => (h c).2, sem_eq_zero_of_no_sems (by decide) _⟩) (Cert.WgUpRefIdeal.Value.run m ρ)

end Cert.Proof.WgUpAlg
-- ==== Proof.WgOutAlg.lean ====
module

public import proofs.«01_k».proof.Defs
public import proofs.«01_k».proof.Proof.Gen.WgOut
public import proofs.«01_k».proof.Proof.Gen.WgOut.Frame
public import proofs.«01_k».proof.Proof.Gen.WgOutIdeal.Frame
public import proofs.«01_k».proof.Proof.Gen.WgOutIdeal.Value
public import proofs.«01_k».proof.Proof.Gen.WgOutRefIdeal.Run
public import proofs.«01_k».proof.Proof.Gen.WgOutRefIdeal.Read
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The weight gradient of the merge projection. -/

namespace Cert.WgOutIdeal.Val

open Idealize.ShloMosaic Idealize.ShloMosaic.TcCoe Idealize.ShloMosaic.Tactic Idealize.SL.Sem
open Cert.WgOutIdeal Cert.WgOutIdeal.Gen Cert.WgOutIdeal.Value

variable (m : (ℓ : Loc nD τ sig) → Buf (Elt Ideal) ℓ)

theorem fill_at (j : S1024x1024.Idx) : k0_pay1 (F := Ideal) j = 0 := by pointwise [k0_pay1]; try rfl

/-- A point adds its tile's products to the accumulator. -/
theorem step_at (s : Vec Ideal S1024x1024 .f32) (x0 : Vec Ideal S1024x1024 .bf16) (x1 : Vec Ideal S1x1024x1024 .f32) (j : S1024x1024.Idx) :
    k0_pay2 (F := Ideal) s x0 x1 j = s j + ∑ k : Fin 1024, x0 (ix2 k (j 0)) * x1 (ix3 0 k (j 1)) := by
  idx_vars j
  pointwise [k0_pay2]

theorem cast_at (s : Vec Ideal S1024x1024 .f32) (a : Fin 1024) (b : Fin 1024) : k0_pay3 (F := Ideal) s (ix3 0 a b) = s (ix2 a b) := by
  pointwise [k0_pay3]

theorem idx : ∀ t : Fin cfg0.N, win0_0.index t = ![t.val, 0] ∧ win0_1.index t = ![0, t.val, 0] ∧ win0_2.index t = ![0, 0, 0] :=
  (by decide +kernel : ∀ t : Fin grid0.N, _)

/-- The two arguments. -/
abbrev aX (c : Dev nD) : Vec Ideal S4096x1024 .bf16 := m ((c : Thread nD τ).loc main_arg0)
abbrev aY (c : Dev nD) : Vec Ideal S4096x1024 .f32 := m ((c : Thread nD τ).loc main_arg1)

theorem blk0_at (c : Dev nD) (t : Fin cfg0.N) (r : Fin 1024) (k : Fin 1024) (h : t.val * 1024 + r.val < 4096) :
    (show Vec Ideal S1024x1024 .bf16 from iblk m c 0 t) (ix2 r k) = aX m c (ix2 ⟨t.val * 1024 + r.val, h⟩ k) := by
  unfold aX
  rw [← V_main_arg0 m c]
  blk_ext [iblk, idx t]

theorem V0_at (c : Dev nD) (r k) : (V m c main_v0 : Vec Ideal S1x4096x1024 .f32) (ix3 0 r k) = aY m c (ix2 r k) := by
  entry_read
  pointwise

theorem blk1_at (c : Dev nD) (t : Fin cfg0.N) (r k : Fin 1024) (h : t.val * 1024 + r.val < 4096) :
    (show Vec Ideal S1x1024x1024 .f32 from iblk m c 1 t) (ix3 0 r k) = aY m c (ix2 ⟨t.val * 1024 + r.val, h⟩ k) := by
  rw [← V0_at]
  blk_ext [iblk, idx t]

/-- What a tile adds. -/
def part (c : Dev nD) (t : Fin cfg0.N) (j : S1024x1024.Idx) : EReal :=
  ∑ k : Fin 1024, (show Vec Ideal S1024x1024 .bf16 from iblk m c 0 t) (ix2 k (j 0)) * (show Vec Ideal S1x1024x1024 .f32 from iblk m c 1 t) (ix3 0 k (j 1))

/-- The accumulator after the last point. -/
theorem acc_last (c : Dev nD) (t : Fin cfg0.N) (ht : t.val + 1 = cfg0.N) (j : S1024x1024.Idx) :
    (outsAt0 m c t.val t.isLt).2 j = ∑ p : Fin cfg0.N, part m c p j := by
  rw [Pipeline.eq_sum_fin_of_reset_step_apply_last (fun n h => (outsAt0 m c n h).2) 4 (fun _ => 0) (part m c)
    (fun t h j => by
      have h1 : ¬t.val % 4 = 3 := by omega
      rw [outsAt0_A m c t h h1]; frame_out; rw [step_at, fill_at]; rfl)
    (fun t h j => by
      by_cases h1 : t.val % 4 = 3
      · rw [outsAt0_C m c t h h1]; frame_out; rw [step_at]; exact congrArg (· + part m c t j) (congrFun ((Memref.isWhole_whole cc0_scratch0).read_unread _) j)
      · rw [outsAt0_B m c t h h1]; frame_out; rw [step_at]; exact congrArg (· + part m c t j) (congrFun ((Memref.isWhole_whole cc0_scratch0).read_unread _) j))
    (le_of_eq N_0) t ht j, zero_add]

/-- The last point writes the accumulator out. -/
theorem out_last (c : Dev nD) (t : Fin cfg0.N) (h1 : t.val % 4 = 3) (a : Fin 1024) (b : Fin 1024) :
    (outsAt0 m c t.val t.isLt).1 (ix3 0 a b) = (outsAt0 m c t.val t.isLt).2 (ix2 a b) := by
  have h : ¬t.val % 4 = 0 := by omega
  rw [outsAt0_C m c t h h1]; frame_out; rw [cast_at]

/-- The weight's gradient: the products summed over all rows. -/
def res (c : Dev nD) (a : Fin 1024) (b : Fin 1024) : EReal := ∑ r : Fin 4096, aX m c (ix2 r a) * aY m c (ix2 r b)

theorem sum_parts (c : Dev nD) (a : Fin 1024) (b : Fin 1024) : ∑ p : Fin cfg0.N, part m c p (ix2 a b) = res m c a b := by
  unfold res part
  refine Eq.trans ?_ (Fin.sum_univ_tiles 4 1024 rfl fun r : Fin 4096 => aX m c (ix2 r a) * aY m c (ix2 r b)).symm
  refine Finset.sum_congr rfl fun t _ => Finset.sum_congr rfl fun k _ => ?_
  have ht : t.val < 4 := t.isLt
  exact congrArg₂ (· * ·) (blk0_at m c t k a (by omega)) (blk1_at m c t k b (by omega))

theorem final2 (c : Dev nD) : (dats m 0 c).arrAt 2 cfg0.N = fun i : S1x1024x1024.Idx => res m c (i 1) (i 2) := by
  refine (dats m 0 c).arrAt_eq_of_covers 2 _ (by decide +kernel) fun t hf y => ?_
  have ht4 : t.val < 4 := t.isLt
  have ht : t.val % 4 = 3 := by
    have := (flush0_2 t).mp hf
    omega
  blk_simp
  rw [after0_2]
  change S1x1024x1024.Idx at y
  idx_vars y
  obtain rfl : y0 = 0 := Subsingleton.elim _ _
  refine (out_last m c t ht y1 y2).trans ((acc_last m c t (by show t.val + 1 = 4; omega) _).trans ((sum_parts m c y1 y2).trans ?_))
  refine congrArg₂ (res m c) (Fin.ext ?_) (Fin.ext ?_) <;> blk_simp [idx t]

end Cert.WgOutIdeal.Val

namespace Cert.Proof.WgOutAlg

open Idealize.ShloMosaic Idealize.ShloMosaic.TcCoe Idealize.ShloMosaic.Tactic Idealize.SL.Sem

open Cert.WgOutRefIdeal Cert.WgOutRefIdeal.Read in
theorem ref_at (x0 : Vec Ideal S4096x1024 .bf16) (x1 : Vec Ideal S4096x1024 .f32) (a : Fin 1024) (b : Fin 1024) :
    val_main_v6 (F := Ideal) x0 x1 (ix3 0 a b) = ∑ r : Fin 4096, x0 (ix2 r a) * x1 (ix2 r b) := by
  pointwise [val_main_v6, val_main_v5, val_main_v4, val_main_v3, val_main_v0]
  exact Finset.sum_congr rfl fun _ _ => mul_comm (G := EReal) _ _

theorem same (m : (ℓ : Loc Cert.WgOutIdeal.nD Cert.WgOutIdeal.τ Cert.WgOutIdeal.sig) → Buf (Elt Ideal) ℓ) (c : Dev Cert.WgOutIdeal.nD)
    (y0 : Vec Ideal Cert.WgOutRefIdeal.S4096x1024 .bf16) (y1 : Vec Ideal Cert.WgOutRefIdeal.S4096x1024 .f32)
    (h0 : y0 = Cert.WgOutIdeal.Val.aX m c) (h1 : y1 = Cert.WgOutIdeal.Val.aY m c) :
    Cert.WgOutRefIdeal.Read.val_main_v6 (F := Ideal) y0 y1 = (Cert.WgOutIdeal.Gen.dats m 0 c).arrAt 2 Cert.WgOutIdeal.cfg0.N := by
  rw [Cert.WgOutIdeal.Val.final2, h0, h1]
  funext y
  change Cert.WgOutRefIdeal.S1x1024x1024.Idx at y
  idx_vars y
  obtain rfl : y0 = 0 := Subsingleton.elim _ _
  exact ref_at _ _ _ _

theorem algebraic : algebraic_WgOutIdeal_WgOutRefIdeal (hWgOutIdeal := Cert.WgOutIdeal.Gen.facts) (hWgOutRefIdeal := Cert.WgOutRefIdeal.Gen.facts) := fun m ρ m' ρ' _ ha =>
  ⟨fun c => (Cert.WgOutIdeal.Gen.dats m 0 c).arrAt 2 Cert.WgOutIdeal.cfg0.N,
    Cert.WgOutIdeal.Value.run_blocks m ρ,
    (θ_run _ _ _).mono (fun _ h c => ⟨(h c).1.trans (same m c _ _ (ha c).1 (ha c).2.1), (h c).2⟩) (Cert.WgOutRefIdeal.Value.run m' ρ')⟩

theorem frameRef : quiescent_WgOutRefIdeal (hWgOutRefIdeal := Cert.WgOutRefIdeal.Gen.facts) := fun m ρ _ =>
  (θ_run _ _ _).mono (fun r h => ⟨fun c => (h c).2, sem_eq_zero_of_no_sems (by decide) _⟩) (Cert.WgOutRefIdeal.Value.run m ρ)

end Cert.Proof.WgOutAlg
-- ==== Proof.WgMixAlg.lean ====
module

public import proofs.«01_k».proof.Defs
public import proofs.«01_k».proof.Proof.Gen.WgMix
public import proofs.«01_k».proof.Proof.Gen.WgMix.Frame
public import proofs.«01_k».proof.Proof.Gen.WgMixIdeal.Frame
public import proofs.«01_k».proof.Proof.Gen.WgMixIdeal.Value
public import proofs.«01_k».proof.Proof.Gen.WgMixRefIdeal.Run
public import proofs.«01_k».proof.Proof.Gen.WgMixRefIdeal.Read
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The weight gradient of the two mixing projections. -/

namespace Cert.WgMixIdeal.Val

open Idealize.ShloMosaic Idealize.ShloMosaic.TcCoe Idealize.ShloMosaic.Tactic Idealize.SL.Sem
open Cert.WgMixIdeal Cert.WgMixIdeal.Gen Cert.WgMixIdeal.Value

variable (m : (ℓ : Loc nD τ sig) → Buf (Elt Ideal) ℓ)

theorem fill_at (j : S1024x1024.Idx) : k0_pay1 (F := Ideal) j = 0 := by pointwise [k0_pay1]; try rfl

/-- A point adds its tile's products to the accumulator. -/
theorem step_at (s : Vec Ideal S1024x1024 .f32) (x0 : Vec Ideal S1024x1024 .bf16) (x1 : Vec Ideal S1x1024x1024 .bf16) (j : S1024x1024.Idx) :
    k0_pay2 (F := Ideal) s x0 x1 j = s j + ∑ k : Fin 1024, x0 (ix2 k (j 0)) * x1 (ix3 0 k (j 1)) := by
  idx_vars j
  pointwise [k0_pay2]

theorem cast_at (s : Vec Ideal S1024x1024 .f32) (a : Fin 1024) (b : Fin 1024) : k0_pay3 (F := Ideal) s (ix3 0 a b) = s (ix2 a b) := by
  pointwise [k0_pay3]

theorem idx : ∀ t : Fin cfg0.N, win0_0.index t = ![t.val, 0] ∧ win0_1.index t = ![0, t.val, 0] ∧ win0_2.index t = ![0, 0, 0] :=
  (by decide +kernel : ∀ t : Fin grid0.N, _)

/-- The two arguments. -/
abbrev aX (c : Dev nD) : Vec Ideal S4096x1024 .bf16 := m ((c : Thread nD τ).loc main_arg0)
abbrev aY (c : Dev nD) : Vec Ideal S4096x1024 .bf16 := m ((c : Thread nD τ).loc main_arg1)

theorem blk0_at (c : Dev nD) (t : Fin cfg0.N) (r : Fin 1024) (k : Fin 1024) (h : t.val * 1024 + r.val < 4096) :
    (show Vec Ideal S1024x1024 .bf16 from iblk m c 0 t) (ix2 r k) = aX m c (ix2 ⟨t.val * 1024 + r.val, h⟩ k) := by
  unfold aX
  rw [← V_main_arg0 m c]
  blk_ext [iblk, idx t]

theorem V0_at (c : Dev nD) (r k) : (V m c main_v0 : Vec Ideal S1x4096x1024 .bf16) (ix3 0 r k) = aY m c (ix2 r k) := by
  entry_read
  pointwise

theorem blk1_at (c : Dev nD) (t : Fin cfg0.N) (r k : Fin 1024) (h : t.val * 1024 + r.val < 4096) :
    (show Vec Ideal S1x1024x1024 .bf16 from iblk m c 1 t) (ix3 0 r k) = aY m c (ix2 ⟨t.val * 1024 + r.val, h⟩ k) := by
  rw [← V0_at]
  blk_ext [iblk, idx t]

/-- What a tile adds. -/
def part (c : Dev nD) (t : Fin cfg0.N) (j : S1024x1024.Idx) : EReal :=
  ∑ k : Fin 1024, (show Vec Ideal S1024x1024 .bf16 from iblk m c 0 t) (ix2 k (j 0)) * (show Vec Ideal S1x1024x1024 .bf16 from iblk m c 1 t) (ix3 0 k (j 1))

/-- The accumulator after the last point. -/
theorem acc_last (c : Dev nD) (t : Fin cfg0.N) (ht : t.val + 1 = cfg0.N) (j : S1024x1024.Idx) :
    (outsAt0 m c t.val t.isLt).2 j = ∑ p : Fin cfg0.N, part m c p j := by
  rw [Pipeline.eq_sum_fin_of_reset_step_apply_last (fun n h => (outsAt0 m c n h).2) 4 (fun _ => 0) (part m c)
    (fun t h j => by
      have h1 : ¬t.val % 4 = 3 := by omega
      rw [outsAt0_A m c t h h1]; frame_out; rw [step_at, fill_at]; rfl)
    (fun t h j => by
      by_cases h1 : t.val % 4 = 3
      · rw [outsAt0_C m c t h h1]; frame_out; rw [step_at]; exact congrArg (· + part m c t j) (congrFun ((Memref.isWhole_whole cc0_scratch0).read_unread _) j)
      · rw [outsAt0_B m c t h h1]; frame_out; rw [step_at]; exact congrArg (· + part m c t j) (congrFun ((Memref.isWhole_whole cc0_scratch0).read_unread _) j))
    (le_of_eq N_0) t ht j, zero_add]

/-- The last point writes the accumulator out. -/
theorem out_last (c : Dev nD) (t : Fin cfg0.N) (h1 : t.val % 4 = 3) (a : Fin 1024) (b : Fin 1024) :
    (outsAt0 m c t.val t.isLt).1 (ix3 0 a b) = (outsAt0 m c t.val t.isLt).2 (ix2 a b) := by
  have h : ¬t.val % 4 = 0 := by omega
  rw [outsAt0_C m c t h h1]; frame_out; rw [cast_at]

/-- The weight's gradient: the products summed over all rows. -/
def res (c : Dev nD) (a : Fin 1024) (b : Fin 1024) : EReal := ∑ r : Fin 4096, aX m c (ix2 r a) * aY m c (ix2 r b)

theorem sum_parts (c : Dev nD) (a : Fin 1024) (b : Fin 1024) : ∑ p : Fin cfg0.N, part m c p (ix2 a b) = res m c a b := by
  unfold res part
  refine Eq.trans ?_ (Fin.sum_univ_tiles 4 1024 rfl fun r : Fin 4096 => aX m c (ix2 r a) * aY m c (ix2 r b)).symm
  refine Finset.sum_congr rfl fun t _ => Finset.sum_congr rfl fun k _ => ?_
  have ht : t.val < 4 := t.isLt
  exact congrArg₂ (· * ·) (blk0_at m c t k a (by omega)) (blk1_at m c t k b (by omega))

theorem final2 (c : Dev nD) : (dats m 0 c).arrAt 2 cfg0.N = fun i : S1x1024x1024.Idx => res m c (i 1) (i 2) := by
  refine (dats m 0 c).arrAt_eq_of_covers 2 _ (by decide +kernel) fun t hf y => ?_
  have ht4 : t.val < 4 := t.isLt
  have ht : t.val % 4 = 3 := by
    have := (flush0_2 t).mp hf
    omega
  blk_simp
  rw [after0_2]
  change S1x1024x1024.Idx at y
  idx_vars y
  obtain rfl : y0 = 0 := Subsingleton.elim _ _
  refine (out_last m c t ht y1 y2).trans ((acc_last m c t (by show t.val + 1 = 4; omega) _).trans ((sum_parts m c y1 y2).trans ?_))
  refine congrArg₂ (res m c) (Fin.ext ?_) (Fin.ext ?_) <;> blk_simp [idx t]

end Cert.WgMixIdeal.Val

namespace Cert.Proof.WgMixAlg

open Idealize.ShloMosaic Idealize.ShloMosaic.TcCoe Idealize.ShloMosaic.Tactic Idealize.SL.Sem

open Cert.WgMixRefIdeal Cert.WgMixRefIdeal.Read in
theorem ref_at (x0 : Vec Ideal S4096x1024 .bf16) (x1 : Vec Ideal S4096x1024 .bf16) (a : Fin 1024) (b : Fin 1024) :
    val_main_v7 (F := Ideal) x0 x1 (ix3 0 a b) = ∑ r : Fin 4096, x0 (ix2 r a) * x1 (ix2 r b) := by
  pointwise [val_main_v7, val_main_v6, val_main_v5, val_main_v4, val_main_v1, val_main_v0]
  exact Finset.sum_congr rfl fun _ _ => mul_comm (G := EReal) _ _

theorem same (m : (ℓ : Loc Cert.WgMixIdeal.nD Cert.WgMixIdeal.τ Cert.WgMixIdeal.sig) → Buf (Elt Ideal) ℓ) (c : Dev Cert.WgMixIdeal.nD)
    (y0 : Vec Ideal Cert.WgMixRefIdeal.S4096x1024 .bf16) (y1 : Vec Ideal Cert.WgMixRefIdeal.S4096x1024 .bf16)
    (h0 : y0 = Cert.WgMixIdeal.Val.aX m c) (h1 : y1 = Cert.WgMixIdeal.Val.aY m c) :
    Cert.WgMixRefIdeal.Read.val_main_v7 (F := Ideal) y0 y1 = (Cert.WgMixIdeal.Gen.dats m 0 c).arrAt 2 Cert.WgMixIdeal.cfg0.N := by
  rw [Cert.WgMixIdeal.Val.final2, h0, h1]
  funext y
  change Cert.WgMixRefIdeal.S1x1024x1024.Idx at y
  idx_vars y
  obtain rfl : y0 = 0 := Subsingleton.elim _ _
  exact ref_at _ _ _ _

theorem algebraic : algebraic_WgMixIdeal_WgMixRefIdeal (hWgMixIdeal := Cert.WgMixIdeal.Gen.facts) (hWgMixRefIdeal := Cert.WgMixRefIdeal.Gen.facts) := fun m ρ m' ρ' _ ha =>
  ⟨fun c => (Cert.WgMixIdeal.Gen.dats m 0 c).arrAt 2 Cert.WgMixIdeal.cfg0.N,
    Cert.WgMixIdeal.Value.run_blocks m ρ,
    (θ_run _ _ _).mono (fun _ h c => ⟨(h c).1.trans (same m c _ _ (ha c).1 (ha c).2.1), (h c).2⟩) (Cert.WgMixRefIdeal.Value.run m' ρ')⟩

theorem frameRef : quiescent_WgMixRefIdeal (hWgMixRefIdeal := Cert.WgMixRefIdeal.Gen.facts) := fun m ρ _ =>
  (θ_run _ _ _).mono (fun r h => ⟨fun c => (h c).2, sem_eq_zero_of_no_sems (by decide) _⟩) (Cert.WgMixRefIdeal.Value.run m ρ)

end Cert.Proof.WgMixAlg
-- ==== Proof.FfnDownAlg.lean ====
module

public import proofs.«01_k».proof.Defs
public import proofs.«01_k».proof.Proof.Gen.FfnDown
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Pre_ffn_down_finite
public import proofs.«01_k».proof.Proof.Finite
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The gradients at the activation: of the gate and of the up projection. -/

namespace Cert.Row

open Idealize.ShloMosaic

/-- The logistic function. -/
def lg (x : EReal) : EReal := Ideal.div 1 (1 + Ideal.exp (-x))

theorem lg_re (g : ℝ) : lg (g : EReal) = ((1 / (1 + Real.exp (-g)) : ℝ) : EReal) := by
  have h : (1 : ℝ) + Real.exp (-g) ≠ 0 := by positivity
  unfold lg
  rw [← EReal.coe_neg]
  change Ideal.div 1 (1 + ((Real.exp (-g) : ℝ) : EReal)) = _
  rw [← EReal.coe_one, ← EReal.coe_add, Ideal.div_coe h, ← EReal.coe_mul, one_mul]

theorem lg_top : lg ⊤ = 1 := by
  unfold lg
  rw [EReal.neg_top]
  change Ideal.div 1 (1 + 0) = 1
  rw [add_zero, ← EReal.coe_one, Ideal.div_coe one_ne_zero, ← EReal.coe_mul]
  norm_num

theorem lg_bot : lg ⊥ = 0 := by
  unfold lg
  rw [EReal.neg_bot]
  change Ideal.div 1 (1 + ⊤) = 0
  rw [show (1 : EReal) + ⊤ = ⊤ from EReal.coe_add_top 1]
  simp [Ideal.div]

/-- The two ways to write the derivative of the activation, at a real cotangent. -/
theorem silu_bwd (g w : EReal) (hw : Re w) : w * (lg g * (1 + g * (1 - lg g))) = w * lg g + (g * w) * (lg g * (1 - lg g)) := by
  obtain ⟨w, rfl⟩ := hw
  induction g using EReal.rec with
  | bot => rw [lg_bot, zero_mul, mul_zero, zero_mul, mul_zero, add_zero]
  | top =>
    have h : (1 : EReal) - 1 = 0 := by rw [← EReal.coe_one, ← EReal.coe_sub]; norm_num
    rw [lg_top, h, mul_zero, mul_zero, add_zero, one_mul, mul_zero, add_zero]
  | coe g =>
    rw [lg_re]
    simp only [← EReal.coe_one, ← EReal.coe_sub, ← EReal.coe_mul, ← EReal.coe_add]
    refine congrArg _ ?_
    ring

end Cert.Row

namespace Cert.Pre_ffn_down_finite

open Idealize.ShloMosaic Cert.Row

theorem facts : Facts where
  bcast_S_S4096x1024 := by decide
  reducesTo_S4096x1024_S_d0_1 := by decide
  h_S_ := by decide
  bcast_S_S2816x1024 := by decide
  reducesTo_S2816x1024_S_d0_1 := by decide
  bitsLt_bf16_f32 := by decide
  bcast_S_S4096x2816 := by decide
  reducesTo_S4096x2816_S_d0_1 := by decide

variable [Facts]
open Facts

/-- One conjunct of the precondition: every element of the array is real. -/
theorem all_re {s : Shape} {axes : List (Fin s.rank)} (x : FVec Ideal s .f32) (hb : S_.BroadcastsInDim s (![] : Fin 0 → Fin s.rank)) (hr : s.ReducesTo axes S_) (j : S_.Idx)
    (e : Host.reduce IntOp.andi (cmpf .olt (Host.absf x) (broadcastInDim s ![] hb (constant S_ .f32 0x7F800000#32))) (constantI S_ 1 1#1) hr h_S_ j = 1#1)
    (i : s.Idx) : Re (x i) := by
  have h := Host.reduce_andi_all _ _ _ _ j e i
  pointwise at h
  rw [show Ideal.ofBits .f32 0x7F800000#32 = ⊤ by simp [Ideal.ofBits, Ideal.ieee]] at h
  exact Re.of_lt (of_decide_eq_true (by
    rcases hd : decide (max (x i) (-x i) < (⊤ : EReal)) with _ | _
    · rw [show FloatOps.absf (x i) = max (x i) (-x i) from rfl, hd] at h
      exact absurd h (by decide)
    · rfl))

/-- What the precondition says of each array. -/
theorem finite_of (a0 : FVec Ideal S4096x1024 .f32) (a1 : FVec Ideal S2816x1024 .f32) (a2 a3 : FVec Ideal S4096x2816 .bf16)
    (h : fn (F := Ideal) a0 a1 a2 a3 = fun _ => 1#1) : (∀ i, Re (a0 i)) ∧ (∀ i, Re (a1 i)) ∧ (∀ i, Re (a3 i)) := by
  have e := congrFun h (Shape.Idx.first h_S_)
  unfold fn at e
  obtain ⟨e1, h3⟩ := IntOp.andi_eq_one.1 e
  obtain ⟨h1, h2⟩ := IntOp.andi_eq_one.1 e1
  exact ⟨all_re _ _ _ _ h1, all_re _ _ _ _ h2, all_re _ _ _ _ h3⟩

end Cert.Pre_ffn_down_finite

namespace Cert.FfnDownIdeal.Val

open Idealize.ShloMosaic Idealize.ShloMosaic.TcCoe Idealize.ShloMosaic.Tactic Idealize.SL.Sem
open Cert.FfnDownIdeal Cert.FfnDownIdeal.Gen Cert.FfnDownIdeal.Value

/-- The logistic function as the kernel computes it. -/
def sg (x : EReal) : EReal :=
  Ideal.div (Ideal.ofBits .f32 0x3F800000#32) (Ideal.ofBits .f32 0x3F800000#32 + Ideal.exp (Ideal.ofBits .f32 0x00000000#32 - x))

theorem sg_eq (x : EReal) : sg x = Cert.Row.lg x := by
  unfold sg Cert.Row.lg
  rw [Ideal.ofBits_one_f32, Ideal.ofBits_zero_f32, sub_eq_add_neg, zero_add]

/-- A tile's gradient of the activation. -/
def blkD (x : Vec Ideal S1024x1024 .f32) (w : Vec Ideal S1408x1024 .bf16) (y : S1024x1408.Idx) : EReal :=
  ∑ k : Fin 1024, x (ix2 (y 0) k) * w (ix2 (y 1) k)

/-- A tile's gate gradient. -/
def blkG (x : Vec Ideal S1024x1024 .f32) (w : Vec Ideal S1408x1024 .bf16) (g u : Vec Ideal S1024x1408 .bf16) : Vec Ideal S1024x1408 .bf16 := fun y =>
  (blkD x w y * u y) * (sg (g y) * (Ideal.ofBits .f32 0x3F800000#32 + g y * (Ideal.ofBits .f32 0x3F800000#32 - sg (g y))))

/-- A tile's up gradient. -/
def blkU (x : Vec Ideal S1024x1024 .f32) (w : Vec Ideal S1408x1024 .bf16) (g : Vec Ideal S1024x1408 .bf16) : Vec Ideal S1024x1408 .bf16 := fun y =>
  (blkD x w y * g y) * sg (g y)

section
variable (c : Dev nD) (i : grid0.Coords) (arg2 : Memref sig .tc .vmem S1024x1024 .f32) (harg2 : arg2.IsWhole)
  (arg3 : Memref sig .tc .vmem S1408x1024 .bf16) (harg3 : arg3.IsWhole) (arg4 : Memref sig .tc .vmem S1024x1408 .bf16) (harg4 : arg4.IsWhole)
  (arg5 : Memref sig .tc .vmem S1024x1408 .bf16) (harg5 : arg5.IsWhole) (arg6 : Memref sig .tc .vmem S1024x1408 .bf16) (harg6 : arg6.IsWhole)
  (arg7 : Memref sig .tc .vmem S1024x1408 .bf16) (harg7 : arg7.IsWhole)
  (x0 : Vec Ideal S1024x1024 .f32) (x1 : Vec Ideal S1408x1024 .bf16) (x2 x3 : Vec Ideal S1024x1408 .bf16)

theorem out4 : out0_A_4 (F := Ideal) c i arg2 harg2 arg3 harg3 arg4 harg4 arg5 harg5 arg6 harg6 arg7 harg7 x0 x1 x2 x3 = blkG x0 x1 x2 x3 := by
  funext y
  unfold out0_A_4
  rw [View.read_writes_eq_canon _ _ _ (cover0_A_4 c i arg2 harg2 arg3 harg3 arg4 harg4 arg5 harg5 arg6 harg6 arg7 harg7 x0 x1 x2 x3)]
  refine View.canon_apply_of_pieces (blkG x0 x1 x2 x3) _ (View.PiecesOf.mem ?_) y (cover0_A_4 c i arg2 harg2 arg3 harg3 arg4 harg4 arg5 harg5 arg6 harg6 arg7 harg7 x0 x1 x2 x3 y)
  unfold kernelRun0_A
  dsimp only
  sl_unfold_words
  refine ⟨?_, ?_, ?_, trivial⟩
  · intro w
    change S1024x384.Idx at w
    idx_vars w
    change _ = View.ld (blkG x0 x1 x2 x3) (Rect.unit ![0, 1024] ![1024, 384] inb_S1024x1408_S1024x384_0_1024) (ix2 w0 w1)
    simp only [View.readAt_eq_ld, harg2.read_unread, harg3.read_unread, harg4.read_unread, harg5.read_unread]
    pointwise [k0_pay1, k0_pay3, k0_pay14, k0_pay15, k0_pay16, blkG, blkD, sg]
  · intro w
    change S1024x512.Idx at w
    idx_vars w
    change _ = View.ld (blkG x0 x1 x2 x3) (Rect.unit ![0, 512] ![1024, 512] inb_S1024x1408_S1024x512_0_512) (ix2 w0 w1)
    simp only [View.readAt_eq_ld, harg2.read_unread, harg3.read_unread, harg4.read_unread, harg5.read_unread]
    pointwise [k0_pay12, k0_pay9, k0_pay10, k0_pay11, k0_pay3, blkG, blkD, sg]
  · intro w
    change S1024x512.Idx at w
    idx_vars w
    change _ = View.ld (blkG x0 x1 x2 x3) (Rect.unit ![0, 0] ![1024, 512] inb_S1024x1408_S1024x512_0_0) (ix2 w0 w1)
    simp only [View.readAt_eq_ld, harg2.read_unread, harg3.read_unread, harg4.read_unread, harg5.read_unread]
    pointwise [k0_pay7, k0_pay4, k0_pay5, k0_pay6, k0_pay3, blkG, blkD, sg]

theorem out5 : out0_A_5 (F := Ideal) c i arg2 harg2 arg3 harg3 arg4 harg4 arg5 harg5 arg6 harg6 arg7 harg7 x0 x1 x2 x3 = blkU x0 x1 x2 := by
  funext y
  unfold out0_A_5
  rw [View.read_writes_eq_canon _ _ _ (cover0_A_5 c i arg2 harg2 arg3 harg3 arg4 harg4 arg5 harg5 arg6 harg6 arg7 harg7 x0 x1 x2 x3)]
  refine View.canon_apply_of_pieces (blkU x0 x1 x2) _ (View.PiecesOf.mem ?_) y (cover0_A_5 c i arg2 harg2 arg3 harg3 arg4 harg4 arg5 harg5 arg6 harg6 arg7 harg7 x0 x1 x2 x3 y)
  unfold kernelRun0_A
  dsimp only
  sl_unfold_words
  refine ⟨?_, ?_, ?_, trivial⟩
  · intro w
    change S1024x384.Idx at w
    idx_vars w
    change _ = View.ld (blkU x0 x1 x2) (Rect.unit ![0, 1024] ![1024, 384] inb_S1024x1408_S1024x384_0_1024) (ix2 w0 w1)
    simp only [View.readAt_eq_ld, harg2.read_unread, harg3.read_unread, harg4.read_unread, harg5.read_unread]
    pointwise [k0_pay2, k0_pay3, k0_pay14, k0_pay15, k0_pay16, blkU, blkD, sg]
  · intro w
    change S1024x512.Idx at w
    idx_vars w
    change _ = View.ld (blkU x0 x1 x2) (Rect.unit ![0, 512] ![1024, 512] inb_S1024x1408_S1024x512_0_512) (ix2 w0 w1)
    simp only [View.readAt_eq_ld, harg2.read_unread, harg3.read_unread, harg4.read_unread, harg5.read_unread]
    pointwise [k0_pay13, k0_pay9, k0_pay10, k0_pay11, k0_pay3, blkU, blkD, sg]
  · intro w
    change S1024x512.Idx at w
    idx_vars w
    change _ = View.ld (blkU x0 x1 x2) (Rect.unit ![0, 0] ![1024, 512] inb_S1024x1408_S1024x512_0_0) (ix2 w0 w1)
    simp only [View.readAt_eq_ld, harg2.read_unread, harg3.read_unread, harg4.read_unread, harg5.read_unread]
    pointwise [k0_pay8, k0_pay4, k0_pay5, k0_pay6, k0_pay3, blkU, blkD, sg]

end

variable (m : (ℓ : Loc nD τ sig) → Buf (Elt Ideal) ℓ)

theorem idx : ∀ t : Fin cfg0.N, win0_0.index t = ![t.val % 4, 0] ∧ win0_1.index t = ![t.val / 4, 0] ∧ win0_2.index t = ![t.val % 4, t.val / 4]
    ∧ win0_3.index t = ![t.val % 4, t.val / 4] ∧ win0_4.index t = ![t.val % 4, t.val / 4] ∧ win0_5.index t = ![t.val % 4, t.val / 4] :=
  (by decide +kernel : ∀ t : Fin grid0.N, _)

/-- The four arguments. -/
abbrev aX (c : Dev nD) : Vec Ideal S4096x1024 .f32 := m ((c : Thread nD τ).loc main_arg0)
abbrev aW (c : Dev nD) : Vec Ideal S2816x1024 .f32 := m ((c : Thread nD τ).loc main_arg1)
abbrev aG (c : Dev nD) : Vec Ideal S4096x2816 .bf16 := m ((c : Thread nD τ).loc main_arg2)
abbrev aU (c : Dev nD) : Vec Ideal S4096x2816 .bf16 := m ((c : Thread nD τ).loc main_arg3)

theorem VW_at (c : Dev nD) (r k) : (V m c main_v0 : Vec Ideal S2816x1024 .bf16) (ix2 r k) = aW m c (ix2 r k) := by
  entry_read
  pointwise

theorem blk0_at (c : Dev nD) (t : Fin cfg0.N) (r k : Fin 1024) (h : t.val % 4 * 1024 + r.val < 4096) :
    (show Vec Ideal S1024x1024 .f32 from iblk m c 0 t) (ix2 r k) = aX m c (ix2 ⟨t.val % 4 * 1024 + r.val, h⟩ k) := by
  unfold aX
  rw [← V_main_arg0 m c]
  blk_ext [iblk, idx t]

theorem blk1_at (c : Dev nD) (t : Fin cfg0.N) (r : Fin 1408) (k : Fin 1024) (h : t.val / 4 * 1408 + r.val < 2816) :
    (show Vec Ideal S1408x1024 .bf16 from iblk m c 1 t) (ix2 r k) = aW m c (ix2 ⟨t.val / 4 * 1408 + r.val, h⟩ k) := by
  rw [← VW_at]
  blk_ext [iblk, idx t]

theorem blk2_at (c : Dev nD) (t : Fin cfg0.N) (r : Fin 1024) (k : Fin 1408) (h : t.val % 4 * 1024 + r.val < 4096) (h' : t.val / 4 * 1408 + k.val < 2816) :
    (show Vec Ideal S1024x1408 .bf16 from iblk m c 2 t) (ix2 r k) = aG m c (ix2 ⟨t.val % 4 * 1024 + r.val, h⟩ ⟨t.val / 4 * 1408 + k.val, h'⟩) := by
  unfold aG
  rw [← V_main_arg2 m c]
  blk_ext [iblk, idx t]

theorem blk3_at (c : Dev nD) (t : Fin cfg0.N) (r : Fin 1024) (k : Fin 1408) (h : t.val % 4 * 1024 + r.val < 4096) (h' : t.val / 4 * 1408 + k.val < 2816) :
    (show Vec Ideal S1024x1408 .bf16 from iblk m c 3 t) (ix2 r k) = aU m c (ix2 ⟨t.val % 4 * 1024 + r.val, h⟩ ⟨t.val / 4 * 1408 + k.val, h'⟩) := by
  unfold aU
  rw [← V_main_arg3 m c]
  blk_ext [iblk, idx t]

/-- One entry of the gradient of the activation. -/
def dF (x : Vec Ideal S4096x1024 .f32) (w : Vec Ideal S2816x1024 .f32) (r : Fin 4096) (j : Fin 2816) : EReal :=
  ∑ k : Fin 1024, x (ix2 r k) * w (ix2 j k)

/-- One entry of the gate gradient. -/
def gF (x : Vec Ideal S4096x1024 .f32) (w : Vec Ideal S2816x1024 .f32) (g u : Vec Ideal S4096x2816 .bf16) (r : Fin 4096) (j : Fin 2816) : EReal :=
  (dF x w r j * u (ix2 r j)) * (sg (g (ix2 r j)) * (Ideal.ofBits .f32 0x3F800000#32 + g (ix2 r j) * (Ideal.ofBits .f32 0x3F800000#32 - sg (g (ix2 r j)))))

/-- One entry of the up gradient. -/
def uF (x : Vec Ideal S4096x1024 .f32) (w : Vec Ideal S2816x1024 .f32) (g : Vec Ideal S4096x2816 .bf16) (r : Fin 4096) (j : Fin 2816) : EReal :=
  (dF x w r j * g (ix2 r j)) * sg (g (ix2 r j))

theorem d_at (c : Dev nD) (t : Fin cfg0.N) (a : Fin 1024) (b : Fin 1408) (h : t.val % 4 * 1024 + a.val < 4096) (h' : t.val / 4 * 1408 + b.val < 2816) :
    blkD (iblk m c 0 t) (iblk m c 1 t) (ix2 a b) = dF (aX m c) (aW m c) ⟨t.val % 4 * 1024 + a.val, h⟩ ⟨t.val / 4 * 1408 + b.val, h'⟩ :=
  Finset.sum_congr rfl fun k _ => congrArg₂ (· * ·) (blk0_at m c t a k h) (blk1_at m c t b k h')

theorem g_at (c : Dev nD) (t : Fin cfg0.N) (a : Fin 1024) (b : Fin 1408) (h : t.val % 4 * 1024 + a.val < 4096) (h' : t.val / 4 * 1408 + b.val < 2816) :
    blkG (iblk m c 0 t) (iblk m c 1 t) (iblk m c 2 t) (iblk m c 3 t) (ix2 a b) = gF (aX m c) (aW m c) (aG m c) (aU m c) ⟨t.val % 4 * 1024 + a.val, h⟩ ⟨t.val / 4 * 1408 + b.val, h'⟩ :=
  congr (congrArg₂ (fun d u g => (d * u) * (sg g * (Ideal.ofBits .f32 0x3F800000#32 + g * (Ideal.ofBits .f32 0x3F800000#32 - sg g)))) (d_at m c t a b h h') (blk3_at m c t a b h h')) (blk2_at m c t a b h h')

theorem u_at (c : Dev nD) (t : Fin cfg0.N) (a : Fin 1024) (b : Fin 1408) (h : t.val % 4 * 1024 + a.val < 4096) (h' : t.val / 4 * 1408 + b.val < 2816) :
    blkU (iblk m c 0 t) (iblk m c 1 t) (iblk m c 2 t) (ix2 a b) = uF (aX m c) (aW m c) (aG m c) ⟨t.val % 4 * 1024 + a.val, h⟩ ⟨t.val / 4 * 1408 + b.val, h'⟩ :=
  congrArg₂ (fun d g => (d * g) * sg g) (d_at m c t a b h h') (blk2_at m c t a b h h')

theorem final4 (c : Dev nD) : (dats m 0 c).arrAt 4 cfg0.N = fun i : S4096x2816.Idx => gF (aX m c) (aW m c) (aG m c) (aU m c) (i 0) (i 1) := by
  refine (dats m 0 c).arrAt_eq_of_covers 4 _ (by decide +kernel) fun t hf y => ?_
  have ht : t.val < 8 := t.isLt
  blk_simp
  rw [after0_4]
  unfold outsAt0
  change S1024x1408.Idx at y
  idx_vars y
  refine (congrFun (out4 _ _ _ _ _ _ _ _ _ _ _ _ _ _ _ _ _ _) (ix2 y0 y1)).trans ((g_at m c t y0 y1 (by omega) (by omega)).trans ?_)
  refine congrArg₂ (gF _ _ _ _) (Fin.ext ?_) (Fin.ext ?_) <;> blk_simp [idx t]

theorem final5 (c : Dev nD) : (dats m 0 c).arrAt 5 cfg0.N = fun i : S4096x2816.Idx => uF (aX m c) (aW m c) (aG m c) (i 0) (i 1) := by
  refine (dats m 0 c).arrAt_eq_of_covers 5 _ (by decide +kernel) fun t hf y => ?_
  have ht : t.val < 8 := t.isLt
  blk_simp
  rw [after0_5]
  unfold outsAt0
  change S1024x1408.Idx at y
  idx_vars y
  refine (congrFun (out5 _ _ _ _ _ _ _ _ _ _ _ _ _ _ _ _ _ _) (ix2 y0 y1)).trans ((u_at m c t y0 y1 (by omega) (by omega)).trans ?_)
  refine congrArg₂ (uF _ _ _) (Fin.ext ?_) (Fin.ext ?_) <;> blk_simp [idx t]

end Cert.FfnDownIdeal.Val

namespace Cert.Proof.FfnDownAlg

open Idealize.ShloMosaic Idealize.ShloMosaic.TcCoe Idealize.ShloMosaic.Tactic Idealize.SL.Sem
open Cert.FfnDownIdeal.Val Cert.Row

section
open Cert.FfnDownRefIdeal Cert.FfnDownRefIdeal.Read
variable (x0 : Vec Ideal S4096x1024 .f32) (x1 : Vec Ideal S2816x1024 .f32) (x2 x3 : Vec Ideal S4096x2816 .bf16)

theorem up_eq : val_main_v10 (F := Ideal) x0 x1 x2 = fun i : S4096x2816.Idx => uF x0 x1 x2 (i 0) (i 1) := by
  funext y
  change S4096x2816.Idx at y
  idx_vars y
  change _ = uF x0 x1 x2 y0 y1
  unfold uF
  rw [sg_eq]
  pointwise [val_main_v10, val_main_v6, val_main_v2_0, val_main_v2_2, val_main_v0, val_main_v5, val_main_call0_v4, val_main_call0_v3, val_main_call0_v2, val_main_call0_v1, val_main_call0_v0, val_main_call0_cst, val_main_call0_cst_0, dF, lg]
  rw [mul_comm (G := EReal), mul_assoc]

theorem gate_eq (h0 : ∀ i, Re (x0 i)) (h1 : ∀ i, Re (x1 i)) (h3 : ∀ i, Re (x3 i)) :
    val_main_v9 (F := Ideal) x0 x1 x2 x3 = fun i : S4096x2816.Idx => gF x0 x1 x2 x3 (i 0) (i 1) := by
  funext y
  change S4096x2816.Idx at y
  idx_vars y
  have hw : Re (dF x0 x1 y0 y1 * x3 (ix2 y0 y1)) := (Re.sum _ _ fun k => (h0 _).mul (h1 _)).mul (h3 _)
  change _ = gF x0 x1 x2 x3 y0 y1
  unfold gF
  rw [sg_eq, Ideal.ofBits_one_f32]
  refine Eq.trans ?_ (silu_bwd _ _ hw).symm
  pointwise [val_main_v9, val_main_v8, val_main_call1_v0, val_main_call1_v1, val_main_call1_v2, val_main_v7, val_main_v2_1, val_main_call0_v6, val_main_call0_v7, val_main_call0_cst_1, val_main_v2_2, val_main_v0, val_main_v1, val_main_v5, val_main_call0_v4, val_main_call0_v3, val_main_call0_v2, val_main_call0_v1, val_main_call0_v0, val_main_call0_cst, val_main_call0_cst_0, dF, lg]

end

theorem algebraic : algebraic_FfnDownIdeal_FfnDownRefIdeal_pre_ffn_down_finite (hFfnDownIdeal := Cert.FfnDownIdeal.Gen.facts) (hFfnDownRefIdeal := Cert.FfnDownRefIdeal.Gen.facts)
    (hPre_ffn_down_finite := Cert.Pre_ffn_down_finite.facts) := fun m ρ m' ρ' hp ha =>
  ⟨fun c => (Cert.FfnDownIdeal.Gen.dats m 0 c).arrAt 4 Cert.FfnDownIdeal.cfg0.N, fun c => (Cert.FfnDownIdeal.Gen.dats m 0 c).arrAt 5 Cert.FfnDownIdeal.cfg0.N,
    Cert.FfnDownIdeal.Value.run_blocks m ρ,
    (θ_run _ _ _).mono (fun _ h c => by
      obtain ⟨h0, h1, h2, h3⟩ := ha c
      obtain ⟨p0, p1, p3⟩ := @Cert.Pre_ffn_down_finite.finite_of Cert.Pre_ffn_down_finite.facts _ _ _ _ (hp c)
      refine ⟨(h c).1.trans ?_, (h c).2.1.trans ?_, (h c).2.2⟩
      · rw [h0, h1, h2, h3]; exact (gate_eq _ _ _ _ p0 p1 p3).trans (final4 m c).symm
      · rw [h0, h1, h2]; exact (up_eq _ _ _).trans (final5 m c).symm) (Cert.FfnDownRefIdeal.Value.run m' ρ')⟩

theorem frameRef : quiescent_FfnDownRefIdeal (hFfnDownRefIdeal := Cert.FfnDownRefIdeal.Gen.facts) := fun m ρ _ =>
  (θ_run _ _ _).mono (fun r h => ⟨fun c => (h c).2.2, sem_eq_zero_of_no_sems (by decide) _⟩) (Cert.FfnDownRefIdeal.Value.run m ρ)

end Cert.Proof.FfnDownAlg
-- ==== Proof.NormBwd.lean ====
module

public import Idealize.ShloMosaic.Lib.Pointwise
public import Idealize.ShloMosaic.PureOps.Ideal
public import Idealize.ShloMosaic.Adequacy

@[expose] public section

set_option maxRecDepth 16384

noncomputable section

/-! The backward of the root mean square norm of one row: the kernel's form against the chain rule's. -/

namespace Cert.Norm

open Idealize.ShloMosaic

/-- The row's length, its small addend and the chain rule's minus one half, as written. -/
abbrev cn : EReal := Ideal.ofBits .f32 0x44800000#32
abbrev ce : EReal := Ideal.ofBits .f32 0x358637BD#32
abbrev ch : EReal := Ideal.ofBits .f32 0xBF000000#32

theorem cn_eq : cn = ((1024 : ℝ) : EReal) := by
  simp [cn, Ideal.ofBits, Ideal.ieee, -EReal.coe_mul]
  norm_num

theorem ch_eq : ch = ((-(1 / 2) : ℝ) : EReal) := by
  simp [ch, Ideal.ofBits, Ideal.ieee, -EReal.coe_mul]
  norm_num

theorem ce_pos : ∃ e : ℝ, 0 < e ∧ ce = (e : EReal) := by
  simp [ce, Ideal.ofBits, Ideal.ieee]
  refine ⟨_, ?_, rfl⟩
  norm_num

/-- The mean square with its addend. -/
def ms (x : Fin 1024 → EReal) : EReal := Ideal.div (∑ k, x k * x k) cn + ce

/-- The reciprocal root mean square. -/
def rr (x : Fin 1024 → EReal) : EReal := Ideal.rsqrt (ms x)

/-- The kernel's gradient of a row's element. -/
def dxK (x D : Fin 1024 → EReal) (j : Fin 1024) : EReal :=
  rr x * (D j - x j * rr x * Ideal.div (∑ k, D k * (x k * rr x)) cn)

/-- The chain rule's common factor. -/
def tR (x D : Fin 1024 → EReal) : EReal :=
  Ideal.div ((∑ k, x k * D k) * (ch * Ideal.div (rr x) (ms x))) cn

theorem sq_nonneg (x : EReal) : 0 ≤ x * x := by
  induction x using EReal.rec with
  | bot => simp
  | top => simp
  | coe r => rw [← EReal.coe_mul]; exact EReal.coe_nonneg.2 (mul_self_nonneg r)

/-- The reciprocal root mean square is a nonnegative real, and its quotient by the mean square is its cube. -/
theorem rr_real (x : Fin 1024 → EReal) : ∃ r : ℝ, 0 ≤ r ∧ rr x = (r : EReal) ∧ Ideal.div (rr x) (ms x) = ((r * r * r : ℝ) : EReal) := by
  obtain ⟨e, he0, he⟩ := ce_pos
  have hS : 0 ≤ ∑ k, x k * x k := Finset.sum_nonneg fun k _ => sq_nonneg _
  have hm : ms x = (∑ k, x k * x k) * ((1 / 1024 : ℝ) : EReal) + (e : EReal) := by
    unfold ms
    rw [cn_eq, he, Ideal.div_coe (by norm_num)]
  generalize (∑ k, x k * x k) = S at hS hm
  unfold rr
  induction S using EReal.rec with
  | bot => exact absurd hS (by simp)
  | top =>
    rw [EReal.top_mul_coe_of_pos (by norm_num), EReal.top_add_coe] at hm
    rw [hm]
    refine ⟨0, le_rfl, rfl, ?_⟩
    change Ideal.div 0 ⊤ = _
    simp [Ideal.div]
  | coe s =>
    have hs : 0 ≤ s := EReal.coe_nonneg.1 hS
    have hp : 0 < s * (1 / 1024) + e := by positivity
    rw [← EReal.coe_mul, ← EReal.coe_add] at hm
    rw [hm]
    have hr : Ideal.rsqrt ((s * (1 / 1024) + e : ℝ) : EReal) = (((Real.sqrt (s * (1 / 1024) + e))⁻¹ : ℝ) : EReal) := by
      show (if _ < (0 : ℝ) then _ else if _ = (0 : ℝ) then _ else _) = _
      rw [if_neg (not_lt.2 hp.le), if_neg hp.ne']
    rw [hr]
    refine ⟨_, by positivity, rfl, ?_⟩
    rw [Ideal.div_coe hp.ne', ← EReal.coe_mul]
    refine congrArg _ ?_
    have h1 : (Real.sqrt (s * (1 / 1024) + e))⁻¹ * (Real.sqrt (s * (1 / 1024) + e))⁻¹ = 1 / (s * (1 / 1024) + e) := by
      rw [← mul_inv, Real.mul_self_sqrt hp.le]
      exact (one_div _).symm
    rw [mul_assoc, h1]

theorem sum_mul_coe {n : ℕ} (f : Fin n → EReal) (r : ℝ) (hr : 0 ≤ r) : ∑ k, f k * (r : EReal) = (∑ k, f k) * (r : EReal) := by
  have key : ∀ s : Finset (Fin n), ∑ k ∈ s, f k * (r : EReal) = (∑ k ∈ s, f k) * (r : EReal) := fun s => by
    induction s using Finset.induction_on with
    | empty => simp
    | insert a s ha ih =>
      rw [Finset.sum_insert ha, Finset.sum_insert ha, ih, EReal.right_distrib_of_nonneg_of_ne_top (EReal.coe_nonneg.2 hr) (EReal.coe_ne_top r)]
  exact key _

theorem twice (y : EReal) : y + y = y * ((2 : ℝ) : EReal) := by
  have h : ((2 : ℝ) : EReal) = 1 + 1 := by rw [← EReal.coe_one, ← EReal.coe_add]; norm_num
  rw [h, EReal.left_distrib_of_nonneg zero_le_one zero_le_one, mul_one]

/-- The kernel's gradient is the chain rule's. -/
theorem dxK_eq (x D : Fin 1024 → EReal) (j : Fin 1024) : dxK x D j = D j * rr x + (x j * tR x D + tR x D * x j) := by
  obtain ⟨r, hr0, hr, hq⟩ := rr_real x
  unfold dxK tR
  rw [hq, hr, cn_eq, ch_eq, Ideal.div_coe (by norm_num), Ideal.div_coe (by norm_num)]
  have hS : ∑ k, D k * (x k * (r : EReal)) = (∑ k, x k * D k) * (r : EReal) := by
    rw [← sum_mul_coe _ r hr0]
    exact Finset.sum_congr rfl fun k _ => by rw [← mul_assoc, mul_comm (D k)]
  rw [hS]
  generalize (∑ k, x k * D k) = S
  rw [sub_eq_add_neg, EReal.left_distrib_of_nonneg_of_ne_top (EReal.coe_nonneg.2 hr0) (EReal.coe_ne_top r), mul_comm _ (x j), twice, mul_comm (r : EReal) (D j)]
  refine congrArg (D j * (r : EReal) + ·) ?_
  have e1 : (r : EReal) * (x j * (r : EReal) * (S * (r : EReal) * ((1 / 1024 : ℝ) : EReal))) = x j * S * ((r * r * r * (1 / 1024) : ℝ) : EReal) := by
    simp only [EReal.coe_mul]
    ac_rfl
  have e2 : x j * (S * (((-(1 / 2) : ℝ) : EReal) * ((r * r * r : ℝ) : EReal)) * ((1 / 1024 : ℝ) : EReal)) * ((2 : ℝ) : EReal)
      = x j * S * ((-(1 / 2) * (r * r * r) * (1 / 1024) * 2 : ℝ) : EReal) := by
    simp only [EReal.coe_mul]
    ac_rfl
  rw [mul_neg, e1, e2, ← mul_neg, ← EReal.coe_neg]
  refine congrArg (fun z : ℝ => x j * S * (z : EReal)) ?_
  ring

/-- The same with the other branch's gradient added first. -/
theorem add_dxK (w : EReal) (x D : Fin 1024 → EReal) (j : Fin 1024) : w + dxK x D j = w + D j * rr x + x j * tR x D + tR x D * x j := by
  rw [dxK_eq, ← add_assoc, ← add_assoc]

end Cert.Norm

end
-- ==== Proof.FfnNormAlg.lean ====
module

public import proofs.«01_k».proof.Defs
public import proofs.«01_k».proof.Proof.Gen.FfnNorm
public import proofs.«01_k».proof.Proof.Gen.FfnNorm.Frame
public import proofs.«01_k».proof.Proof.Gen.FfnNormIdeal.Frame
public import proofs.«01_k».proof.Proof.Gen.FfnNormIdeal.Value
public import proofs.«01_k».proof.Proof.Gen.FfnNormRefIdeal.Run
public import proofs.«01_k».proof.Proof.Gen.FfnNormRefIdeal.Read
public import proofs.«01_k».proof.Proof.NormBwd
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The backward of the gate and up projections and of the norm before them. -/

namespace Cert.FfnNormIdeal.Val

open Idealize.ShloMosaic Idealize.ShloMosaic.TcCoe Idealize.ShloMosaic.Tactic Idealize.SL.Sem
open Cert.FfnNormIdeal Cert.FfnNormIdeal.Gen Cert.FfnNormIdeal.Value Cert.Norm

variable (m : (ℓ : Loc nD τ sig) → Buf (Elt Ideal) ℓ)

/-- The gradient at the normalised tokens, one entry: both projections' shares. -/
def dh (g u : Fin 2816 → EReal) (wg wu : Fin 2816 → Fin 1024 → EReal) (k : Fin 1024) : EReal :=
  (∑ j, g j * wg j k) + ∑ j, u j * wu j k

section
variable (v3 v7 : Vec Ideal S256x2816 .bf16) (v4 v8 : Vec Ideal S2816x1024 .bf16) (v12 v39 : Vec Ideal S256x1024 .f32) (v13 s : Vec Ideal S1x1024 .f32)

/-- A tile's row of gradients. -/
abbrev blkH (a : Fin 256) : Fin 1024 → EReal :=
  dh (fun j => v3 (ix2 a j)) (fun j => v7 (ix2 a j)) (fun j k => v4 (ix2 j k)) (fun j k => v8 (ix2 j k))

theorem dh_at (a : Fin 256) (b : Fin 1024) : k0_pay4 (F := Ideal) v3 v4 v7 v8 (ix2 a b) = blkH v3 v7 v4 v8 a b := by
  unfold blkH dh
  pointwise [k0_pay4]

theorem rr_at (a : Fin 256) (b : Fin 1) : k0_pay5 (F := Ideal) v12 (ix2 a b) = rr fun k => v12 (ix2 a k) := by
  unfold rr ms
  pointwise [k0_pay5]

theorem dx_at (a : Fin 256) (b : Fin 1024) :
    k0_pay1 (F := Ideal) (k0_pay7 v3 v4 v7 v8 v12 v13) v39 (ix2 a b)
      = v39 (ix2 a b) + dxK (fun k => v12 (ix2 a k)) (fun k => blkH v3 v7 v4 v8 a k * v13 (ix2 0 k)) b := by
  unfold dxK
  simp only [← dh_at, ← rr_at _ _ 0]
  pointwise [k0_pay1, k0_pay7, k0_pay6]

theorem dg_at (b : Fin 1024) :
    k0_pay2 (F := Ideal) (k0_pay8 v3 v4 v7 v8 v12) s (ix2 0 b)
      = s (ix2 0 b) + ∑ a : Fin 256, blkH v3 v7 v4 v8 a b * (v12 (ix2 a b) * rr fun k => v12 (ix2 a k)) := by
  simp only [← dh_at, ← rr_at _ _ 0]
  pointwise [k0_pay2, k0_pay8, k0_pay6]

theorem fill_at (j : S1x1024.Idx) : k0_pay3 (F := Ideal) j = 0 := by pointwise [k0_pay3]; try rfl
end

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, 0] ∧ win0_7.index t = ![t.val, 0] ∧ win0_8.index t = ![0, 0] :=
  (by decide +kernel : ∀ t : Fin grid0.N, _)

/-- The seven arguments. -/
abbrev aG (c : Dev nD) : Vec Ideal S4096x2816 .bf16 := m ((c : Thread nD τ).loc main_arg0)
abbrev aU (c : Dev nD) : Vec Ideal S4096x2816 .bf16 := m ((c : Thread nD τ).loc main_arg1)
abbrev aWG (c : Dev nD) : Vec Ideal S1024x2816 .f32 := m ((c : Thread nD τ).loc main_arg2)
abbrev aWU (c : Dev nD) : Vec Ideal S1024x2816 .f32 := m ((c : Thread nD τ).loc main_arg3)
abbrev aX (c : Dev nD) : Vec Ideal S4096x1024 .f32 := m ((c : Thread nD τ).loc main_arg4)
abbrev aD (c : Dev nD) : Vec Ideal S4096x1024 .f32 := m ((c : Thread nD τ).loc main_arg5)
abbrev aN (c : Dev nD) : Vec Ideal S1x1024 .f32 := m ((c : Thread nD τ).loc main_arg6)

theorem VG_at (c : Dev nD) (r k) : (V m c main_v1 : Vec Ideal S2816x1024 .bf16) (ix2 r k) = aWG m c (ix2 k r) := by
  entry_read
  pointwise

theorem VU_at (c : Dev nD) (r k) : (V m c main_v3 : Vec Ideal S2816x1024 .bf16) (ix2 r k) = aWU m c (ix2 k r) := by
  entry_read
  pointwise

theorem blk0_at (c : Dev nD) (t : Fin cfg0.N) (r : Fin 256) (k : Fin 2816) (h : t.val * 256 + r.val < 4096) :
    (show Vec Ideal S256x2816 .bf16 from iblk m c 0 t) (ix2 r k) = aG m c (ix2 ⟨t.val * 256 + r.val, h⟩ k) := by
  unfold aG
  rw [← V_main_arg0 m c]
  blk_ext [iblk, idx t]

theorem blk1_at (c : Dev nD) (t : Fin cfg0.N) (r : Fin 256) (k : Fin 2816) (h : t.val * 256 + r.val < 4096) :
    (show Vec Ideal S256x2816 .bf16 from iblk m c 1 t) (ix2 r k) = aU m c (ix2 ⟨t.val * 256 + r.val, h⟩ k) := by
  unfold aU
  rw [← V_main_arg1 m c]
  blk_ext [iblk, idx t]

theorem blk4_at (c : Dev nD) (t : Fin cfg0.N) (r : Fin 256) (k : Fin 1024) (h : t.val * 256 + r.val < 4096) :
    (show Vec Ideal S256x1024 .f32 from iblk m c 4 t) (ix2 r k) = aX m c (ix2 ⟨t.val * 256 + r.val, h⟩ k) := by
  unfold aX
  rw [← V_main_arg4 m c]
  blk_ext [iblk, idx t]

theorem blk5_at (c : Dev nD) (t : Fin cfg0.N) (r : Fin 256) (k : Fin 1024) (h : t.val * 256 + r.val < 4096) :
    (show Vec Ideal S256x1024 .f32 from iblk m c 5 t) (ix2 r k) = aD m c (ix2 ⟨t.val * 256 + r.val, h⟩ k) := by
  unfold aD
  rw [← V_main_arg5 m c]
  blk_ext [iblk, idx t]

theorem blk2_at (c : Dev nD) (t : Fin cfg0.N) (r : Fin 2816) (k : Fin 1024) :
    (show Vec Ideal S2816x1024 .bf16 from iblk m c 2 t) (ix2 r k) = aWG m c (ix2 k r) := by
  rw [← VG_at]
  blk_ext [iblk, idx t]

theorem blk3_at (c : Dev nD) (t : Fin cfg0.N) (r : Fin 2816) (k : Fin 1024) :
    (show Vec Ideal S2816x1024 .bf16 from iblk m c 3 t) (ix2 r k) = aWU m c (ix2 k r) := by
  rw [← VU_at]
  blk_ext [iblk, idx t]

theorem blk6_at (c : Dev nD) (t : Fin cfg0.N) (k : Fin 1024) :
    (show Vec Ideal S1x1024 .f32 from iblk m c 6 t) (ix2 0 k) = aN m c (ix2 0 k) := by
  unfold aN
  rw [← V_main_arg6 m c]
  blk_ext [iblk, idx t]

/-- The gradient at the normalised tokens, one row. -/
def hF (g u : Vec Ideal S4096x2816 .bf16) (wg wu : Vec Ideal S1024x2816 .f32) (r : Fin 4096) : Fin 1024 → EReal :=
  dh (fun j => g (ix2 r j)) (fun j => u (ix2 r j)) (fun j k => wg (ix2 k j)) (fun j k => wu (ix2 k j))

/-- One entry of the tokens' gradient. -/
def xF (g u : Vec Ideal S4096x2816 .bf16) (wg wu : Vec Ideal S1024x2816 .f32) (x d : Vec Ideal S4096x1024 .f32) (n : Vec Ideal S1x1024 .f32) (r : Fin 4096) (b : Fin 1024) : EReal :=
  d (ix2 r b) + dxK (fun k => x (ix2 r k)) (fun k => hF g u wg wu r k * n (ix2 0 k)) b

/-- One row's share of the gain's gradient. -/
def nT (g u : Vec Ideal S4096x2816 .bf16) (wg wu : Vec Ideal S1024x2816 .f32) (x : Vec Ideal S4096x1024 .f32) (b : Fin 1024) (r : Fin 4096) : EReal :=
  hF g u wg wu r b * (x (ix2 r b) * rr fun k => x (ix2 r k))

/-- One entry of the gain's gradient. -/
def nF (g u : Vec Ideal S4096x2816 .bf16) (wg wu : Vec Ideal S1024x2816 .f32) (x : Vec Ideal S4096x1024 .f32) (b : Fin 1024) : EReal :=
  ∑ r : Fin 4096, nT g u wg wu x b r

theorem hF_at (c : Dev nD) (t : Fin cfg0.N) (a : Fin 256) (h : t.val * 256 + a.val < 4096) :
    blkH (iblk m c 0 t) (iblk m c 1 t) (iblk m c 2 t) (iblk m c 3 t) a = hF (aG m c) (aU m c) (aWG m c) (aWU m c) ⟨t.val * 256 + a.val, h⟩ :=
  congr (congrArg₂ (fun p q r => dh p q r _) (funext fun j => blk0_at m c t a j h) (funext fun j => blk1_at m c t a j h)) (funext fun j => funext fun k => blk2_at m c t j k)
    |>.trans (congrArg (dh _ _ _) (funext fun j => funext fun k => blk3_at m c t j k))

theorem row_at (c : Dev nD) (t : Fin cfg0.N) (a : Fin 256) (h : t.val * 256 + a.val < 4096) :
    (fun k => (show Vec Ideal S256x1024 .f32 from iblk m c 4 t) (ix2 a k)) = fun k => aX m c (ix2 ⟨t.val * 256 + a.val, h⟩ k) :=
  funext fun k => blk4_at m c t a k h

/-- What a tile writes of the tokens' gradient. -/
theorem xF_at (c : Dev nD) (t : Fin cfg0.N) (a : Fin 256) (b : Fin 1024) (h : t.val * 256 + a.val < 4096) :
    k0_pay1 (F := Ideal) (k0_pay7 (iblk m c 0 t) (iblk m c 2 t) (iblk m c 1 t) (iblk m c 3 t) (iblk m c 4 t) (iblk m c 6 t)) (iblk m c 5 t) (ix2 a b)
      = xF (aG m c) (aU m c) (aWG m c) (aWU m c) (aX m c) (aD m c) (aN m c) ⟨t.val * 256 + a.val, h⟩ b :=
  (dx_at _ _ _ _ _ _ _ a b).trans (congrArg₂ (· + ·) (blk5_at m c t a b h)
    (congrArg₂ (fun p q => dxK p q b) (row_at m c t a h) (funext fun k => congrArg₂ (· * ·) (congrFun (hF_at m c t a h) k) (blk6_at m c t k))))

/-- A tile's share of the gain's gradient. -/
def part (c : Dev nD) (t : Fin cfg0.N) (j : S1x1024.Idx) : EReal :=
  ∑ a : Fin 256, blkH (iblk m c 0 t) (iblk m c 1 t) (iblk m c 2 t) (iblk m c 3 t) a (j 1)
    * ((show Vec Ideal S256x1024 .f32 from iblk m c 4 t) (ix2 a (j 1)) * rr fun k => (show Vec Ideal S256x1024 .f32 from iblk m c 4 t) (ix2 a k))

theorem sum_parts (c : Dev nD) (b : Fin 1024) : ∑ p : Fin cfg0.N, part m c p (ix2 0 b) = nF (aG m c) (aU m c) (aWG m c) (aWU m c) (aX m c) b := by
  unfold nF part
  refine Eq.trans ?_ (Fin.sum_univ_tiles 16 256 rfl (nT (aG m c) (aU m c) (aWG m c) (aWU m c) (aX m c) b)).symm
  refine Finset.sum_congr rfl fun t _ => Finset.sum_congr rfl fun a _ => ?_
  have ht : t.val < 16 := t.isLt
  have h : t.val * 256 + a.val < 4096 := by omega
  exact congrArg₂ (· * ·) (congrFun (hF_at m c t a h) b) (congrArg₂ (fun p q => p * rr q) (blk4_at m c t a b h) (row_at m c t a h))

theorem acc_last (c : Dev nD) (t : Fin cfg0.N) (ht : t.val + 1 = cfg0.N) (j : S1x1024.Idx) :
    (outsAt0 m c t.val t.isLt).2 j = ∑ p : Fin cfg0.N, part m c p j := by
  rw [Pipeline.eq_sum_fin_of_reset_step_apply_last (fun n h => (outsAt0 m c n h).2) 16 (fun _ => 0) (part m c)
    (fun t h j => by
      idx_vars j
      obtain rfl : j0 = 0 := Subsingleton.elim _ _
      rw [outsAt0_A m c t h]; frame_out; rw [dg_at, fill_at]; rfl)
    (fun t h j => by
      idx_vars j
      obtain rfl : j0 = 0 := Subsingleton.elim _ _
      rw [outsAt0_B m c t h]; frame_out; rw [dg_at]
      rfl)
    (le_of_eq N_0) t ht j, zero_add]

/-- What a point leaves of the tokens' gradient, in either case. -/
theorem out7 (c : Dev nD) (t : Fin cfg0.N) (y : S256x1024.Idx) :
    (outsAt0 m c t.val t.isLt).1 y
      = k0_pay1 (F := Ideal) (k0_pay7 (iblk m c 0 t) (iblk m c 2 t) (iblk m c 1 t) (iblk m c 3 t) (iblk m c 4 t) (iblk m c 6 t)) (iblk m c 5 t) y := by
  by_cases h : t.val % 16 = 0
  · rw [outsAt0_A m c t h]; frame_out
  · rw [outsAt0_B m c t h]; frame_out

theorem final7 (c : Dev nD) : (dats m 0 c).arrAt 7 cfg0.N = fun i : S4096x1024.Idx => xF (aG m c) (aU m c) (aWG m c) (aWU m c) (aX m c) (aD m c) (aN m c) (i 0) (i 1) := by
  refine (dats m 0 c).arrAt_eq_of_covers 7 _ (by decide +kernel) fun t hf y => ?_
  have ht : t.val < 16 := t.isLt
  blk_simp
  rw [after0_7]
  change S256x1024.Idx at y
  idx_vars y
  refine (out7 m c t _).trans ((xF_at m c t y0 y1 (by omega)).trans ?_)
  refine congrArg₂ (xF _ _ _ _ _ _ _) (Fin.ext ?_) (Fin.ext ?_) <;> blk_simp [idx t]

theorem final8 (c : Dev nD) : (dats m 0 c).arrAt 8 cfg0.N = fun i : S1x1024.Idx => nF (aG m c) (aU m c) (aWG m c) (aWU m c) (aX m c) (i 1) := by
  refine (dats m 0 c).arrAt_eq_of_covers 8 _ (by decide +kernel) fun t hf y => ?_
  have ht16 : t.val < 16 := t.isLt
  have ht : t.val % 16 = 15 := by
    have := (flush0_8 t).mp hf
    omega
  blk_simp
  rw [after0_8]
  change S1x1024.Idx at y
  idx_vars y
  obtain rfl : y0 = 0 := Subsingleton.elim _ _
  refine (acc_last m c t (by show t.val + 1 = 16; omega) _).trans ((sum_parts m c y1).trans ?_)
  refine congrArg (nF _ _ _ _ _) (Fin.ext ?_) <;> blk_simp [idx t]

end Cert.FfnNormIdeal.Val

namespace Cert.Proof.FfnNormAlg

open Idealize.ShloMosaic Idealize.ShloMosaic.TcCoe Idealize.ShloMosaic.Tactic Idealize.SL.Sem
open Cert.FfnNormIdeal.Val Cert.Norm

section
open Cert.FfnNormRefIdeal Cert.FfnNormRefIdeal.Read
variable (x0 x1 : Vec Ideal S4096x2816 .bf16) (x2 x3 : Vec Ideal S1024x2816 .f32) (x4 x5 : Vec Ideal S4096x1024 .f32) (x6 : Vec Ideal S1x1024 .f32)

theorem ref_dh (r : Fin 4096) (k : Fin 1024) : val_main_v23 (F := Ideal) x0 x1 x2 x3 (ix2 r k) = hF x0 x1 x2 x3 r k := by
  unfold hF dh
  rw [add_comm]
  pointwise [val_main_v23, val_main_v22, val_main_v21, val_main_v20, val_main_v19]

theorem ref_ms (r : Fin 4096) (k : Fin 1) : val_main_v7 (F := Ideal) x4 (ix2 r k) = ms fun k => x4 (ix2 r k) := by
  unfold ms
  pointwise [val_main_v7, val_main_v6, val_main_cst_1, val_main_v5, val_main_v4, val_main_cst_0, val_main_v3, val_main_v2, val_main_cst, val_main_v1]

theorem ref_rr (r : Fin 4096) (k : Fin 1) : val_main_v8 (F := Ideal) x4 (ix2 r k) = rr fun k => x4 (ix2 r k) := by
  unfold rr
  rw [← ref_ms x4 r k]
  pointwise [val_main_v8]

theorem ref_D (r : Fin 4096) (k : Fin 1024) : val_main_v28 (F := Ideal) x0 x1 x2 x3 x6 (ix2 r k) = hF x0 x1 x2 x3 r k * x6 (ix2 0 k) := by
  rw [← ref_dh]
  pointwise [val_main_v28, val_main_v27, val_main_v14, val_main_v0]

theorem ref_t (r : Fin 4096) (k : Fin 1024) :
    val_main_v40 (F := Ideal) x0 x1 x2 x3 x4 x6 (ix2 r k) = tR (fun k => x4 (ix2 r k)) (fun k => hF x0 x1 x2 x3 r k * x6 (ix2 0 k)) := by
  unfold tR
  simp only [← ref_D, ← ref_rr x4 r 0, ← ref_ms x4 r 0]
  pointwise [val_main_v40, val_main_v39, val_main_cst_7, val_main_v38, val_main_v37, val_main_cst_6, val_main_v36, val_main_v32, val_main_v31, val_main_cst_5, val_main_v30,
    val_main_v11, val_main_v10, val_main_cst_2, val_main_v9]
  refine (Fin.sum_univ_one _).trans ?_
  simp only [ref_D]

theorem dx_eq : val_main_v44 (F := Ideal) x0 x1 x2 x3 x4 x5 x6 = fun i : S4096x1024.Idx => xF x0 x1 x2 x3 x4 x5 x6 (i 0) (i 1) := by
  funext y
  change S4096x1024.Idx at y
  idx_vars y
  change _ = xF x0 x1 x2 x3 x4 x5 x6 y0 y1
  unfold xF
  rw [add_dxK]
  simp only [← ref_t x0 x1 x2 x3 x4 x6 y0 y1, ← ref_rr x4 y0 0]
  pointwise [val_main_v44, val_main_v43, val_main_v42, val_main_v41, val_main_v35, val_main_v34, val_main_v33]
  rw [ref_D]

theorem dg_eq : val_main_v45 (F := Ideal) x0 x1 x2 x3 x4 = fun i : S1x1024.Idx => nF x0 x1 x2 x3 x4 (i 1) := by
  funext y
  change S1x1024.Idx at y
  idx_vars y
  change _ = nF x0 x1 x2 x3 x4 y1
  unfold nF nT
  simp only [← ref_dh, ← ref_rr x4 _ 0, mul_comm (val_main_v23 (F := Ideal) x0 x1 x2 x3 _)]
  pointwise [val_main_v45, val_main_v29, val_main_cst_4, val_main_v26, val_main_v25, val_main_cst_3, val_main_v24, val_main_v13, val_main_v12]
  exact Fin.sum_univ_one _

end

theorem algebraic : algebraic_FfnNormIdeal_FfnNormRefIdeal (hFfnNormIdeal := Cert.FfnNormIdeal.Gen.facts) (hFfnNormRefIdeal := Cert.FfnNormRefIdeal.Gen.facts) := fun m ρ m' ρ' _ ha =>
  ⟨fun c => (Cert.FfnNormIdeal.Gen.dats m 0 c).arrAt 7 Cert.FfnNormIdeal.cfg0.N, fun c => (Cert.FfnNormIdeal.Gen.dats m 0 c).arrAt 8 Cert.FfnNormIdeal.cfg0.N,
    Cert.FfnNormIdeal.Value.run_blocks m ρ,
    (θ_run _ _ _).mono (fun _ h c => by
      obtain ⟨h0, h1, h2, h3, h4, h5, h6⟩ := ha c
      refine ⟨(h c).1.trans ((Cert.FfnNormRefIdeal.Read.val_main_v44_eq _ _).trans ?_), (h c).2.1.trans ?_, (h c).2.2⟩
      · rw [h0, h1, h2, h3, h4, h5, h6]; exact (dx_eq _ _ _ _ _ _ _).trans (final7 m c).symm
      · rw [h0, h1, h2, h3, h4]; exact (dg_eq _ _ _ _ _).trans (final8 m c).symm) (Cert.FfnNormRefIdeal.Value.run m' ρ')⟩

theorem frameRef : quiescent_FfnNormRefIdeal (hFfnNormRefIdeal := Cert.FfnNormRefIdeal.Gen.facts) := fun m ρ _ =>
  (θ_run _ _ _).mono (fun r h => ⟨fun c => (h c).2.2, sem_eq_zero_of_no_sems (by decide) _⟩) (Cert.FfnNormRefIdeal.Value.run m ρ)

end Cert.Proof.FfnNormAlg
-- ==== Proof.FfnUpAlg.lean ====
module

public import proofs.«01_k».proof.Defs
public import proofs.«01_k».proof.Proof.Gen.FfnUp
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The gate and up projections with the activation. -/

namespace Cert.FfnUpIdeal.Val

open Idealize.ShloMosaic Idealize.ShloMosaic.TcCoe Idealize.ShloMosaic.Tactic Idealize.SL.Sem
open Cert.FfnUpIdeal Cert.FfnUpIdeal.Gen Cert.FfnUpIdeal.Value

/-- The logistic function as the kernel computes it. -/
def sg (x : EReal) : EReal :=
  Ideal.div (Ideal.ofBits .f32 0x3F800000#32) (Ideal.ofBits .f32 0x3F800000#32 + Ideal.exp (Ideal.ofBits .f32 0x00000000#32 - x))

theorem z0 (x : EReal) : 0 - x = -x := by rw [sub_eq_add_neg, zero_add]

/-- A tile's products. -/
def blkMul (x : Vec Ideal S1024x1024 .bf16) (w : Vec Ideal S1408x1024 .bf16) : Vec Ideal S1024x1408 .bf16 := fun y =>
  ∑ k : Fin 1024, x (ix2 (y 0) k) * w (ix2 (y 1) k)

/-- A tile's activations. -/
def blkAct (x : Vec Ideal S1024x1024 .bf16) (w v : Vec Ideal S1408x1024 .bf16) : Vec Ideal S1024x1408 .bf16 := fun y =>
  blkMul x w y * sg (blkMul x w y) * blkMul x v y

section
variable (c : Dev nD) (i : grid0.Coords) (arg2 : Memref sig .tc .vmem S1024x1024 .bf16) (harg2 : arg2.IsWhole)
  (arg3 : Memref sig .tc .vmem S1408x1024 .bf16) (harg3 : arg3.IsWhole) (arg4 : Memref sig .tc .vmem S1408x1024 .bf16) (harg4 : arg4.IsWhole)
  (arg5 : Memref sig .tc .vmem S1024x1408 .bf16) (harg5 : arg5.IsWhole) (arg6 : Memref sig .tc .vmem S1024x1408 .bf16) (harg6 : arg6.IsWhole)
  (arg7 : Memref sig .tc .vmem S1024x1408 .bf16) (harg7 : arg7.IsWhole)
  (x0 : Vec Ideal S1024x1024 .bf16) (x1 x2 : Vec Ideal S1408x1024 .bf16)

theorem out3 : out0_A_3 (F := Ideal) c i arg2 harg2 arg3 harg3 arg4 harg4 arg5 harg5 arg6 harg6 arg7 harg7 x0 x1 x2 = blkMul x0 x1 := by
  funext y
  unfold out0_A_3
  rw [View.read_writes_eq_canon _ _ _ (cover0_A_3 c i arg2 harg2 arg3 harg3 arg4 harg4 arg5 harg5 arg6 harg6 arg7 harg7 x0 x1 x2)]
  refine View.canon_apply_of_pieces (blkMul x0 x1) _ (View.PiecesOf.mem ?_) y (cover0_A_3 c i arg2 harg2 arg3 harg3 arg4 harg4 arg5 harg5 arg6 harg6 arg7 harg7 x0 x1 x2 y)
  unfold kernelRun0_A
  dsimp only
  sl_unfold_words
  refine ⟨?_, ?_, ?_, trivial⟩
  · intro w
    change S1024x384.Idx at w
    idx_vars w
    change _ = View.ld (blkMul x0 x1) (Rect.unit ![0, 1024] ![1024, 384] inb_S1024x1408_S1024x384_0_1024) (ix2 w0 w1)
    simp only [View.readAt_eq_ld, harg2.read_unread, harg3.read_unread, harg4.read_unread]
    pointwise [k0_pay14, k0_pay12, blkMul]
  · intro w
    change S1024x512.Idx at w
    idx_vars w
    change _ = View.ld (blkMul x0 x1) (Rect.unit ![0, 512] ![1024, 512] inb_S1024x1408_S1024x512_0_512) (ix2 w0 w1)
    simp only [View.readAt_eq_ld, harg2.read_unread, harg3.read_unread, harg4.read_unread]
    pointwise [k0_pay9, k0_pay7, blkMul]
  · intro w
    change S1024x512.Idx at w
    idx_vars w
    change _ = View.ld (blkMul x0 x1) (Rect.unit ![0, 0] ![1024, 512] inb_S1024x1408_S1024x512_0_0) (ix2 w0 w1)
    simp only [View.readAt_eq_ld, harg2.read_unread, harg3.read_unread, harg4.read_unread]
    pointwise [k0_pay4, k0_pay2, blkMul]

theorem out4 : out0_A_4 (F := Ideal) c i arg2 harg2 arg3 harg3 arg4 harg4 arg5 harg5 arg6 harg6 arg7 harg7 x0 x1 x2 = blkMul x0 x2 := by
  funext y
  unfold out0_A_4
  rw [View.read_writes_eq_canon _ _ _ (cover0_A_4 c i arg2 harg2 arg3 harg3 arg4 harg4 arg5 harg5 arg6 harg6 arg7 harg7 x0 x1 x2)]
  refine View.canon_apply_of_pieces (blkMul x0 x2) _ (View.PiecesOf.mem ?_) y (cover0_A_4 c i arg2 harg2 arg3 harg3 arg4 harg4 arg5 harg5 arg6 harg6 arg7 harg7 x0 x1 x2 y)
  unfold kernelRun0_A
  dsimp only
  sl_unfold_words
  refine ⟨?_, ?_, ?_, trivial⟩
  · intro w
    change S1024x384.Idx at w
    idx_vars w
    change _ = View.ld (blkMul x0 x2) (Rect.unit ![0, 1024] ![1024, 384] inb_S1024x1408_S1024x384_0_1024) (ix2 w0 w1)
    simp only [View.readAt_eq_ld, harg2.read_unread, harg3.read_unread, harg4.read_unread]
    pointwise [k0_pay15, k0_pay13, blkMul]
  · intro w
    change S1024x512.Idx at w
    idx_vars w
    change _ = View.ld (blkMul x0 x2) (Rect.unit ![0, 512] ![1024, 512] inb_S1024x1408_S1024x512_0_512) (ix2 w0 w1)
    simp only [View.readAt_eq_ld, harg2.read_unread, harg3.read_unread, harg4.read_unread]
    pointwise [k0_pay10, k0_pay8, blkMul]
  · intro w
    change S1024x512.Idx at w
    idx_vars w
    change _ = View.ld (blkMul x0 x2) (Rect.unit ![0, 0] ![1024, 512] inb_S1024x1408_S1024x512_0_0) (ix2 w0 w1)
    simp only [View.readAt_eq_ld, harg2.read_unread, harg3.read_unread, harg4.read_unread]
    pointwise [k0_pay5, k0_pay3, blkMul]

theorem out5 : out0_A_5 (F := Ideal) c i arg2 harg2 arg3 harg3 arg4 harg4 arg5 harg5 arg6 harg6 arg7 harg7 x0 x1 x2 = blkAct x0 x1 x2 := by
  funext y
  unfold out0_A_5
  rw [View.read_writes_eq_canon _ _ _ (cover0_A_5 c i arg2 harg2 arg3 harg3 arg4 harg4 arg5 harg5 arg6 harg6 arg7 harg7 x0 x1 x2)]
  refine View.canon_apply_of_pieces (blkAct x0 x1 x2) _ (View.PiecesOf.mem ?_) y (cover0_A_5 c i arg2 harg2 arg3 harg3 arg4 harg4 arg5 harg5 arg6 harg6 arg7 harg7 x0 x1 x2 y)
  unfold kernelRun0_A
  dsimp only
  sl_unfold_words
  refine ⟨?_, ?_, ?_, trivial⟩
  · intro w
    change S1024x384.Idx at w
    idx_vars w
    change _ = View.ld (blkAct x0 x1 x2) (Rect.unit ![0, 1024] ![1024, 384] inb_S1024x1408_S1024x384_0_1024) (ix2 w0 w1)
    simp only [View.readAt_eq_ld, harg2.read_unread, harg3.read_unread, harg4.read_unread]
    pointwise [k0_pay1, k0_pay12, k0_pay13, blkAct, blkMul, sg]
  · intro w
    change S1024x512.Idx at w
    idx_vars w
    change _ = View.ld (blkAct x0 x1 x2) (Rect.unit ![0, 512] ![1024, 512] inb_S1024x1408_S1024x512_0_512) (ix2 w0 w1)
    simp only [View.readAt_eq_ld, harg2.read_unread, harg3.read_unread, harg4.read_unread]
    pointwise [k0_pay11, k0_pay7, k0_pay8, blkAct, blkMul, sg]
  · intro w
    change S1024x512.Idx at w
    idx_vars w
    change _ = View.ld (blkAct x0 x1 x2) (Rect.unit ![0, 0] ![1024, 512] inb_S1024x1408_S1024x512_0_0) (ix2 w0 w1)
    simp only [View.readAt_eq_ld, harg2.read_unread, harg3.read_unread, harg4.read_unread]
    pointwise [k0_pay6, k0_pay2, k0_pay3, blkAct, blkMul, sg]
end

variable (m : (ℓ : Loc nD τ sig) → Buf (Elt Ideal) ℓ)

theorem idx : ∀ t : Fin cfg0.N, win0_0.index t = ![t.val % 4, 0] ∧ win0_1.index t = ![t.val / 4, 0] ∧ win0_2.index t = ![t.val / 4, 0]
    ∧ win0_3.index t = ![t.val % 4, t.val / 4] ∧ win0_4.index t = ![t.val % 4, t.val / 4] ∧ win0_5.index t = ![t.val % 4, t.val / 4] :=
  (by decide +kernel : ∀ t : Fin grid0.N, _)

/-- The three arguments. -/
abbrev aX (c : Dev nD) : Vec Ideal S4096x1024 .bf16 := m ((c : Thread nD τ).loc main_arg0)
abbrev aG (c : Dev nD) : Vec Ideal S1024x2816 .f32 := m ((c : Thread nD τ).loc main_arg1)
abbrev aU (c : Dev nD) : Vec Ideal S1024x2816 .f32 := m ((c : Thread nD τ).loc main_arg2)

theorem VG_at (c : Dev nD) (r k) : (V m c main_v1 : Vec Ideal S2816x1024 .bf16) (ix2 r k) = aG m c (ix2 k r) := by
  entry_read
  pointwise

theorem VU_at (c : Dev nD) (r k) : (V m c main_v3 : Vec Ideal S2816x1024 .bf16) (ix2 r k) = aU m c (ix2 k r) := by
  entry_read
  pointwise

theorem blk0_at (c : Dev nD) (t : Fin cfg0.N) (r k : Fin 1024) (h : t.val % 4 * 1024 + r.val < 4096) :
    (show Vec Ideal S1024x1024 .bf16 from iblk m c 0 t) (ix2 r k) = aX m c (ix2 ⟨t.val % 4 * 1024 + r.val, h⟩ k) := by
  unfold aX
  rw [← V_main_arg0 m c]
  blk_ext [iblk, idx t]

theorem blk1_at (c : Dev nD) (t : Fin cfg0.N) (r : Fin 1408) (k : Fin 1024) (h : t.val / 4 * 1408 + r.val < 2816) :
    (show Vec Ideal S1408x1024 .bf16 from iblk m c 1 t) (ix2 r k) = aG m c (ix2 k ⟨t.val / 4 * 1408 + r.val, h⟩) := by
  rw [← VG_at]
  blk_ext [iblk, idx t]

theorem blk2_at (c : Dev nD) (t : Fin cfg0.N) (r : Fin 1408) (k : Fin 1024) (h : t.val / 4 * 1408 + r.val < 2816) :
    (show Vec Ideal S1408x1024 .bf16 from iblk m c 2 t) (ix2 r k) = aU m c (ix2 k ⟨t.val / 4 * 1408 + r.val, h⟩) := by
  rw [← VU_at]
  blk_ext [iblk, idx t]

/-- One entry of a projection. -/
def mulF (x : Vec Ideal S4096x1024 .bf16) (w : Vec Ideal S1024x2816 .f32) (r : Fin 4096) (j : Fin 2816) : EReal :=
  ∑ k : Fin 1024, x (ix2 r k) * w (ix2 k j)

/-- One activation. -/
def actF (x : Vec Ideal S4096x1024 .bf16) (w v : Vec Ideal S1024x2816 .f32) (r : Fin 4096) (j : Fin 2816) : EReal :=
  mulF x w r j * sg (mulF x w r j) * mulF x v r j

theorem gate_at (c : Dev nD) (t : Fin cfg0.N) (a : Fin 1024) (b : Fin 1408) (h : t.val % 4 * 1024 + a.val < 4096) (h' : t.val / 4 * 1408 + b.val < 2816) :
    blkMul (iblk m c 0 t) (iblk m c 1 t) (ix2 a b) = mulF (aX m c) (aG m c) ⟨t.val % 4 * 1024 + a.val, h⟩ ⟨t.val / 4 * 1408 + b.val, h'⟩ :=
  Finset.sum_congr rfl fun k _ => congrArg₂ (· * ·) (blk0_at m c t a k h) (blk1_at m c t b k h')

theorem up_at (c : Dev nD) (t : Fin cfg0.N) (a : Fin 1024) (b : Fin 1408) (h : t.val % 4 * 1024 + a.val < 4096) (h' : t.val / 4 * 1408 + b.val < 2816) :
    blkMul (iblk m c 0 t) (iblk m c 2 t) (ix2 a b) = mulF (aX m c) (aU m c) ⟨t.val % 4 * 1024 + a.val, h⟩ ⟨t.val / 4 * 1408 + b.val, h'⟩ :=
  Finset.sum_congr rfl fun k _ => congrArg₂ (· * ·) (blk0_at m c t a k h) (blk2_at m c t b k h')

theorem act_at (c : Dev nD) (t : Fin cfg0.N) (a : Fin 1024) (b : Fin 1408) (h : t.val % 4 * 1024 + a.val < 4096) (h' : t.val / 4 * 1408 + b.val < 2816) :
    blkAct (iblk m c 0 t) (iblk m c 1 t) (iblk m c 2 t) (ix2 a b) = actF (aX m c) (aG m c) (aU m c) ⟨t.val % 4 * 1024 + a.val, h⟩ ⟨t.val / 4 * 1408 + b.val, h'⟩ := by
  unfold blkAct actF
  rw [gate_at m c t a b h h', up_at m c t a b h h']

theorem final3 (c : Dev nD) : (dats m 0 c).arrAt 3 cfg0.N = fun i : S4096x2816.Idx => mulF (aX m c) (aG m c) (i 0) (i 1) := by
  refine (dats m 0 c).arrAt_eq_of_covers 3 _ (by decide +kernel) fun t hf y => ?_
  have ht : t.val < 8 := t.isLt
  blk_simp
  rw [after0_3]
  unfold outsAt0
  change S1024x1408.Idx at y
  idx_vars y
  refine (congrFun (out3 _ _ _ _ _ _ _ _ _ _ _ _ _ _ _ _ _) (ix2 y0 y1)).trans ((gate_at m c t y0 y1 (by omega) (by omega)).trans ?_)
  refine congrArg₂ (mulF _ _) (Fin.ext ?_) (Fin.ext ?_) <;> blk_simp [idx t]

theorem final4 (c : Dev nD) : (dats m 0 c).arrAt 4 cfg0.N = fun i : S4096x2816.Idx => mulF (aX m c) (aU m c) (i 0) (i 1) := by
  refine (dats m 0 c).arrAt_eq_of_covers 4 _ (by decide +kernel) fun t hf y => ?_
  have ht : t.val < 8 := t.isLt
  blk_simp
  rw [after0_4]
  unfold outsAt0
  change S1024x1408.Idx at y
  idx_vars y
  refine (congrFun (out4 _ _ _ _ _ _ _ _ _ _ _ _ _ _ _ _ _) (ix2 y0 y1)).trans ((up_at m c t y0 y1 (by omega) (by omega)).trans ?_)
  refine congrArg₂ (mulF _ _) (Fin.ext ?_) (Fin.ext ?_) <;> blk_simp [idx t]

theorem final5 (c : Dev nD) : (dats m 0 c).arrAt 5 cfg0.N = fun i : S4096x2816.Idx => actF (aX m c) (aG m c) (aU m c) (i 0) (i 1) := by
  refine (dats m 0 c).arrAt_eq_of_covers 5 _ (by decide +kernel) fun t hf y => ?_
  have ht : t.val < 8 := t.isLt
  blk_simp
  rw [after0_5]
  unfold outsAt0
  change S1024x1408.Idx at y
  idx_vars y
  refine (congrFun (out5 _ _ _ _ _ _ _ _ _ _ _ _ _ _ _ _ _) (ix2 y0 y1)).trans ((act_at m c t y0 y1 (by omega) (by omega)).trans ?_)
  refine congrArg₂ (actF _ _ _) (Fin.ext ?_) (Fin.ext ?_) <;> blk_simp [idx t]

end Cert.FfnUpIdeal.Val

namespace Cert.Proof.FfnUpAlg

open Idealize.ShloMosaic Idealize.ShloMosaic.TcCoe Idealize.ShloMosaic.Tactic Idealize.SL.Sem
open Cert.FfnUpIdeal.Val

section
open Cert.FfnUpRefIdeal Cert.FfnUpRefIdeal.Read
variable (x0 : Vec Ideal S4096x1024 .bf16) (x1 x2 : Vec Ideal S1024x2816 .f32)

theorem gate_eq : val_main_v3 (F := Ideal) x0 x1 = fun i : S4096x2816.Idx => mulF x0 x1 (i 0) (i 1) := by
  funext y
  change S4096x2816.Idx at y
  idx_vars y
  pointwise [val_main_v3, val_main_v1, val_main_v0, mulF]

theorem up_eq : val_main_v4 (F := Ideal) x0 x2 = fun i : S4096x2816.Idx => mulF x0 x2 (i 0) (i 1) := by
  funext y
  change S4096x2816.Idx at y
  idx_vars y
  pointwise [val_main_v4, val_main_v2, val_main_v0, mulF]

theorem act_eq : val_main_v7 (F := Ideal) x0 x1 x2 = fun i : S4096x2816.Idx => actF x0 x1 x2 (i 0) (i 1) := by
  funext y
  change S4096x2816.Idx at y
  idx_vars y
  pointwise [val_main_v7, val_main_v6, val_main_v5, val_main_v2, val_main_v1, val_main_v0, val_main_call0_v5, val_main_call0_v4, val_main_call0_v3, val_main_call0_v2, val_main_call0_v1, val_main_call0_v0, val_main_call0_cst, val_main_call0_cst_0, actF, mulF, sg]
  rw [z0]

end

theorem algebraic : algebraic_FfnUpIdeal_FfnUpRefIdeal (hFfnUpIdeal := Cert.FfnUpIdeal.Gen.facts) (hFfnUpRefIdeal := Cert.FfnUpRefIdeal.Gen.facts) := fun m ρ m' ρ' _ ha =>
  ⟨fun c => (Cert.FfnUpIdeal.Gen.dats m 0 c).arrAt 3 Cert.FfnUpIdeal.cfg0.N, fun c => (Cert.FfnUpIdeal.Gen.dats m 0 c).arrAt 4 Cert.FfnUpIdeal.cfg0.N,
    fun c => (Cert.FfnUpIdeal.Gen.dats m 0 c).arrAt 5 Cert.FfnUpIdeal.cfg0.N,
    Cert.FfnUpIdeal.Value.run_blocks m ρ,
    (θ_run _ _ _).mono (fun _ h c => by
      obtain ⟨h0, h1, h2⟩ := ha c
      refine ⟨(h c).1.trans ?_, (h c).2.1.trans ?_, (h c).2.2.1.trans ?_, (h c).2.2.2⟩
      · rw [h0, h1]; exact (gate_eq _ _).trans (final3 m c).symm
      · rw [h0, h2]; exact (up_eq _ _).trans (final4 m c).symm
      · rw [h0, h1, h2]; exact (act_eq _ _ _).trans (final5 m c).symm) (Cert.FfnUpRefIdeal.Value.run m' ρ')⟩

theorem frameRef : quiescent_FfnUpRefIdeal (hFfnUpRefIdeal := Cert.FfnUpRefIdeal.Gen.facts) := fun m ρ _ =>
  (θ_run _ _ _).mono (fun r h => ⟨fun c => (h c).2.2.2, sem_eq_zero_of_no_sems (by decide) _⟩) (Cert.FfnUpRefIdeal.Value.run m ρ)

end Cert.Proof.FfnUpAlg
-- ==== Proof.ProjBwdAlg.lean ====
module

public import proofs.«01_k».proof.Defs
public import proofs.«01_k».proof.Proof.Gen.ProjBwd
public import proofs.«01_k».proof.Proof.Gen.ProjBwd.Frame
public import proofs.«01_k».proof.Proof.Gen.ProjBwdIdeal.Frame
public import proofs.«01_k».proof.Proof.Gen.ProjBwdIdeal.Value
public import proofs.«01_k».proof.Proof.Gen.ProjBwdRefIdeal.Run
public import proofs.«01_k».proof.Proof.Gen.ProjBwdRefIdeal.Read
public import proofs.«01_k».proof.Proof.NormBwd
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The backward of the input projections and of the norm before them. -/

namespace Cert.ProjBwdIdeal.Val

open Idealize.ShloMosaic Idealize.ShloMosaic.TcCoe Idealize.ShloMosaic.Tactic Idealize.SL.Sem
open Cert.ProjBwdIdeal Cert.ProjBwdIdeal.Gen Cert.ProjBwdIdeal.Value Cert.Norm

variable (m : (ℓ : Loc nD τ sig) → Buf (Elt Ideal) ℓ)

section
variable (acc : Vec Ideal S1024x1024 .f32) (p w : Vec Ideal S1x1024x1024 .bf16) (x d : Vec Ideal S1024x1024 .f32) (g s : Vec Ideal S1x1024 .f32)

/-- What one slot adds to an entry of the gradient at the normalised tokens. -/
def add1 (a b : Fin 1024) : EReal := ∑ n : Fin 1024, p (ix3 0 a n) * w (ix3 0 b n)

theorem pair_at (a b : Fin 1024) : k0_pay8 (F := Ideal) acc p w (ix2 a b) = acc (ix2 a b) + add1 p w a b := by
  unfold add1
  pointwise [k0_pay8]

theorem near_at (a b : Fin 1024) : k0_pay9 (F := Ideal) acc p w (ix2 a b) = acc (ix2 a b) + add1 p w a b := by
  unfold add1
  pointwise [k0_pay9]

theorem far_at (a b : Fin 1024) : k0_pay1 (F := Ideal) acc p w (ix2 a b) = acc (ix2 a b) + add1 p w a b := by
  unfold add1
  pointwise [k0_pay1]

theorem rr_at (a : Fin 1024) (b : Fin 1) : k0_pay2 (F := Ideal) x (ix2 a b) = rr fun k => x (ix2 a k) := by
  unfold rr ms
  pointwise [k0_pay2]

theorem dx_at (a b : Fin 1024) :
    k0_pay4 (F := Ideal) acc x g d (ix2 a b) = d (ix2 a b) + dxK (fun k => x (ix2 a k)) (fun k => acc (ix2 a k) * g (ix2 0 k)) b := by
  unfold dxK
  simp only [← rr_at _ _ 0]
  pointwise [k0_pay4, k0_pay3]

theorem dg_at (b : Fin 1024) :
    k0_pay5 (F := Ideal) acc x s (ix2 0 b) = s (ix2 0 b) + ∑ a : Fin 1024, acc (ix2 a b) * (x (ix2 a b) * rr fun k => x (ix2 a k)) := by
  simp only [← rr_at _ _ 0]
  pointwise [k0_pay5, k0_pay3]

theorem row_fill (j : S1x1024.Idx) : k0_pay6 (F := Ideal) j = 0 := by pointwise [k0_pay6]; try rfl
theorem acc_fill (j : S1024x1024.Idx) : k0_pay7 (F := Ideal) j = 0 := by pointwise [k0_pay7]; try rfl
end

/-- The group of columns that a slot holds. -/
def grp (s : Nat) : Nat := if s < 3 then s + 5 else if s = 3 then 4 else s - 4

theorem grp_lt (s : Nat) (h : s < 8) : grp s < 8 := by unfold grp; split <;> (try split) <;> omega

theorem idx : ∀ t : Fin cfg0.N, win0_0.index t = ![t.val % 8, t.val / 8, 0] ∧ win0_4.index t = ![t.val / 8, 0] ∧ win0_5.index t = ![t.val / 8, 0]
    ∧ win0_6.index t = ![0, 0] ∧ win0_7.index t = ![t.val / 8, 0] ∧ win0_8.index t = ![0, 0] :=
  (by decide +kernel : ∀ t : Fin grid0.N, _)

theorem idx1 : ∀ t : Fin cfg0.N, (4 ≤ t.val % 8 ∧ t.val % 8 ≤ 5) → win0_1.index t = ![grp (t.val % 8), 0, 0] := (by decide +kernel : ∀ t : Fin grid0.N, _)
theorem idx2 : ∀ t : Fin cfg0.N, (t.val % 8 = 0 ∨ t.val % 8 = 3 ∨ t.val % 8 = 6 ∨ t.val % 8 = 7) → win0_2.index t = ![grp (t.val % 8), 0, 0] :=
  (by decide +kernel : ∀ t : Fin grid0.N, _)
theorem idx3 : ∀ t : Fin cfg0.N, (1 ≤ t.val % 8 ∧ t.val % 8 ≤ 2) → win0_3.index t = ![grp (t.val % 8) - 6, 0, 0] := (by decide +kernel : ∀ t : Fin grid0.N, _)

/-- The five arguments. -/
abbrev aP (c : Dev nD) : Vec Ideal S8x4096x1024 .bf16 := m ((c : Thread nD τ).loc main_arg0)
abbrev aW (c : Dev nD) : Vec Ideal S1024x8192 .f32 := m ((c : Thread nD τ).loc main_arg1)
abbrev aX (c : Dev nD) : Vec Ideal S4096x1024 .f32 := m ((c : Thread nD τ).loc main_arg2)
abbrev aD (c : Dev nD) : Vec Ideal S4096x1024 .f32 := m ((c : Thread nD τ).loc main_arg3)
abbrev aN (c : Dev nD) : Vec Ideal S1x1024 .f32 := m ((c : Thread nD τ).loc main_arg4)

theorem near_V (c : Dev nD) (g : Fin 8) (k n : Fin 1024) :
    (V m c main_v2 : Vec Ideal S8x1024x1024 .bf16) (ix3 g k n) = aW m c (ix2 k ⟨g.val * 1024 + n.val, by omega⟩) := by
  entry_read
  pointwise

theorem pair_V (c : Dev nD) (g : Fin 2) (k n : Fin 1024) :
    (V m c main_v3 : Vec Ideal S2x1024x1024 .bf16) (ix3 g k n) = aW m c (ix2 k ⟨g.val * 1024 + n.val, by omega⟩) := by
  entry_read
  pointwise

theorem far_V (c : Dev nD) (g : Fin 2) (k n : Fin 1024) :
    (V m c main_v4 : Vec Ideal S2x1024x1024 .bf16) (ix3 g k n) = aW m c (ix2 k ⟨(6 + g.val) * 1024 + n.val, by omega⟩) := by
  entry_read
  pointwise

theorem blk0_at (c : Dev nD) (t : Fin cfg0.N) (r n : Fin 1024) (h : t.val / 8 * 1024 + r.val < 4096) :
    (show Vec Ideal S1x1024x1024 .bf16 from iblk m c 0 t) (ix3 0 r n) = aP m c (ix3 ⟨t.val % 8, by omega⟩ ⟨t.val / 8 * 1024 + r.val, h⟩ n) := by
  unfold aP
  rw [← V_main_arg0 m c]
  blk_ext [iblk, idx t]

theorem blk1_at (c : Dev nD) (t : Fin cfg0.N) (hs : 4 ≤ t.val % 8 ∧ t.val % 8 ≤ 5) (k n : Fin 1024) (h : grp (t.val % 8) * 1024 + n.val < 8192) :
    (show Vec Ideal S1x1024x1024 .bf16 from iblk m c 1 t) (ix3 0 k n) = aW m c (ix2 k ⟨grp (t.val % 8) * 1024 + n.val, h⟩) := by
  have hg : grp (t.val % 8) < 2 := by unfold grp; split <;> (try split) <;> omega
  refine Eq.trans ?_ (pair_V m c ⟨grp (t.val % 8), hg⟩ k n)
  blk_ext [iblk, idx1 t hs]

theorem blk2_at (c : Dev nD) (t : Fin cfg0.N) (hs : t.val % 8 = 0 ∨ t.val % 8 = 3 ∨ t.val % 8 = 6 ∨ t.val % 8 = 7) (k n : Fin 1024) (h : grp (t.val % 8) * 1024 + n.val < 8192) :
    (show Vec Ideal S1x1024x1024 .bf16 from iblk m c 2 t) (ix3 0 k n) = aW m c (ix2 k ⟨grp (t.val % 8) * 1024 + n.val, h⟩) := by
  refine Eq.trans ?_ (near_V m c ⟨grp (t.val % 8), grp_lt _ (by omega)⟩ k n)
  blk_ext [iblk, idx2 t hs]

theorem blk3_at (c : Dev nD) (t : Fin cfg0.N) (hs : 1 ≤ t.val % 8 ∧ t.val % 8 ≤ 2) (k n : Fin 1024) (h : grp (t.val % 8) * 1024 + n.val < 8192) :
    (show Vec Ideal S1x1024x1024 .bf16 from iblk m c 3 t) (ix3 0 k n) = aW m c (ix2 k ⟨grp (t.val % 8) * 1024 + n.val, h⟩) := by
  have hg : grp (t.val % 8) - 6 < 2 ∧ 6 ≤ grp (t.val % 8) := by unfold grp; split <;> (try split) <;> omega
  refine Eq.trans ?_ ((far_V m c ⟨grp (t.val % 8) - 6, hg.1⟩ k n).trans (congrArg (fun q => aW m c (ix2 k q)) (Fin.ext (by show (6 + (grp (t.val % 8) - 6)) * 1024 + n.val = _; rw [Nat.add_sub_cancel' hg.2]))))
  blk_ext [iblk, idx3 t hs]

theorem blk4_at (c : Dev nD) (t : Fin cfg0.N) (r k : Fin 1024) (h : t.val / 8 * 1024 + r.val < 4096) :
    (show Vec Ideal S1024x1024 .f32 from iblk m c 4 t) (ix2 r k) = aX m c (ix2 ⟨t.val / 8 * 1024 + r.val, h⟩ k) := by
  unfold aX
  rw [← V_main_arg2 m c]
  blk_ext [iblk, idx t]

theorem blk5_at (c : Dev nD) (t : Fin cfg0.N) (r k : Fin 1024) (h : t.val / 8 * 1024 + r.val < 4096) :
    (show Vec Ideal S1024x1024 .f32 from iblk m c 5 t) (ix2 r k) = aD m c (ix2 ⟨t.val / 8 * 1024 + r.val, h⟩ k) := by
  unfold aD
  rw [← V_main_arg3 m c]
  blk_ext [iblk, idx t]

theorem blk6_at (c : Dev nD) (t : Fin cfg0.N) (k : Fin 1024) :
    (show Vec Ideal S1x1024 .f32 from iblk m c 6 t) (ix2 0 k) = aN m c (ix2 0 k) := by
  unfold aN
  rw [← V_main_arg4 m c]
  blk_ext [iblk, idx t]

/-- One slot's share of an entry of the gradient at the normalised tokens. -/
def slotT (p : Vec Ideal S8x4096x1024 .bf16) (w : Vec Ideal S1024x8192 .f32) (r : Fin 4096) (k : Fin 1024) (s : Fin 8) : EReal :=
  ∑ n : Fin 1024, p (ix3 s r n) * w (ix2 k ⟨grp s.val * 1024 + n.val, by have := grp_lt s.val s.isLt; omega⟩)

/-- The gradient at the normalised tokens, one row. -/
def hF (p : Vec Ideal S8x4096x1024 .bf16) (w : Vec Ideal S1024x8192 .f32) (r : Fin 4096) (k : Fin 1024) : EReal := ∑ s : Fin 8, slotT p w r k s

/-- One entry of the tokens' gradient. -/
def xF (p : Vec Ideal S8x4096x1024 .bf16) (w : Vec Ideal S1024x8192 .f32) (x d : Vec Ideal S4096x1024 .f32) (n : Vec Ideal S1x1024 .f32) (r : Fin 4096) (b : Fin 1024) : EReal :=
  d (ix2 r b) + dxK (fun k => x (ix2 r k)) (fun k => hF p w r k * n (ix2 0 k)) b

/-- One row's share of the gain's gradient. -/
def nT (p : Vec Ideal S8x4096x1024 .bf16) (w : Vec Ideal S1024x8192 .f32) (x : Vec Ideal S4096x1024 .f32) (b : Fin 1024) (r : Fin 4096) : EReal :=
  hF p w r b * (x (ix2 r b) * rr fun k => x (ix2 r k))

/-- One entry of the gain's gradient. -/
def nF (p : Vec Ideal S8x4096x1024 .bf16) (w : Vec Ideal S1024x8192 .f32) (x : Vec Ideal S4096x1024 .f32) (b : Fin 1024) : EReal :=
  ∑ r : Fin 4096, nT p w x b r

/-- A row of a tile, among all rows. -/
def row (t : Fin cfg0.N) (a : Fin 1024) : Fin 4096 := ⟨t.val / 8 * 1024 + a.val, by have : t.val < 32 := t.isLt; omega⟩

/-- What a point adds to the accumulator. -/
def part (c : Dev nD) (t : Fin cfg0.N) (j : S1024x1024.Idx) : EReal := slotT (aP m c) (aW m c) (row t (j 0)) (j 1) ⟨t.val % 8, by omega⟩

theorem add_pair (c : Dev nD) (t : Fin cfg0.N) (hs : 4 ≤ t.val % 8 ∧ t.val % 8 ≤ 5) (a b : Fin 1024) : add1 (iblk m c 0 t) (iblk m c 1 t) a b = part m c t (ix2 a b) :=
  Finset.sum_congr rfl fun n _ => congrArg₂ (· * ·) (blk0_at m c t a n _) (blk1_at m c t hs b n _)

theorem add_near (c : Dev nD) (t : Fin cfg0.N) (hs : t.val % 8 = 0 ∨ t.val % 8 = 3 ∨ t.val % 8 = 6 ∨ t.val % 8 = 7) (a b : Fin 1024) :
    add1 (iblk m c 0 t) (iblk m c 2 t) a b = part m c t (ix2 a b) :=
  Finset.sum_congr rfl fun n _ => congrArg₂ (· * ·) (blk0_at m c t a n _) (blk2_at m c t hs b n _)

theorem add_far (c : Dev nD) (t : Fin cfg0.N) (hs : 1 ≤ t.val % 8 ∧ t.val % 8 ≤ 2) (a b : Fin 1024) : add1 (iblk m c 0 t) (iblk m c 3 t) a b = part m c t (ix2 a b) :=
  Finset.sum_congr rfl fun n _ => congrArg₂ (· * ·) (blk0_at m c t a n _) (blk3_at m c t hs b n _)

/-- The accumulator after a tile's last slot: the gradient at the normalised tokens. -/
theorem acc_last (c : Dev nD) (t : Fin cfg0.N) (ht : t.val % 8 = 7) (a b : Fin 1024) :
    (outsAt0 m c t.val t.isLt).2.2 (ix2 a b) = hF (aP m c) (aW m c) (row t a) b := by
  rw [Pipeline.eq_sum_fin_of_reset_step_apply_of_flush (fun n h => (outsAt0 m c n h).2.2) 8 (fun _ => 0) (part m c)
    (fun t h j => by
      idx_vars j
      have h2 : ¬(4 ≤ t.val % 8 ∧ t.val % 8 ≤ 5) := by omega
      have h3 : t.val % 8 = 0 ∨ t.val % 8 = 3 ∨ t.val % 8 = 6 ∨ t.val % 8 = 7 := by omega
      have h4 : ¬(1 ≤ t.val % 8 ∧ t.val % 8 ≤ 2) := by omega
      have h5 : ¬t.val % 8 = 7 := by omega
      by_cases h0 : t.val % 32 = 0
      · rw [outsAt0_A m c t h0 h h2 h3 h4 h5]; frame_out; rw [near_at, acc_fill, add_near m c t h3]
      · rw [outsAt0_F m c t h0 h h2 h3 h4 h5]; frame_out; rw [near_at, acc_fill, add_near m c t h3])
    (fun t h j => by
      idx_vars j
      have h0 : ¬t.val % 32 = 0 := by omega
      by_cases h2 : 4 ≤ t.val % 8 ∧ t.val % 8 ≤ 5
      · rw [outsAt0_D m c t h0 h h2 (by omega) (by omega) (by omega)]; frame_out; rw [pair_at, add_pair m c t h2]; exact congrArg (· + part m c t (ix2 j0 j1)) (congrFun ((Memref.isWhole_whole cc0_scratch0).read_unread _) _)
      by_cases h4 : 1 ≤ t.val % 8 ∧ t.val % 8 ≤ 2
      · rw [outsAt0_B m c t h0 h h2 (by omega) h4 (by omega)]; frame_out; rw [far_at, add_far m c t h4]; exact congrArg (· + part m c t (ix2 j0 j1)) (congrFun ((Memref.isWhole_whole cc0_scratch0).read_unread _) _)
      have h3 : t.val % 8 = 0 ∨ t.val % 8 = 3 ∨ t.val % 8 = 6 ∨ t.val % 8 = 7 := by omega
      by_cases h5 : t.val % 8 = 7
      · rw [outsAt0_E m c t h0 h h2 h3 h4 h5]; frame_out; rw [near_at, add_near m c t h3]; exact congrArg (· + part m c t (ix2 j0 j1)) (congrFun ((Memref.isWhole_whole cc0_scratch0).read_unread _) _)
      · rw [outsAt0_C m c t h0 h h2 h3 h4 h5]; frame_out; rw [near_at, add_near m c t h3]; exact congrArg (· + part m c t (ix2 j0 j1)) (congrFun ((Memref.isWhole_whole cc0_scratch0).read_unread _) _))
    t ht (ix2 a b), zero_add]
  unfold hF
  refine Finset.sum_congr rfl fun s _ => ?_
  have hd : (8 * (t.val / 8) + s.val) / 8 = t.val / 8 := by omega
  have hm : (8 * (t.val / 8) + s.val) % 8 = s.val := by omega
  exact congrArg₂ (fun q z => slotT (aP m c) (aW m c) q b z) (Fin.ext (by show (8 * (t.val / 8) + s.val) / 8 * 1024 + a.val = _; rw [hd]; rfl)) (Fin.ext hm)

/-- A tile's last slot: what the point writes of the tokens' gradient, over what it leaves in the accumulator. -/
theorem out_last (c : Dev nD) (t : Fin cfg0.N) (h5 : t.val % 8 = 7) (a b : Fin 1024) :
    (outsAt0 m c t.val t.isLt).1 (ix2 a b) = k0_pay4 (F := Ideal) (outsAt0 m c t.val t.isLt).2.2 (iblk m c 4 t) (iblk m c 6 t) (iblk m c 5 t) (ix2 a b) := by
  rw [outsAt0_E m c t (by omega) (by omega) (by omega) (by omega) (by omega) h5]; frame_out

theorem gain_last (c : Dev nD) (t : Fin cfg0.N) (h5 : t.val % 8 = 7) (b : Fin 1024) :
    (outsAt0 m c t.val t.isLt).2.1 (ix2 0 b)
      = k0_pay5 (F := Ideal) (outsAt0 m c t.val t.isLt).2.2 (iblk m c 4 t) (outsAt0 m c (t.val - 1) (Nat.lt_of_le_of_lt (Nat.sub_le _ _) t.isLt)).2.1 (ix2 0 b) := by
  rw [outsAt0_E m c t (by omega) (by omega) (by omega) (by omega) (by omega) h5]; frame_out

theorem row_at (c : Dev nD) (t : Fin cfg0.N) (a : Fin 1024) :
    (fun k => (show Vec Ideal S1024x1024 .f32 from iblk m c 4 t) (ix2 a k)) = fun k => aX m c (ix2 (row t a) k) :=
  funext fun k => blk4_at m c t a k _

theorem xF_at (c : Dev nD) (t : Fin cfg0.N) (h5 : t.val % 8 = 7) (a b : Fin 1024) :
    (outsAt0 m c t.val t.isLt).1 (ix2 a b) = xF (aP m c) (aW m c) (aX m c) (aD m c) (aN m c) (row t a) b :=
  (out_last m c t h5 a b).trans ((dx_at _ _ _ _ a b).trans (congrArg₂ (· + ·) (blk5_at m c t a b _)
    (congrArg₂ (fun p q => dxK p q b) (row_at m c t a) (funext fun k => congrArg₂ (· * ·) (acc_last m c t h5 a k) (blk6_at m c t k)))))

/-- What a point adds to the gain's gradient: something only at a tile's last slot. -/
def gpart (c : Dev nD) (t : Fin cfg0.N) (j : S1x1024.Idx) : EReal :=
  if t.val % 8 = 7 then ∑ a : Fin 1024, nT (aP m c) (aW m c) (aX m c) (j 1) (row t a) else 0

theorem gain_all (c : Dev nD) (t : Fin cfg0.N) (ht : t.val + 1 = cfg0.N) (j : S1x1024.Idx) :
    (outsAt0 m c t.val t.isLt).2.1 j = ∑ p : Fin cfg0.N, gpart m c p j := by
  rw [Pipeline.eq_sum_fin_of_reset_step_apply_last (fun n h => (outsAt0 m c n h).2.1) 32 (fun _ => 0) (gpart m c)
    (fun t h j => by
      have h5 : ¬t.val % 8 = 7 := by omega
      unfold gpart
      rw [if_neg h5, outsAt0_A m c t h (by omega) (by omega) (by omega) (by omega) h5]; frame_out; rw [row_fill, add_zero])
    (fun t h j => by
      by_cases h5 : t.val % 8 = 7
      · idx_vars j
        obtain rfl : j0 = 0 := Subsingleton.elim _ _
        refine (gain_last m c t h5 j1).trans ((dg_at _ _ _ _).trans ?_)
        unfold gpart
        rw [if_pos h5]
        exact congrArg₂ (· + ·) rfl (Finset.sum_congr rfl fun a _ => congrArg₂ (· * ·) (acc_last m c t h5 a j1) (congrArg₂ (fun p q => p * rr q) (blk4_at m c t a j1 _) (row_at m c t a)))
      unfold gpart
      rw [if_neg h5, add_zero]
      by_cases h1 : t.val % 8 = 0
      · rw [outsAt0_F m c t h h1 (by omega) (by omega) (by omega) h5]; rfl
      by_cases h2 : 4 ≤ t.val % 8 ∧ t.val % 8 ≤ 5
      · rw [outsAt0_D m c t h h1 h2 (by omega) (by omega) h5]; rfl
      by_cases h4 : 1 ≤ t.val % 8 ∧ t.val % 8 ≤ 2
      · rw [outsAt0_B m c t h h1 h2 (by omega) h4 h5]; rfl
      · rw [outsAt0_C m c t h h1 h2 (by omega) h4 h5]; rfl)
    (le_of_eq N_0) t ht j, zero_add]

theorem sum_gparts (c : Dev nD) (b : Fin 1024) : ∑ p : Fin cfg0.N, gpart m c p (ix2 0 b) = nF (aP m c) (aW m c) (aX m c) b := by
  unfold nF
  refine (Fin.sum_univ_tiles 4 8 rfl (fun p : Fin 32 => gpart m c p (ix2 0 b))).trans (Eq.trans ?_ (Fin.sum_univ_tiles 4 1024 rfl (nT (aP m c) (aW m c) (aX m c) b)).symm)
  refine Finset.sum_congr rfl fun i _ => ?_
  rw [Finset.sum_eq_single (7 : Fin 8)]
  · refine (if_pos (by show (i.val * 8 + 7) % 8 = 7; omega)).trans (Finset.sum_congr rfl fun a _ => congrArg (nT _ _ _ b) (Fin.ext ?_))
    show (i.val * 8 + 7) / 8 * 1024 + a.val = i.val * 1024 + a.val
    omega
  · intro s _ hs
    refine if_neg ?_
    have : s.val ≠ 7 := fun h => hs (Fin.ext h)
    show ¬(i.val * 8 + s.val) % 8 = 7
    omega
  · exact fun h => absurd (Finset.mem_univ _) h

theorem final7 (c : Dev nD) : (dats m 0 c).arrAt 7 cfg0.N = fun i : S4096x1024.Idx => xF (aP m c) (aW m c) (aX m c) (aD m c) (aN m c) (i 0) (i 1) := by
  refine (dats m 0 c).arrAt_eq_of_covers 7 _ (by decide +kernel) fun t hf y => ?_
  have ht : t.val % 8 = 7 := by
    have := (flush0_7 t).mp hf
    omega
  blk_simp
  rw [after0_7]
  change S1024x1024.Idx at y
  idx_vars y
  refine (xF_at m c t ht y0 y1).trans ?_
  refine congrArg₂ (xF _ _ _ _ _) (Fin.ext ?_) (Fin.ext ?_) <;> blk_simp [idx t]
  rfl

theorem final8 (c : Dev nD) : (dats m 0 c).arrAt 8 cfg0.N = fun i : S1x1024.Idx => nF (aP m c) (aW m c) (aX m c) (i 1) := by
  refine (dats m 0 c).arrAt_eq_of_covers 8 _ (by decide +kernel) fun t hf y => ?_
  have ht32 : t.val < 32 := t.isLt
  have ht : t.val % 32 = 31 := by
    have := (flush0_8 t).mp hf
    omega
  blk_simp
  rw [after0_8]
  change S1x1024.Idx at y
  idx_vars y
  obtain rfl : y0 = 0 := Subsingleton.elim _ _
  refine (gain_all m c t (by show t.val + 1 = 32; omega) _).trans ((sum_gparts m c y1).trans ?_)
  refine congrArg (nF _ _ _) (Fin.ext ?_) <;> blk_simp [idx t]

end Cert.ProjBwdIdeal.Val

namespace Cert.Proof.ProjBwdAlg

open Idealize.ShloMosaic Idealize.ShloMosaic.TcCoe Idealize.ShloMosaic.Tactic Idealize.SL.Sem
open Cert.ProjBwdIdeal.Val Cert.Norm

section
open Cert.ProjBwdRefIdeal Cert.ProjBwdRefIdeal.Read
variable (x0 : Vec Ideal S8x4096x1024 .bf16) (x1 : Vec Ideal S1024x8192 .f32) (x2 x3 : Vec Ideal S4096x1024 .f32) (x4 : Vec Ideal S1x1024 .f32)

/-- The slot that holds a group of columns. -/
def slot (g : Fin 8) : Fin 8 := if h : g.val < 4 then ⟨g.val + 4, by omega⟩ else if g.val = 4 then 3 else ⟨g.val - 5, by omega⟩

theorem ref_group (g : Fin 8) (r : Fin 4096) (n : Fin 1024) : val_main_v3 (F := Ideal) x0 (ix3 g r n) = x0 (ix3 (slot g) r n) := by
  fin_cases g <;> pointwise [val_main_v3, val_main_v2, val_main_v1, val_main_v0] <;> rfl

theorem ref_col (g : Fin 8) (r : Fin 4096) (n : Fin 1024) (h : g.val * 1024 + n.val < 8192) :
    val_main_v24 (F := Ideal) x0 (ix2 r ⟨g.val * 1024 + n.val, h⟩) = x0 (ix3 (slot g) r n) := by
  rw [← ref_group x0 g r n]
  pointwise [val_main_v24, val_main_v23, val_main_v4]

/-- One group's share of an entry of the gradient at the normalised tokens. -/
def grpT (r : Fin 4096) (k : Fin 1024) (g : Fin 8) : EReal := ∑ n : Fin 1024, x0 (ix3 (slot g) r n) * x1 (ix2 k ⟨g.val * 1024 + n.val, by omega⟩)

theorem slot_grp (r : Fin 4096) (k : Fin 1024) (s : Fin 8) : slotT x0 x1 r k s = grpT x0 x1 r k ⟨grp s.val, grp_lt _ s.isLt⟩ := by fin_cases s <;> rfl

theorem ref_dh (r : Fin 4096) (k : Fin 1024) : val_main_v25 (F := Ideal) x0 x1 (ix2 r k) = hF x0 x1 r k := by
  have h : val_main_v25 (F := Ideal) x0 x1 (ix2 r k) = ∑ j : Fin 8192, val_main_v24 (F := Ideal) x0 (ix2 r j) * x1 (ix2 k j) := by
    pointwise [val_main_v25]
  have h' : val_main_v25 (F := Ideal) x0 x1 (ix2 r k) = ∑ g : Fin 8, grpT x0 x1 r k g :=
    (h.trans (Fin.sum_univ_tiles 8 1024 rfl _)).trans (Finset.sum_congr rfl fun g _ => Finset.sum_congr rfl fun n _ => congrArg (· * _) (ref_col x0 g r n _))
  rw [h']
  unfold hF
  simp only [slot_grp]
  rw [Fin.sum_univ_eight, Fin.sum_univ_eight]
  show _ = grpT x0 x1 r k 5 + grpT x0 x1 r k 6 + grpT x0 x1 r k 7 + grpT x0 x1 r k 4 + grpT x0 x1 r k 0 + grpT x0 x1 r k 1 + grpT x0 x1 r k 2 + grpT x0 x1 r k 3
  ac_rfl

theorem ref_ms (r : Fin 4096) (k : Fin 1) : val_main_v12 (F := Ideal) x2 (ix2 r k) = ms fun k => x2 (ix2 r k) := by
  unfold ms
  pointwise [val_main_v12, val_main_v11, val_main_cst_1, val_main_v10, val_main_v9, val_main_cst_0, val_main_v8, val_main_v7, val_main_cst, val_main_v6]

theorem ref_rr (r : Fin 4096) (k : Fin 1) : val_main_v13 (F := Ideal) x2 (ix2 r k) = rr fun k => x2 (ix2 r k) := by
  unfold rr
  rw [← ref_ms x2 r k]
  pointwise [val_main_v13]

theorem ref_D (r : Fin 4096) (k : Fin 1024) : val_main_v30 (F := Ideal) x0 x1 x4 (ix2 r k) = hF x0 x1 r k * x4 (ix2 0 k) := by
  rw [← ref_dh]
  pointwise [val_main_v30, val_main_v29, val_main_v19, val_main_v5]

theorem ref_t (r : Fin 4096) (k : Fin 1024) :
    val_main_v42 (F := Ideal) x0 x1 x2 x4 (ix2 r k) = tR (fun k => x2 (ix2 r k)) (fun k => hF x0 x1 r k * x4 (ix2 0 k)) := by
  unfold tR
  simp only [← ref_D, ← ref_rr x2 r 0, ← ref_ms x2 r 0]
  pointwise [val_main_v42, val_main_v41, val_main_cst_7, val_main_v40, val_main_v39, val_main_cst_6, val_main_v38, val_main_v34, val_main_v33, val_main_cst_5, val_main_v32,
    val_main_v16, val_main_v15, val_main_cst_2, val_main_v14]
  refine (Fin.sum_univ_one _).trans ?_
  simp only [ref_D]

theorem dx_eq : val_main_v46 (F := Ideal) x0 x1 x2 x3 x4 = fun i : S4096x1024.Idx => xF x0 x1 x2 x3 x4 (i 0) (i 1) := by
  funext y
  change S4096x1024.Idx at y
  idx_vars y
  change _ = xF x0 x1 x2 x3 x4 y0 y1
  unfold xF
  rw [add_dxK]
  simp only [← ref_t x0 x1 x2 x4 y0 y1, ← ref_rr x2 y0 0]
  pointwise [val_main_v46, val_main_v45, val_main_v44, val_main_v43, val_main_v37, val_main_v36, val_main_v35]
  rw [ref_D]

theorem dg_eq : val_main_v47 (F := Ideal) x0 x1 x2 = fun i : S1x1024.Idx => nF x0 x1 x2 (i 1) := by
  funext y
  change S1x1024.Idx at y
  idx_vars y
  change _ = nF x0 x1 x2 y1
  unfold nF nT
  simp only [← ref_dh, ← ref_rr x2 _ 0, mul_comm (val_main_v25 (F := Ideal) x0 x1 _)]
  pointwise [val_main_v47, val_main_v31, val_main_cst_4, val_main_v28, val_main_v27, val_main_cst_3, val_main_v26, val_main_v18, val_main_v17]
  exact Fin.sum_univ_one _

end

theorem algebraic : algebraic_ProjBwdIdeal_ProjBwdRefIdeal (hProjBwdIdeal := Cert.ProjBwdIdeal.Gen.facts) (hProjBwdRefIdeal := Cert.ProjBwdRefIdeal.Gen.facts) := fun m ρ m' ρ' _ ha =>
  ⟨fun c => (Cert.ProjBwdIdeal.Gen.dats m 0 c).arrAt 7 Cert.ProjBwdIdeal.cfg0.N, fun c => (Cert.ProjBwdIdeal.Gen.dats m 0 c).arrAt 8 Cert.ProjBwdIdeal.cfg0.N,
    Cert.ProjBwdIdeal.Value.run_blocks m ρ,
    (θ_run _ _ _).mono (fun _ h c => by
      obtain ⟨h0, h1, h2, h3, h4, h5⟩ := ha c
      refine ⟨(h c).1.trans ((Cert.ProjBwdRefIdeal.Read.val_main_v46_eq _ _).trans ?_), (h c).2.1.trans ?_, (h c).2.2⟩
      · rw [h0, h1, h2, h3, h4]; exact (dx_eq _ _ _ _ _).trans (final7 m c).symm
      · rw [h0, h1, h2]; exact (dg_eq _ _ _).trans (final8 m c).symm) (Cert.ProjBwdRefIdeal.Value.run m' ρ')⟩

theorem frameRef : quiescent_ProjBwdRefIdeal (hProjBwdRefIdeal := Cert.ProjBwdRefIdeal.Gen.facts) := fun m ρ _ =>
  (θ_run _ _ _).mono (fun r h => ⟨fun c => (h c).2.2, sem_eq_zero_of_no_sems (by decide) _⟩) (Cert.ProjBwdRefIdeal.Value.run m ρ)

end Cert.Proof.ProjBwdAlg
-- ==== Proof.ProjNearAlg.lean ====
module

public import proofs.«01_k».proof.Defs
public import proofs.«01_k».proof.Proof.Gen.ProjNear
public import proofs.«01_k».proof.Proof.Gen.ProjNear.Frame
public import proofs.«01_k».proof.Proof.Gen.ProjNearIdeal.Frame
public import proofs.«01_k».proof.Proof.Gen.ProjNearIdeal.Value
public import proofs.«01_k».proof.Proof.Gen.ProjNearRefIdeal.Run
public import proofs.«01_k».proof.Proof.Gen.ProjNearRefIdeal.Read
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The forward products of the input projections' slots 2 to 5, written in place. -/

namespace Cert.ProjNearIdeal.Val

open Idealize.ShloMosaic Idealize.ShloMosaic.TcCoe Idealize.ShloMosaic.Tactic Idealize.SL.Sem
open Cert.ProjNearIdeal Cert.ProjNearIdeal.Gen Cert.ProjNearIdeal.Value

variable (m : (ℓ : Loc nD τ sig) → Buf (Elt Ideal) ℓ)

/-- A point's tile: rows of tokens by one slot's columns of the weight. -/
theorem tile_at (x : Vec Ideal S2048x1024 .bf16) (w : Vec Ideal S1x1024x1024 .bf16) (a : Fin 2048) (b : Fin 1024) :
    k0_pay1 (F := Ideal) x w (ix3 0 a b) = ∑ k : Fin 1024, x (ix2 a k) * w (ix3 0 k b) := by
  pointwise [k0_pay1]

theorem idx : ∀ t : Fin cfg0.N, win0_0.index t = ![t.val / 4, 0] ∧ win0_1.index t = ![t.val % 4 + 2, 0, 0] ∧ win0_2.index t = ![t.val % 4 + 2, t.val / 4, 0] :=
  (by decide +kernel : ∀ t : Fin grid0.N, _)

/-- The three arguments. -/
abbrev aH (c : Dev nD) : Vec Ideal S4096x1024 .bf16 := m ((c : Thread nD τ).loc main_arg0)
abbrev aW (c : Dev nD) : Vec Ideal S1024x8192 .f32 := m ((c : Thread nD τ).loc main_arg1)
abbrev aP (c : Dev nD) : Vec Ideal S8x4096x1024 .bf16 := m ((c : Thread nD τ).loc main_arg2)

theorem VW_at (c : Dev nD) (g : Fin 8) (k b : Fin 1024) (h : g.val * 1024 + b.val < 8192) :
    (V m c main_v2 : Vec Ideal S8x1024x1024 .bf16) (ix3 g k b) = aW m c (ix2 k ⟨g.val * 1024 + b.val, h⟩) := by
  entry_read
  pointwise

theorem VP_at (c : Dev nD) : V m c main_v3 = m ((c : Thread nD τ).loc main_arg2) := by
  entry_read
  rfl

theorem blk0_at (c : Dev nD) (t : Fin cfg0.N) (r : Fin 2048) (k : Fin 1024) (h : t.val / 4 * 2048 + r.val < 4096) :
    (show Vec Ideal S2048x1024 .bf16 from iblk m c 0 t) (ix2 r k) = aH m c (ix2 ⟨t.val / 4 * 2048 + r.val, h⟩ k) := by
  unfold aH
  rw [← V_main_arg0 m c]
  blk_ext [iblk, idx t]

theorem blk1_at (c : Dev nD) (t : Fin cfg0.N) (k b : Fin 1024) (h : (t.val % 4 + 2) * 1024 + b.val < 8192) :
    (show Vec Ideal S1x1024x1024 .bf16 from iblk m c 1 t) (ix3 0 k b) = aW m c (ix2 k ⟨(t.val % 4 + 2) * 1024 + b.val, h⟩) := by
  have hg : t.val % 4 + 2 < 8 := by omega
  refine Eq.trans ?_ ((VW_at m c ⟨t.val % 4 + 2, hg⟩ k b (by show (t.val % 4 + 2) * 1024 + b.val < 8192; omega)).trans (congrArg (fun i => aW m c (ix2 k i)) (Fin.ext ?_)))
  · blk_ext [iblk, idx t]
  · rfl

/-- One entry of the projections: row `r` of the tokens by column `n` of slot `s`. -/
def pF (h : Vec Ideal S4096x1024 .bf16) (w : Vec Ideal S1024x8192 .f32) (s : Fin 8) (r : Fin 4096) (n : Fin 1024) : EReal :=
  ∑ k : Fin 1024, h (ix2 r k) * w (ix2 k ⟨s.val * 1024 + n.val, by omega⟩)

theorem pF_at (c : Dev nD) (t : Fin cfg0.N) (a : Fin 2048) (b : Fin 1024) (h : t.val / 4 * 2048 + a.val < 4096) (hs : t.val % 4 + 2 < 8) :
    k0_pay1 (F := Ideal) (iblk m c 0 t) (iblk m c 1 t) (ix3 0 a b) = pF (aH m c) (aW m c) ⟨t.val % 4 + 2, hs⟩ ⟨t.val / 4 * 2048 + a.val, h⟩ b :=
  (tile_at _ _ a b).trans (Finset.sum_congr rfl fun k _ => congrArg₂ (· * ·) (blk0_at m c t a k h) (blk1_at m c t k b _))

/-- The slots the call writes; the others keep what they held. -/
theorem final2 (c : Dev nD) : (dats m 0 c).arrAt 2 cfg0.N = fun i : S8x4096x1024.Idx =>
    if 2 ≤ (i 0).val ∧ (i 0).val < 6 then pF (aH m c) (aW m c) (i 0) (i 1) (i 2) else aP m c i := by
  show _ = fun i : S8x4096x1024.Idx => if 2 ≤ (i 0).val ∧ (i 0).val < 6 then pF (aH m c) (aW m c) (i 0) (i 1) (i 2) else m ((c : Thread nD τ).loc main_arg2) i
  rw [← VP_at m c]
  refine (dats m 0 c).arrAt_eq_of_coversWhere 2 _ (fun β => 2 ≤ β 0 ∧ β 0 < 6) (by decide +kernel) (fun t hf y => ?_)
    (fun j => by blk_simp [Pipeline.Window.cell_apply]; try omega)
  have ht : t.val < 8 := t.isLt
  blk_simp
  rw [after0_2]
  change S1x2048x1024.Idx at y
  idx_vars y
  obtain rfl : y0 = 0 := Subsingleton.elim _ _
  unfold outsAt0
  frame_out
  rw [pF_at m c t y1 y2 (by omega) (by omega)]
  refine congr (congrArg₂ (pF (aH m c) (aW m c)) (Fin.ext ?_) (Fin.ext ?_)) (Fin.ext ?_)
  · blk_simp [idx t]
    rfl
  · blk_simp [idx t]
  · blk_simp [idx t]

end Cert.ProjNearIdeal.Val

namespace Cert.Proof.ProjNearAlg

open Idealize.ShloMosaic Idealize.ShloMosaic.TcCoe Idealize.ShloMosaic.Tactic Idealize.SL.Sem
open Cert.ProjNearIdeal.Val

section
open Cert.ProjNearRefIdeal Cert.ProjNearRefIdeal.Read

theorem ref_eq (x0 : Vec Ideal S4096x1024 .bf16) (x1 : Vec Ideal S1024x8192 .f32) (x2 : Vec Ideal S8x4096x1024 .bf16) :
    val_main_v8 (F := Ideal) x0 x1 x2 = fun i : S8x4096x1024.Idx => if 2 ≤ (i 0).val ∧ (i 0).val < 6 then pF x0 x1 (i 0) (i 1) (i 2) else x2 i := by
  funext y
  change S8x4096x1024.Idx at y
  idx_vars y
  change _ = if 2 ≤ y0.val ∧ y0.val < 6 then pF x0 x1 y0 y1 y2 else x2 (ix3 y0 y1 y2)
  unfold pF
  fin_cases y0 <;> pointwise [val_main_v8, val_main_v7, val_main_v6, val_main_v5, val_main_v4, val_main_v3, val_main_v2, val_main_v1, val_main_v0] <;> first | rfl | exact Finset.sum_congr rfl fun k _ => congrArg (fun i => x0 (ix2 y1 k) * x1 (ix2 k i)) (Fin.ext (by simp only []; omega))

end

theorem algebraic : algebraic_ProjNearIdeal_ProjNearRefIdeal (hProjNearIdeal := Cert.ProjNearIdeal.Gen.facts) (hProjNearRefIdeal := Cert.ProjNearRefIdeal.Gen.facts) := fun m ρ m' ρ' _ ha =>
  ⟨fun c => (Cert.ProjNearIdeal.Gen.dats m 0 c).arrAt 2 Cert.ProjNearIdeal.cfg0.N,
    Cert.ProjNearIdeal.Value.run_blocks m ρ,
    (θ_run _ _ _).mono (fun _ h c => by
      obtain ⟨h0, h1, h2⟩ := ha c
      refine ⟨(h c).1.trans ?_, (h c).2⟩
      rw [h0, h1, h2]
      exact (ref_eq _ _ _).trans (final2 m c).symm) (Cert.ProjNearRefIdeal.Value.run m' ρ')⟩

theorem frameRef : quiescent_ProjNearRefIdeal (hProjNearRefIdeal := Cert.ProjNearRefIdeal.Gen.facts) := fun m ρ _ =>
  (θ_run _ _ _).mono (fun r h => ⟨fun c => (h c).2, sem_eq_zero_of_no_sems (by decide) _⟩) (Cert.ProjNearRefIdeal.Value.run m ρ)

end Cert.Proof.ProjNearAlg
-- ==== Proof.ProjFarAlg.lean ====
module

public import proofs.«01_k».proof.Defs
public import proofs.«01_k».proof.Proof.Gen.ProjFar
public import proofs.«01_k».proof.Proof.Gen.ProjFar.Frame
public import proofs.«01_k».proof.Proof.Gen.ProjFarIdeal.Frame
public import proofs.«01_k».proof.Proof.Gen.ProjFarIdeal.Value
public import proofs.«01_k».proof.Proof.Gen.ProjFarRefIdeal.Run
public import proofs.«01_k».proof.Proof.Gen.ProjFarRefIdeal.Read
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The forward products of the input projections' slots 6 to 7, written in place. -/

namespace Cert.ProjFarIdeal.Val

open Idealize.ShloMosaic Idealize.ShloMosaic.TcCoe Idealize.ShloMosaic.Tactic Idealize.SL.Sem
open Cert.ProjFarIdeal Cert.ProjFarIdeal.Gen Cert.ProjFarIdeal.Value

variable (m : (ℓ : Loc nD τ sig) → Buf (Elt Ideal) ℓ)

/-- A point's tile: rows of tokens by one slot's columns of the weight. -/
theorem tile_at (x : Vec Ideal S2048x1024 .bf16) (w : Vec Ideal S1x1024x1024 .bf16) (a : Fin 2048) (b : Fin 1024) :
    k0_pay1 (F := Ideal) x w (ix3 0 a b) = ∑ k : Fin 1024, x (ix2 a k) * w (ix3 0 k b) := by
  pointwise [k0_pay1]

theorem idx : ∀ t : Fin cfg0.N, win0_0.index t = ![t.val / 2, 0] ∧ win0_1.index t = ![t.val % 2 + 0, 0, 0] ∧ win0_2.index t = ![t.val % 2 + 6, t.val / 2, 0] :=
  (by decide +kernel : ∀ t : Fin grid0.N, _)

/-- The three arguments. -/
abbrev aH (c : Dev nD) : Vec Ideal S4096x1024 .bf16 := m ((c : Thread nD τ).loc main_arg0)
abbrev aW (c : Dev nD) : Vec Ideal S1024x8192 .f32 := m ((c : Thread nD τ).loc main_arg1)
abbrev aP (c : Dev nD) : Vec Ideal S8x4096x1024 .bf16 := m ((c : Thread nD τ).loc main_arg2)

theorem VW_at (c : Dev nD) (g : Fin 2) (k b : Fin 1024) (h : (6 + g.val) * 1024 + b.val < 8192) :
    (V m c main_v3 : Vec Ideal S2x1024x1024 .bf16) (ix3 g k b) = aW m c (ix2 k ⟨(6 + g.val) * 1024 + b.val, h⟩) := by
  entry_read
  pointwise

theorem VP_at (c : Dev nD) : V m c main_v4 = m ((c : Thread nD τ).loc main_arg2) := by
  entry_read
  rfl

theorem blk0_at (c : Dev nD) (t : Fin cfg0.N) (r : Fin 2048) (k : Fin 1024) (h : t.val / 2 * 2048 + r.val < 4096) :
    (show Vec Ideal S2048x1024 .bf16 from iblk m c 0 t) (ix2 r k) = aH m c (ix2 ⟨t.val / 2 * 2048 + r.val, h⟩ k) := by
  unfold aH
  rw [← V_main_arg0 m c]
  blk_ext [iblk, idx t]

theorem blk1_at (c : Dev nD) (t : Fin cfg0.N) (k b : Fin 1024) (h : (t.val % 2 + 6) * 1024 + b.val < 8192) :
    (show Vec Ideal S1x1024x1024 .bf16 from iblk m c 1 t) (ix3 0 k b) = aW m c (ix2 k ⟨(t.val % 2 + 6) * 1024 + b.val, h⟩) := by
  have hg : t.val % 2 + 0 < 2 := by omega
  refine Eq.trans ?_ ((VW_at m c ⟨t.val % 2 + 0, hg⟩ k b (by show (6 + (t.val % 2 + 0)) * 1024 + b.val < 8192; omega)).trans (congrArg (fun i => aW m c (ix2 k i)) (Fin.ext ?_)))
  · blk_ext [iblk, idx t]
  · show (6 + (t.val % 2 + 0)) * 1024 + b.val = (t.val % 2 + 6) * 1024 + b.val; omega

/-- One entry of the projections: row `r` of the tokens by column `n` of slot `s`. -/
def pF (h : Vec Ideal S4096x1024 .bf16) (w : Vec Ideal S1024x8192 .f32) (s : Fin 8) (r : Fin 4096) (n : Fin 1024) : EReal :=
  ∑ k : Fin 1024, h (ix2 r k) * w (ix2 k ⟨s.val * 1024 + n.val, by omega⟩)

theorem pF_at (c : Dev nD) (t : Fin cfg0.N) (a : Fin 2048) (b : Fin 1024) (h : t.val / 2 * 2048 + a.val < 4096) (hs : t.val % 2 + 6 < 8) :
    k0_pay1 (F := Ideal) (iblk m c 0 t) (iblk m c 1 t) (ix3 0 a b) = pF (aH m c) (aW m c) ⟨t.val % 2 + 6, hs⟩ ⟨t.val / 2 * 2048 + a.val, h⟩ b :=
  (tile_at _ _ a b).trans (Finset.sum_congr rfl fun k _ => congrArg₂ (· * ·) (blk0_at m c t a k h) (blk1_at m c t k b _))

/-- The slots the call writes; the others keep what they held. -/
theorem final2 (c : Dev nD) : (dats m 0 c).arrAt 2 cfg0.N = fun i : S8x4096x1024.Idx =>
    if 6 ≤ (i 0).val then pF (aH m c) (aW m c) (i 0) (i 1) (i 2) else aP m c i := by
  show _ = fun i : S8x4096x1024.Idx => if 6 ≤ (i 0).val then pF (aH m c) (aW m c) (i 0) (i 1) (i 2) else m ((c : Thread nD τ).loc main_arg2) i
  rw [← VP_at m c]
  refine (dats m 0 c).arrAt_eq_of_coversWhere 2 _ (fun β => 6 ≤ β 0) (by decide +kernel) (fun t hf y => ?_)
    (fun j => by blk_simp [Pipeline.Window.cell_apply]; try omega)
  have ht : t.val < 4 := t.isLt
  blk_simp
  rw [after0_2]
  change S1x2048x1024.Idx at y
  idx_vars y
  obtain rfl : y0 = 0 := Subsingleton.elim _ _
  unfold outsAt0
  frame_out
  rw [pF_at m c t y1 y2 (by omega) (by omega)]
  refine congr (congrArg₂ (pF (aH m c) (aW m c)) (Fin.ext ?_) (Fin.ext ?_)) (Fin.ext ?_)
  · blk_simp [idx t]
    rfl
  · blk_simp [idx t]
  · blk_simp [idx t]

end Cert.ProjFarIdeal.Val

namespace Cert.Proof.ProjFarAlg

open Idealize.ShloMosaic Idealize.ShloMosaic.TcCoe Idealize.ShloMosaic.Tactic Idealize.SL.Sem
open Cert.ProjFarIdeal.Val

section
open Cert.ProjFarRefIdeal Cert.ProjFarRefIdeal.Read

theorem ref_eq (x0 : Vec Ideal S4096x1024 .bf16) (x1 : Vec Ideal S1024x8192 .f32) (x2 : Vec Ideal S8x4096x1024 .bf16) :
    val_main_v7 (F := Ideal) x0 x1 x2 = fun i : S8x4096x1024.Idx => if 6 ≤ (i 0).val then pF x0 x1 (i 0) (i 1) (i 2) else x2 i := by
  funext y
  change S8x4096x1024.Idx at y
  idx_vars y
  change _ = if 6 ≤ y0.val then pF x0 x1 y0 y1 y2 else x2 (ix3 y0 y1 y2)
  unfold pF
  fin_cases y0 <;> pointwise [val_main_v7, val_main_v6, val_main_v5, val_main_v4, val_main_v3, val_main_v2, val_main_v1, val_main_v0] <;> first | rfl | exact Finset.sum_congr rfl fun k _ => congrArg (fun i => x0 (ix2 y1 k) * x1 (ix2 k i)) (Fin.ext (by simp only []; omega))

end

theorem algebraic : algebraic_ProjFarIdeal_ProjFarRefIdeal (hProjFarIdeal := Cert.ProjFarIdeal.Gen.facts) (hProjFarRefIdeal := Cert.ProjFarRefIdeal.Gen.facts) := fun m ρ m' ρ' _ ha =>
  ⟨fun c => (Cert.ProjFarIdeal.Gen.dats m 0 c).arrAt 2 Cert.ProjFarIdeal.cfg0.N,
    Cert.ProjFarIdeal.Value.run_blocks m ρ,
    (θ_run _ _ _).mono (fun _ h c => by
      obtain ⟨h0, h1, h2⟩ := ha c
      refine ⟨(h c).1.trans ?_, (h c).2⟩
      rw [h0, h1, h2]
      exact (ref_eq _ _ _).trans (final2 m c).symm) (Cert.ProjFarRefIdeal.Value.run m' ρ')⟩

theorem frameRef : quiescent_ProjFarRefIdeal (hProjFarRefIdeal := Cert.ProjFarRefIdeal.Gen.facts) := fun m ρ _ =>
  (θ_run _ _ _).mono (fun r h => ⟨fun c => (h c).2, sem_eq_zero_of_no_sems (by decide) _⟩) (Cert.ProjFarRefIdeal.Value.run m ρ)

end Cert.Proof.ProjFarAlg
-- ==== Proof.FfnLossAlg.lean ====
module

public import proofs.«01_k».proof.Defs
public import proofs.«01_k».proof.Proof.Gen.FfnLoss
public import proofs.«01_k».proof.Proof.Gen.FfnLoss.Frame
public import proofs.«01_k».proof.Proof.Gen.FfnLossIdeal.Frame
public import proofs.«01_k».proof.Proof.Gen.FfnLossIdeal.Value
public import proofs.«01_k».proof.Proof.Gen.FfnLossRefIdeal.Run
public import proofs.«01_k».proof.Proof.Gen.FfnLossRefIdeal.Read
public import proofs.«01_k».proof.Proof.NormBwd
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The last residual, the final norm and the loss, with the loss's gradient. -/

namespace Cert.Loss

open Idealize.ShloMosaic Cert.Norm

/-- One half, two, and the reciprocal of the row's length, as written. -/
abbrev ch5 : EReal := Ideal.ofBits .f32 0x3F000000#32
abbrev c2 : EReal := Ideal.ofBits .f32 0x40000000#32
abbrev cm : EReal := Ideal.ofBits .f32 0x3A800000#32

theorem ch5_eq : ch5 = ((1 / 2 : ℝ) : EReal) := by
  simp [ch5, Ideal.ofBits, Ideal.ieee, -EReal.coe_mul]
  norm_num

theorem c2_eq : c2 = ((2 : ℝ) : EReal) := by
  simp [c2, Ideal.ofBits, Ideal.ieee, -EReal.coe_mul]
  norm_num

theorem cm_eq : cm = ((1 / 1024 : ℝ) : EReal) := by
  simp [cm, Ideal.ofBits, Ideal.ieee, -EReal.coe_mul]
  norm_num

/-- The chain rule's factor of the squared error's mean is the reciprocal of the length. -/
theorem ct_eq (e : EReal) : Ideal.div ch5 cn * (c2 * e) = e * cm := by
  rw [cn_eq, Ideal.div_coe (by norm_num), ch5_eq, c2_eq, cm_eq, ← mul_assoc, ← EReal.coe_mul, ← EReal.coe_mul, mul_comm e]
  refine congrArg (fun z : ℝ => (z : EReal) * e) ?_
  norm_num

/-- The error of one entry of a normalised row. -/
def er (x g t : Fin 1024 → EReal) (k : Fin 1024) : EReal := x k * rr x * g k - t k

/-- The mean squared error of a row. -/
def mse (e : Fin 1024 → EReal) : EReal := Ideal.div (∑ k, e k * e k) cn

end Cert.Loss

namespace Cert.FfnLossIdeal.Val

open Idealize.ShloMosaic Idealize.ShloMosaic.TcCoe Idealize.ShloMosaic.Tactic Idealize.SL.Sem
open Cert.FfnLossIdeal Cert.FfnLossIdeal.Gen Cert.FfnLossIdeal.Value Cert.Norm Cert.Loss

variable (m : (ℓ : Loc nD τ sig) → Buf (Elt Ideal) ℓ)

section
variable (v3 v22 : Vec Ideal S512x1024 .f32) (v4 : Vec Ideal S512x2816 .bf16) (v5 : Vec Ideal S2816x1024 .bf16) (v9 s : Vec Ideal S1x1024 .f32) (s8 : Vec Ideal S8x1024 .f32)
  (x e : FVec Ideal S512x1024 .f32)

theorem x2_at (a : Fin 512) (b : Fin 1024) :
    k0_pay9 (F := Ideal) v3 v4 v5 (ix2 a b) = v3 (ix2 a b) + ∑ j : Fin 2816, v4 (ix2 a j) * v5 (ix2 j b) := by
  pointwise [k0_pay9]

theorem er_at (a : Fin 512) (b : Fin 1024) :
    k0_pay10 (F := Ideal) v3 v4 v5 v9 v22 (ix2 a b)
      = er (fun k => k0_pay9 (F := Ideal) v3 v4 v5 (ix2 a k)) (fun k => v9 (ix2 0 k)) (fun k => v22 (ix2 a k)) b := by
  unfold er rr ms
  pointwise [k0_pay10]

theorem rr_at (a : Fin 512) (b : Fin 1) : k0_pay3 (F := Ideal) x (ix2 a b) = rr fun k => x (ix2 a k) := by
  unfold rr ms
  pointwise [k0_pay3]

theorem dx_at (a : Fin 512) (b : Fin 1024) :
    k0_pay5 (F := Ideal) x v9 e (ix2 a b) = dxK (fun k => x (ix2 a k)) (fun k => e (ix2 a k) * cm * v9 (ix2 0 k)) b := by
  unfold dxK
  simp only [← rr_at x _ 0]
  pointwise [k0_pay5, k0_pay4, k0_pay2]

theorem dg_at (b : Fin 1024) :
    k0_pay6 (F := Ideal) x e s (ix2 0 b) = s (ix2 0 b) + ∑ a : Fin 512, e (ix2 a b) * cm * (x (ix2 a b) * rr fun k => x (ix2 a k)) := by
  simp only [← rr_at x _ 0]
  pointwise [k0_pay6, k0_pay4, k0_pay2]

theorem loss_at (i : Fin 8) (b : Fin 1024) :
    k0_pay1 (F := Ideal) (k0_pay11 s8) (k0_pay12 v3 v4 v5 v9 v22) (ix2 i b)
      = s8 (ix2 i b) + ch5 * ∑ a : Fin 512, mse fun k => k0_pay10 (F := Ideal) v3 v4 v5 v9 v22 (ix2 a k) := by
  unfold mse
  pointwise [k0_pay1, k0_pay11, k0_pay12]
  exact congrArg (fun z => s8 (ix2 i b) + ch5 * z) (Finset.sum_congr rfl fun _ _ => Fin.sum_univ_one _)

theorem fill8_at (j : S8x1024.Idx) : k0_pay7 (F := Ideal) j = 0 := by pointwise [k0_pay7]; try rfl

theorem fill_at (j : S1x1024.Idx) : k0_pay8 (F := Ideal) j = 0 := by pointwise [k0_pay8]; try rfl
end

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] ∧ win0_7.index t = ![0, 0] :=
  (by decide +kernel : ∀ t : Fin grid0.N, _)

/-- The five arguments. -/
abbrev aA (c : Dev nD) : Vec Ideal S4096x2816 .bf16 := m ((c : Thread nD τ).loc main_arg0)
abbrev aW (c : Dev nD) : Vec Ideal S2816x1024 .f32 := m ((c : Thread nD τ).loc main_arg1)
abbrev aX (c : Dev nD) : Vec Ideal S4096x1024 .f32 := m ((c : Thread nD τ).loc main_arg2)
abbrev aT (c : Dev nD) : Vec Ideal S4096x1024 .f32 := m ((c : Thread nD τ).loc main_arg3)
abbrev aN (c : Dev nD) : Vec Ideal S1x1024 .f32 := m ((c : Thread nD τ).loc main_arg4)

theorem VW_at (c : Dev nD) (r k) : (V m c main_v0 : Vec Ideal S2816x1024 .bf16) (ix2 r k) = aW m c (ix2 r k) := by
  entry_read
  pointwise

theorem blk0_at (c : Dev nD) (t : Fin cfg0.N) (r : Fin 512) (k : Fin 2816) (h : t.val * 512 + r.val < 4096) :
    (show Vec Ideal S512x2816 .bf16 from iblk m c 0 t) (ix2 r k) = aA m c (ix2 ⟨t.val * 512 + r.val, h⟩ k) := by
  unfold aA
  rw [← V_main_arg0 m c]
  blk_ext [iblk, idx t]

theorem blk1_at (c : Dev nD) (t : Fin cfg0.N) (r : Fin 2816) (k : Fin 1024) :
    (show Vec Ideal S2816x1024 .bf16 from iblk m c 1 t) (ix2 r k) = aW m c (ix2 r k) := by
  rw [← VW_at]
  blk_ext [iblk, idx t]

theorem blk2_at (c : Dev nD) (t : Fin cfg0.N) (r : Fin 512) (k : Fin 1024) (h : t.val * 512 + r.val < 4096) :
    (show Vec Ideal S512x1024 .f32 from iblk m c 2 t) (ix2 r k) = aX m c (ix2 ⟨t.val * 512 + r.val, h⟩ k) := by
  unfold aX
  rw [← V_main_arg2 m c]
  blk_ext [iblk, idx t]

theorem blk3_at (c : Dev nD) (t : Fin cfg0.N) (r : Fin 512) (k : Fin 1024) (h : t.val * 512 + r.val < 4096) :
    (show Vec Ideal S512x1024 .f32 from iblk m c 3 t) (ix2 r k) = aT m c (ix2 ⟨t.val * 512 + r.val, h⟩ k) := by
  unfold aT
  rw [← V_main_arg3 m c]
  blk_ext [iblk, idx t]

theorem blk4_at (c : Dev nD) (t : Fin cfg0.N) (k : Fin 1024) :
    (show Vec Ideal S1x1024 .f32 from iblk m c 4 t) (ix2 0 k) = aN m c (ix2 0 k) := by
  unfold aN
  rw [← V_main_arg4 m c]
  blk_ext [iblk, idx t]

section
variable (p : Vec Ideal S4096x2816 .bf16) (w : Vec Ideal S2816x1024 .f32) (x y : Vec Ideal S4096x1024 .f32) (n : Vec Ideal S1x1024 .f32)

/-- One row of the last residual. -/
def xR (r : Fin 4096) (k : Fin 1024) : EReal := x (ix2 r k) + ∑ j : Fin 2816, p (ix2 r j) * w (ix2 j k)

/-- One row of errors. -/
def eR (r : Fin 4096) : Fin 1024 → EReal := er (xR p w x r) (fun k => n (ix2 0 k)) (fun k => y (ix2 r k))

/-- One entry of the residual's gradient. -/
def dF (r : Fin 4096) (b : Fin 1024) : EReal := dxK (xR p w x r) (fun k => eR p w x y n r k * cm * n (ix2 0 k)) b

/-- One row's share of the gain's gradient. -/
def nT (b : Fin 1024) (r : Fin 4096) : EReal := eR p w x y n r b * cm * (xR p w x r b * rr (xR p w x r))

/-- One entry of the gain's gradient. -/
def nF (b : Fin 1024) : EReal := ∑ r : Fin 4096, nT p w x y n b r

/-- The loss. -/
def lF : EReal := ch5 * ∑ r : Fin 4096, mse (eR p w x y n r)
end

/-- A tile's residual and its errors. -/
abbrev bX (c : Dev nD) (t : Fin cfg0.N) : FVec Ideal S512x1024 .f32 := k0_pay9 (iblk m c 2 t) (iblk m c 0 t) (iblk m c 1 t)
abbrev bE (c : Dev nD) (t : Fin cfg0.N) : FVec Ideal S512x1024 .f32 := k0_pay10 (iblk m c 2 t) (iblk m c 0 t) (iblk m c 1 t) (iblk m c 4 t) (iblk m c 3 t)

theorem bX_at (c : Dev nD) (t : Fin cfg0.N) (a : Fin 512) (h : t.val * 512 + a.val < 4096) :
    (fun k => bX m c t (ix2 a k)) = xR (aA m c) (aW m c) (aX m c) ⟨t.val * 512 + a.val, h⟩ :=
  funext fun k => (x2_at _ _ _ a k).trans (congrArg₂ (· + ·) (blk2_at m c t a k h)
    (Finset.sum_congr rfl fun j _ => congrArg₂ (· * ·) (blk0_at m c t a j h) (blk1_at m c t j k)))

theorem bE_at (c : Dev nD) (t : Fin cfg0.N) (a : Fin 512) (h : t.val * 512 + a.val < 4096) :
    (fun k => bE m c t (ix2 a k)) = eR (aA m c) (aW m c) (aX m c) (aT m c) (aN m c) ⟨t.val * 512 + a.val, h⟩ :=
  funext fun k => (er_at _ _ _ _ _ a k).trans (congrFun (congr (congrArg₂ er (bX_at m c t a h) (funext fun k => blk4_at m c t k)) (funext fun k => blk3_at m c t a k h)) k)

theorem dF_at (c : Dev nD) (t : Fin cfg0.N) (a : Fin 512) (b : Fin 1024) (h : t.val * 512 + a.val < 4096) :
    k0_pay5 (F := Ideal) (bX m c t) (iblk m c 4 t) (bE m c t) (ix2 a b) = dF (aA m c) (aW m c) (aX m c) (aT m c) (aN m c) ⟨t.val * 512 + a.val, h⟩ b :=
  (dx_at _ _ _ a b).trans (congrArg₂ (fun p q => dxK p q b) (bX_at m c t a h)
    (funext fun k => congrArg₂ (fun p q => p * cm * q) (congrFun (bE_at m c t a h) k) (blk4_at m c t k)))

/-- A tile's share of the loss. -/
def lpart (c : Dev nD) (t : Fin cfg0.N) (_ : S8x1024.Idx) : EReal := ch5 * ∑ a : Fin 512, mse fun k => bE m c t (ix2 a k)

/-- A tile's share of the gain's gradient. -/
def part (c : Dev nD) (t : Fin cfg0.N) (j : S1x1024.Idx) : EReal :=
  ∑ a : Fin 512, bE m c t (ix2 a (j 1)) * cm * (bX m c t (ix2 a (j 1)) * rr fun k => bX m c t (ix2 a k))

theorem sum_lparts (c : Dev nD) (j : S8x1024.Idx) : ∑ p : Fin cfg0.N, lpart m c p j = lF (aA m c) (aW m c) (aX m c) (aT m c) (aN m c) := by
  unfold lF lpart
  rw [Fin.sum_univ_tiles 8 512 rfl, ch5_eq, mul_comm, ← sum_mul_coe _ _ (by norm_num)]
  refine Finset.sum_congr rfl fun t _ => ?_
  rw [mul_comm]
  refine congrArg (· * _) (Finset.sum_congr rfl fun a _ => ?_)
  have ht : t.val < 8 := t.isLt
  exact congrArg mse (bE_at m c t a (by omega))

theorem sum_parts (c : Dev nD) (b : Fin 1024) : ∑ p : Fin cfg0.N, part m c p (ix2 0 b) = nF (aA m c) (aW m c) (aX m c) (aT m c) (aN m c) b := by
  unfold nF part
  refine Eq.trans ?_ (Fin.sum_univ_tiles 8 512 rfl (nT (aA m c) (aW m c) (aX m c) (aT m c) (aN m c) b)).symm
  refine Finset.sum_congr rfl fun t _ => Finset.sum_congr rfl fun a _ => ?_
  have ht : t.val < 8 := t.isLt
  have h : t.val * 512 + a.val < 4096 := by omega
  exact congrArg₂ (fun p q => p * cm * q) (congrFun (bE_at m c t a h) b) (congrArg₂ (fun p q => p * rr q) (congrFun (bX_at m c t a h) b) (bX_at m c t a h))

theorem loss_last (c : Dev nD) (t : Fin cfg0.N) (ht : t.val + 1 = cfg0.N) (j : S8x1024.Idx) :
    (outsAt0 m c t.val t.isLt).2.1 j = ∑ p : Fin cfg0.N, lpart m c p j := by
  rw [Pipeline.eq_sum_fin_of_reset_step_apply_last (fun n h => (outsAt0 m c n h).2.1) 8 (fun _ => 0) (lpart m c)
    (fun t h j => by
      idx_vars j
      rw [outsAt0_A m c t h]; frame_out; rw [loss_at, fill8_at]; rfl)
    (fun t h j => by
      idx_vars j
      rw [outsAt0_B m c t h]; frame_out; rw [loss_at]
      rfl)
    (le_of_eq N_0) t ht j, zero_add]

theorem acc_last (c : Dev nD) (t : Fin cfg0.N) (ht : t.val + 1 = cfg0.N) (j : S1x1024.Idx) :
    (outsAt0 m c t.val t.isLt).2.2 j = ∑ p : Fin cfg0.N, part m c p j := by
  rw [Pipeline.eq_sum_fin_of_reset_step_apply_last (fun n h => (outsAt0 m c n h).2.2) 8 (fun _ => 0) (part m c)
    (fun t h j => by
      idx_vars j
      obtain rfl : j0 = 0 := Subsingleton.elim _ _
      rw [outsAt0_A m c t h]; frame_out; rw [dg_at, fill_at]; rfl)
    (fun t h j => by
      idx_vars j
      obtain rfl : j0 = 0 := Subsingleton.elim _ _
      rw [outsAt0_B m c t h]; frame_out; rw [dg_at]
      rfl)
    (le_of_eq N_0) t ht j, zero_add]

/-- What a point leaves of the residual's gradient, in either case. -/
theorem out5 (c : Dev nD) (t : Fin cfg0.N) (y : S512x1024.Idx) :
    (outsAt0 m c t.val t.isLt).1 y = k0_pay5 (F := Ideal) (bX m c t) (iblk m c 4 t) (bE m c t) y := by
  by_cases h : t.val % 8 = 0
  · rw [outsAt0_A m c t h]; frame_out
  · rw [outsAt0_B m c t h]; frame_out

theorem final5 (c : Dev nD) : (dats m 0 c).arrAt 5 cfg0.N = fun i : S4096x1024.Idx => dF (aA m c) (aW m c) (aX m c) (aT m c) (aN m c) (i 0) (i 1) := by
  refine (dats m 0 c).arrAt_eq_of_covers 5 _ (by decide +kernel) fun t hf y => ?_
  have ht : t.val < 8 := t.isLt
  blk_simp
  rw [after0_5]
  change S512x1024.Idx at y
  idx_vars y
  refine (out5 m c t _).trans ((dF_at m c t y0 y1 (by omega)).trans ?_)
  refine congrArg₂ (dF _ _ _ _ _) (Fin.ext ?_) (Fin.ext ?_) <;> blk_simp [idx t]

theorem final6 (c : Dev nD) : (dats m 0 c).arrAt 6 cfg0.N = fun _ : S8x1024.Idx => lF (aA m c) (aW m c) (aX m c) (aT m c) (aN m c) := by
  refine (dats m 0 c).arrAt_eq_of_covers 6 _ (by decide +kernel) fun t hf y => ?_
  have ht8 : t.val < 8 := t.isLt
  have ht : t.val % 8 = 7 := by
    have := (flush0_6 t).mp hf
    omega
  blk_simp
  rw [after0_6]
  change S8x1024.Idx at y
  idx_vars y
  exact (loss_last m c t (by show t.val + 1 = 8; omega) _).trans (sum_lparts m c _)

theorem final7 (c : Dev nD) : (dats m 0 c).arrAt 7 cfg0.N = fun i : S1x1024.Idx => nF (aA m c) (aW m c) (aX m c) (aT m c) (aN m c) (i 1) := by
  refine (dats m 0 c).arrAt_eq_of_covers 7 _ (by decide +kernel) fun t hf y => ?_
  have ht8 : t.val < 8 := t.isLt
  have ht : t.val % 8 = 7 := by
    have := (flush0_7 t).mp hf
    omega
  blk_simp
  rw [after0_7]
  change S1x1024.Idx at y
  idx_vars y
  obtain rfl : y0 = 0 := Subsingleton.elim _ _
  refine (acc_last m c t (by show t.val + 1 = 8; omega) _).trans ((sum_parts m c y1).trans ?_)
  refine congrArg (nF _ _ _ _ _) (Fin.ext ?_) <;> blk_simp [idx t]

end Cert.FfnLossIdeal.Val

namespace Cert.Proof.FfnLossAlg

open Idealize.ShloMosaic Idealize.ShloMosaic.TcCoe Idealize.ShloMosaic.Tactic Idealize.SL.Sem
open Cert.FfnLossIdeal.Val Cert.Norm Cert.Loss

section
open Cert.FfnLossRefIdeal Cert.FfnLossRefIdeal.Read
variable (x0 : Vec Ideal S4096x2816 .bf16) (x1 : Vec Ideal S2816x1024 .f32) (x2 x3 : Vec Ideal S4096x1024 .f32) (x4 : Vec Ideal S1x1024 .f32)

theorem ref_x (r : Fin 4096) (k : Fin 1024) : val_main_v2 (F := Ideal) x0 x1 x2 (ix2 r k) = xR x0 x1 x2 r k := by
  unfold xR
  pointwise [val_main_v2, val_main_v1, val_main_v0]

theorem ref_ms (r : Fin 4096) (k : Fin 1) : val_main_v10 (F := Ideal) x0 x1 x2 (ix2 r k) = ms (xR x0 x1 x2 r) := by
  unfold ms
  simp only [← ref_x]
  pointwise [val_main_v10, val_main_v9, val_main_cst_1, val_main_v8, val_main_v7, val_main_cst_0, val_main_v6, val_main_v5, val_main_cst, val_main_v4]

theorem ref_rr (r : Fin 4096) (k : Fin 1) : val_main_v11 (F := Ideal) x0 x1 x2 (ix2 r k) = rr (xR x0 x1 x2 r) := by
  unfold rr
  rw [← ref_ms x0 x1 x2 r k]
  pointwise [val_main_v11]

theorem ref_er (r : Fin 4096) (k : Fin 1024) : val_main_v20 (F := Ideal) x0 x1 x2 x3 x4 (ix2 r k) = eR x0 x1 x2 x3 x4 r k := by
  unfold eR er
  simp only [← ref_rr x0 x1 x2 r 0, ← ref_x]
  pointwise [val_main_v20, val_main_v19, val_main_v18, val_main_v17, val_main_v16, val_main_v15, val_main_v3]

theorem ref_ct (r : Fin 4096) (k : Fin 1024) : val_main_v34 (F := Ideal) x0 x1 x2 x3 x4 (ix2 r k) = eR x0 x1 x2 x3 x4 r k * cm := by
  rw [← ct_eq, ← ref_er]
  pointwise [val_main_v34, val_main_v33, val_main_v32, val_main_v31, val_main_cst_10, val_main_v30, val_main_v29, val_main_cst_9, val_main_cst_8, val_main_v23,
    val_main_v22, val_main_cst_3]

theorem ref_D (r : Fin 4096) (k : Fin 1024) : val_main_v39 (F := Ideal) x0 x1 x2 x3 x4 (ix2 r k) = eR x0 x1 x2 x3 x4 r k * cm * x4 (ix2 0 k) := by
  rw [← ref_ct]
  pointwise [val_main_v39, val_main_v38, val_main_v17, val_main_v3]

theorem ref_t (r : Fin 4096) (k : Fin 1024) :
    val_main_v50 (F := Ideal) x0 x1 x2 x3 x4 (ix2 r k) = tR (xR x0 x1 x2 r) (fun k => eR x0 x1 x2 x3 x4 r k * cm * x4 (ix2 0 k)) := by
  unfold tR
  simp only [← ref_D, ← ref_rr x0 x1 x2 r 0, ← ref_ms x0 x1 x2 r 0, ← ref_x]
  pointwise [val_main_v50, val_main_v49, val_main_cst_15, val_main_v48, val_main_v47, val_main_cst_14, val_main_v46, val_main_v43, val_main_v42, val_main_cst_13, val_main_v41,
    val_main_v14, val_main_v13, val_main_cst_2, val_main_v12]
  refine (Fin.sum_univ_one _).trans ?_
  simp only [ref_D]

theorem dx_eq : val_main_v54 (F := Ideal) x0 x1 x2 x3 x4 = fun i : S4096x1024.Idx => dF x0 x1 x2 x3 x4 (i 0) (i 1) := by
  funext y
  change S4096x1024.Idx at y
  idx_vars y
  change _ = dF x0 x1 x2 x3 x4 y0 y1
  unfold dF
  rw [dxK_eq, ← add_assoc]
  simp only [← ref_t x0 x1 x2 x3 x4 y0 y1, ← ref_rr x0 x1 x2 y0 0, ← ref_x]
  pointwise [val_main_v54, val_main_v53, val_main_v52, val_main_v51, val_main_v45, val_main_v44]
  rw [ref_D]

theorem loss_eq : val_main_v55 (F := Ideal) x0 x1 x2 x3 x4 = fun _ : S8x1024.Idx => lF x0 x1 x2 x3 x4 := by
  funext y
  change S8x1024.Idx at y
  idx_vars y
  unfold lF mse
  simp only [← ref_er]
  pointwise [val_main_v55, val_main_v28, val_main_cst_7, val_main_v27, val_main_cst_6, val_main_v26, val_main_v25, val_main_cst_5, val_main_v24, val_main_cst_4, val_main_v21]

theorem dg_eq : val_main_v56 (F := Ideal) x0 x1 x2 x3 x4 = fun i : S1x1024.Idx => nF x0 x1 x2 x3 x4 (i 1) := by
  funext y
  change S1x1024.Idx at y
  idx_vars y
  change _ = nF x0 x1 x2 x3 x4 y1
  unfold nF nT
  simp only [← ref_ct, ← ref_rr x0 x1 x2 _ 0, ← ref_x, mul_comm (val_main_v34 (F := Ideal) x0 x1 x2 x3 x4 _)]
  pointwise [val_main_v56, val_main_cst_12, val_main_v40, val_main_v37, val_main_v36, val_main_cst_11, val_main_v35, val_main_v16, val_main_v15]
  exact Fin.sum_univ_one _

end

theorem algebraic : algebraic_FfnLossIdeal_FfnLossRefIdeal (hFfnLossIdeal := Cert.FfnLossIdeal.Gen.facts) (hFfnLossRefIdeal := Cert.FfnLossRefIdeal.Gen.facts) := fun m ρ m' ρ' _ ha =>
  ⟨fun c => (Cert.FfnLossIdeal.Gen.dats m 0 c).arrAt 5 Cert.FfnLossIdeal.cfg0.N, fun c => (Cert.FfnLossIdeal.Gen.dats m 0 c).arrAt 6 Cert.FfnLossIdeal.cfg0.N,
    fun c => (Cert.FfnLossIdeal.Gen.dats m 0 c).arrAt 7 Cert.FfnLossIdeal.cfg0.N,
    Cert.FfnLossIdeal.Value.run_blocks m ρ,
    (θ_run _ _ _).mono (fun _ h c => by
      obtain ⟨h0, h1, h2, h3, h4⟩ := ha c
      refine ⟨(h c).1.trans ((Cert.FfnLossRefIdeal.Read.val_main_v54_eq _ _).trans ?_), (h c).2.1.trans ?_, (h c).2.2.1.trans ?_, (h c).2.2.2⟩
      · rw [h0, h1, h2, h3, h4]; exact (dx_eq _ _ _ _ _).trans (final5 m c).symm
      · rw [h0, h1, h2, h3, h4]; exact (loss_eq _ _ _ _ _).trans (final6 m c).symm
      · rw [h0, h1, h2, h3, h4]; exact (dg_eq _ _ _ _ _).trans (final7 m c).symm) (Cert.FfnLossRefIdeal.Value.run m' ρ')⟩

theorem frameRef : quiescent_FfnLossRefIdeal (hFfnLossRefIdeal := Cert.FfnLossRefIdeal.Gen.facts) := fun m ρ _ =>
  (θ_run _ _ _).mono (fun r h => ⟨fun c => (h c).2.2.2, sem_eq_zero_of_no_sems (by decide) _⟩) (Cert.FfnLossRefIdeal.Value.run m ρ)

end Cert.Proof.FfnLossAlg
-- ==== Proof.MergeTile.lean ====
module

public import proofs.«01_k».proof.Defs
public import proofs.«01_k».proof.Proof.Gen.Merge
public import proofs.«01_k».proof.Proof.Gen.Merge.Frame
public import proofs.«01_k».proof.Proof.Gen.MergeIdeal.Frame
public import proofs.«01_k».proof.Proof.Gen.MergeIdeal.Value
public import proofs.«01_k».proof.Proof.NormBwd
public import proofs.«01_k».proof.Proof.RowReal
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The merge of the branches: the attention's products, the gates, the output projection, the residual and the norm. -/

namespace Cert.MergeRow

open Idealize.ShloMosaic Idealize.ShloMosaic.TcCoe Cert.Row Cert.Norm

/-- The logistic function as the kernel computes it. -/
def sg (x : EReal) : EReal :=
  Ideal.div (Ideal.ofBits .f32 0x3F800000#32) (Ideal.ofBits .f32 0x3F800000#32 + Ideal.exp (Ideal.ofBits .f32 0x00000000#32 - x))

theorem z0 (x : EReal) : 0 - x = -x := by rw [sub_eq_add_neg, zero_add]

section
variable (q ga gp gx ya yp x : Fin 1024 → EReal) (kv : Fin 8 → Fin 256 → Fin 256 → EReal) (wx wo : Fin 1024 → Fin 1024 → EReal) (ps g : Fin 1024 → EReal)

/-- One head's products for a token. -/
def oH (h : Fin 4) (d : Fin 256) : EReal := ∑ j : Fin 256, pr (fun e => q (hd h e)) (kv (sk h)) j * kv (sv h) j d

/-- The attention's products for a token. -/
def oE (k : Fin 1024) : EReal := oH q kv ⟨k.val / 256, by omega⟩ ⟨k.val % 256, by omega⟩

theorem oE_hd (h : Fin 4) (d : Fin 256) : oE q kv (hd h d) = oH q kv h d :=
  congrArg₂ (oH q kv) (Fin.ext (by show (256 * h.val + d.val) / 256 = h.val; omega)) (Fin.ext (by show (256 * h.val + d.val) % 256 = d.val; omega))

/-- The attention's branch for a token. -/
def yE (b : Fin 1024) : EReal := ∑ k, oE q kv k * wx k b

/-- The gated sum of the branches for a token. -/
def mE (b : Fin 1024) : EReal := sg (ga b) * ya b + sg (gp b) * (yp b * ps b) + sg (gx b) * yE q kv wx b

/-- The residual after the output projection. -/
def xE (b : Fin 1024) : EReal := x b + ∑ k, mE q ga gp gx ya yp kv wx ps k * wo k b

/-- The norm of it. -/
def hE (b : Fin 1024) : EReal := xE q ga gp gx ya yp x kv wx wo ps b * rr (xE q ga gp gx ya yp x kv wx wo ps) * g b
end

end Cert.MergeRow

namespace Cert.MergeIdeal.Val

open Idealize.ShloMosaic Idealize.ShloMosaic.TcCoe Idealize.ShloMosaic.Tactic Idealize.SL.Sem
open Cert.MergeIdeal Cert.MergeIdeal.Gen Cert.MergeIdeal.Value Cert.MergeRow Cert.Row Cert.Norm

section
variable (q : Vec Ideal S1x512x256 .bf16) (k v : Vec Ideal S1x256x256 .bf16)

/-- One head's products for a tile's row. -/
def headO (r : Fin 512) (d : Fin 256) : EReal := ∑ j : Fin 256, pr (fun e => q (ix3 0 r e)) (fun j e => k (ix3 0 j e)) j * v (ix3 0 j d)

theorem head0_at (r : Fin 512) (d : Fin 256) : k0_pay3 (F := Ideal) q k v (ix2 r d) = headO q k v r d := by
  pointwise [k0_pay3]
  rfl

theorem head1_at (r : Fin 512) (d : Fin 256) : k0_pay5 (F := Ideal) (k0_pay4 q k) v (ix2 r d) = headO q k v r d := by
  pointwise [k0_pay5, k0_pay4]
  rfl

theorem head2_at (r : Fin 512) (d : Fin 256) : k0_pay6 (F := Ideal) q k v (ix2 r d) = headO q k v r d := by
  pointwise [k0_pay6]
  rfl

theorem head3_at (r : Fin 512) (d : Fin 256) : k0_pay7 (F := Ideal) q k v (ix2 r d) = headO q k v r d := by
  pointwise [k0_pay7]
  rfl
end

section
variable (o : Vec Ideal S512x1024 .bf16) (w : Vec Ideal S1024x1024 .bf16) (ga gp gx : Vec Ideal S1x512x1024 .bf16) (ya yp : Vec Ideal S512x1024 .bf16)
  (x : Vec Ideal S512x1024 .f32) (ps g : Vec Ideal S1x1024 .f32)

theorem yx_at (r : Fin 512) (b : Fin 1024) : k0_pay9 (F := Ideal) o w (ix2 r b) = ∑ k : Fin 1024, o (ix2 r k) * w (ix2 k b) := by
  pointwise [k0_pay9, k0_pay8]

theorem merged_at (r : Fin 512) (b : Fin 1024) :
    k0_pay12 (F := Ideal) (k0_pay8 o w) (k0_pay10 ga) (k0_pay11 (F := Ideal)) ya gp yp ps gx (ix2 r b)
      = sg (ga (ix3 0 r b)) * ya (ix2 r b) + sg (gp (ix3 0 r b)) * (yp (ix2 r b) * ps (ix2 0 b)) + sg (gx (ix3 0 r b)) * ∑ k : Fin 1024, o (ix2 r k) * w (ix2 k b) := by
  unfold sg
  pointwise [k0_pay12, k0_pay11, k0_pay10, k0_pay8]

theorem x1_at (r : Fin 512) (b : Fin 1024) : k0_pay1 (F := Ideal) o x w (ix2 r b) = x (ix2 r b) + ∑ k : Fin 1024, o (ix2 r k) * w (ix2 k b) := by
  pointwise [k0_pay1]

theorem h2_at (r : Fin 512) (b : Fin 1024) :
    k0_pay2 (F := Ideal) o x w g (ix2 r b) = k0_pay1 (F := Ideal) o x w (ix2 r b) * rr (fun k => k0_pay1 (F := Ideal) o x w (ix2 r k)) * g (ix2 0 b) := by
  unfold rr ms
  pointwise [k0_pay2]
end

section
variable (x0 x1 x2 x3 : Vec Ideal S1x512x1024 .bf16) (x4 x5 : Vec Ideal S512x1024 .bf16) (x6 : Vec Ideal S512x1024 .f32)
  (x7 : Vec Ideal S8x256x256 .bf16) (x8 x9 : Vec Ideal S1024x1024 .bf16) (x10 x11 : Vec Ideal S1x1024 .f32)

/-- A row of a tile of a slot, and of a tile; a matrix; the keys and the values; a row vector. -/
abbrev r3 (x : Vec Ideal S1x512x1024 .bf16) (r : Fin 512) (k : Fin 1024) : EReal := x (ix3 0 r k)
abbrev r2 (x : Vec Ideal S512x1024 .bf16) (r : Fin 512) (k : Fin 1024) : EReal := x (ix2 r k)
abbrev f2 (x : Vec Ideal S512x1024 .f32) (r : Fin 512) (k : Fin 1024) : EReal := x (ix2 r k)
abbrev m2 (x : Vec Ideal S1024x1024 .bf16) (k b : Fin 1024) : EReal := x (ix2 k b)
abbrev t3 (x : Vec Ideal S8x256x256 .bf16) (s : Fin 8) (j d : Fin 256) : EReal := x (ix3 s j d)
abbrev v1 (x : Vec Ideal S1x1024 .f32) (k : Fin 1024) : EReal := x (ix2 0 k)

/-- What a point leaves in the five outputs' blocks. -/
def blkO : Vec Ideal S512x1024 .bf16 := fun y => oE (r3 x0 (y 0)) (t3 x7) (y 1)
def blkY : Vec Ideal S512x1024 .bf16 := fun y => yE (r3 x0 (y 0)) (t3 x7) (m2 x8) (y 1)
def blkM : Vec Ideal S512x1024 .bf16 := fun y => mE (r3 x0 (y 0)) (r3 x1 (y 0)) (r3 x2 (y 0)) (r3 x3 (y 0)) (r2 x4 (y 0)) (r2 x5 (y 0)) (t3 x7) (m2 x8) (v1 x10) (y 1)
def blkX : Vec Ideal S512x1024 .f32 := fun y => xE (r3 x0 (y 0)) (r3 x1 (y 0)) (r3 x2 (y 0)) (r3 x3 (y 0)) (r2 x4 (y 0)) (r2 x5 (y 0)) (f2 x6 (y 0)) (t3 x7) (m2 x8) (m2 x9) (v1 x10) (y 1)
def blkH : Vec Ideal S512x1024 .bf16 := fun y => hE (r3 x0 (y 0)) (r3 x1 (y 0)) (r3 x2 (y 0)) (r3 x3 (y 0)) (r2 x4 (y 0)) (r2 x5 (y 0)) (f2 x6 (y 0)) (t3 x7) (m2 x8) (m2 x9) (v1 x10) (v1 x11) (y 1)

theorem tY : k0_pay9 (F := Ideal) (blkO x0 x7) x8 = blkY x0 x7 x8 := by
  funext y
  change S512x1024.Idx at y
  idx_vars y
  exact yx_at _ _ y0 y1

theorem tM : k0_pay12 (F := Ideal) (k0_pay8 (blkO x0 x7) x8) (k0_pay10 x1) (k0_pay11 (F := Ideal)) x4 x2 x5 x10 x3 = blkM x0 x1 x2 x3 x4 x5 x7 x8 x10 := by
  funext y
  change S512x1024.Idx at y
  idx_vars y
  exact merged_at _ _ _ _ _ _ _ _ y0 y1

theorem tX : k0_pay1 (F := Ideal) (k0_pay12 (F := Ideal) (k0_pay8 (blkO x0 x7) x8) (k0_pay10 x1) (k0_pay11 (F := Ideal)) x4 x2 x5 x10 x3) x6 x9
    = blkX x0 x1 x2 x3 x4 x5 x6 x7 x8 x9 x10 := by
  funext y
  change S512x1024.Idx at y
  idx_vars y
  rw [tM]
  exact x1_at _ _ _ y0 y1

theorem tH : k0_pay2 (F := Ideal) (k0_pay12 (F := Ideal) (k0_pay8 (blkO x0 x7) x8) (k0_pay10 x1) (k0_pay11 (F := Ideal)) x4 x2 x5 x10 x3) x6 x9 x11
    = blkH x0 x1 x2 x3 x4 x5 x6 x7 x8 x9 x10 x11 := by
  funext y
  change S512x1024.Idx at y
  idx_vars y
  refine (h2_at _ _ _ _ y0 y1).trans ?_
  rw [tX]
  rfl

theorem blkO_at (r : Fin 512) (h : Fin 4) (d : Fin 256) : blkO x0 x7 (ix2 r (hd h d)) = oH (r3 x0 r) (t3 x7) h d := oE_hd _ _ h d
end

section
variable (c : Dev nD) (i : grid0.Coords) (arg1 : Memref sig .tc .vmem S1x512x1024 .bf16) (harg1 : arg1.IsWhole) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S8x256x256 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .f32) (harg16 : arg16.IsWhole) (arg17 : Memref sig .tc .vmem S512x1024 .bf16) (harg17 : arg17.IsWhole)
  (x0 x1 x2 x3 : Vec Ideal S1x512x1024 .bf16) (x4 x5 : Vec Ideal S512x1024 .bf16) (x6 : Vec Ideal S512x1024 .f32)
  (x7 : Vec Ideal S8x256x256 .bf16) (x8 x9 : Vec Ideal S1024x1024 .bf16) (x10 x11 : Vec Ideal S1x1024 .f32)

theorem canonO (y : S512x1024.Idx) : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).1 y = blkO x0 x7 y := by
  refine View.canon_apply_of_pieces (blkO x0 x7) _ (View.PiecesOf.mem ?_) y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 y)
  unfold kernelRun0_A
  dsimp only
  sl_unfold_words
  refine ⟨?_, ?_, ?_, ?_, trivial⟩
  · intro w
    change S512x256.Idx at w
    idx_vars w
    refine (head3_at _ _ _ _ _).trans ?_
    change _ = View.ld (blkO x0 x7) (Rect.unit ![0, 768] ![512, 256] inb_S512x1024_S512x256_0_768) (ix2 w0 w1)
    simp only [View.readAt_eq_ld, harg1.read_unread, harg8.read_unread]
    unfold headO
    pointwise
    exact (blkO_at x0 x7 w0 3 w1).symm
  · intro w
    change S512x256.Idx at w
    idx_vars w
    refine (head2_at _ _ _ _ _).trans ?_
    change _ = View.ld (blkO x0 x7) (Rect.unit ![0, 512] ![512, 256] inb_S512x1024_S512x256_0_512) (ix2 w0 w1)
    simp only [View.readAt_eq_ld, harg1.read_unread, harg8.read_unread]
    unfold headO
    pointwise
    exact (blkO_at x0 x7 w0 2 w1).symm
  · intro w
    change S512x256.Idx at w
    idx_vars w
    refine (head1_at _ _ _ _ _).trans ?_
    change _ = View.ld (blkO x0 x7) (Rect.unit ![0, 256] ![512, 256] inb_S512x1024_S512x256_0_256) (ix2 w0 w1)
    simp only [View.readAt_eq_ld, harg1.read_unread, harg8.read_unread]
    unfold headO
    pointwise
    exact (blkO_at x0 x7 w0 1 w1).symm
  · intro w
    change S512x256.Idx at w
    idx_vars w
    refine (head0_at _ _ _ _ _).trans ?_
    change _ = View.ld (blkO x0 x7) (Rect.unit ![0, 0] ![512, 256] inb_S512x1024_S512x256_0_0) (ix2 w0 w1)
    simp only [View.readAt_eq_ld, harg1.read_unread, harg8.read_unread]
    unfold headO
    pointwise
    have e := blkO_at x0 x7 w0 0 w1; simp only [oH, hd0] at e; exact e.symm

theorem out12 : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 = blkO x0 x7 := by
  funext y
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  exact canonO c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 y

theorem zz : (![0, 0] : Fin 2 → ℕ) = fun _ => 0 := by funext a; fin_cases a <;> rfl
theorem zz3 : (![0, 0, 0] : Fin 3 → ℕ) = fun _ => 0 := by funext a; fin_cases a <;> rfl

/-- A load of a whole block. -/
theorem ld_w {e : EltTy} (X : Vec Ideal S1024x1024 e) : View.ld X (Rect.unit ![0, 0] ![1024, 1024] inb_S1024x1024_S1024x1024_0_0) = X := View.ld_unit_zero zz _ _
theorem ld_t {e : EltTy} (X : Vec Ideal S512x1024 e) : View.ld X (Rect.unit ![0, 0] ![512, 1024] inb_S512x1024_S512x1024_0_0) = X := View.ld_unit_zero zz _ _
theorem ld_v {e : EltTy} (X : Vec Ideal S1x1024 e) : View.ld X (Rect.unit ![0, 0] ![1, 1024] inb_S1x1024_S1x1024_0_0) = X := View.ld_unit_zero zz _ _
theorem ld_s {e : EltTy} (X : Vec Ideal S1x512x1024 e) : View.ld X (Rect.unit ![0, 0, 0] ![1, 512, 1024] inb_S1x512x1024_S1x512x1024_0_0_0) = X := View.ld_unit_zero zz3 _ _

/-- The attention's products, read back whole. -/
theorem oread : arg13.view.readCov (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).1 (Rect.unit ![0, 0] ![512, 1024] inb_S512x1024_S512x1024_0_0).toLoadRect = blkO x0 x7 := by
  rw [View.readCov_eq_canon_ld _ _ (Rect.unit ![0, 0] ![512, 1024] inb_S512x1024_S512x1024_0_0) (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  refine (View.ld_unit_zero zz _ _).trans (funext fun y => ?_)
  exact canonO c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 y
end

/-- A row of a slot of the projections, and of the tokens. -/
abbrev p3 (x : Vec Ideal S8x4096x1024 .bf16) (s : Fin 8) (r : Fin 4096) (k : Fin 1024) : EReal := x (ix3 s r k)
abbrev p2 (x : Vec Ideal S4096x1024 .bf16) (r : Fin 4096) (k : Fin 1024) : EReal := x (ix2 r k)
abbrev q2 (x : Vec Ideal S4096x1024 .f32) (r : Fin 4096) (k : Fin 1024) : EReal := x (ix2 r k)
abbrev w2 (x : Vec Ideal S1024x1024 .f32) (k b : Fin 1024) : EReal := x (ix2 k b)

/-- The five results. -/
def oF (P : Vec Ideal S8x4096x1024 .bf16) (Kv : Vec Ideal S8x256x256 .bf16) (r : Fin 4096) (b : Fin 1024) : EReal := oE (p3 P 4 r) (t3 Kv) b
def yF (P : Vec Ideal S8x4096x1024 .bf16) (Kv : Vec Ideal S8x256x256 .bf16) (Wx : Vec Ideal S1024x1024 .f32) (r : Fin 4096) (b : Fin 1024) : EReal := yE (p3 P 4 r) (t3 Kv) (w2 Wx) b
def mF (P : Vec Ideal S8x4096x1024 .bf16) (Ya Yp : Vec Ideal S4096x1024 .bf16) (Kv : Vec Ideal S8x256x256 .bf16) (Wx : Vec Ideal S1024x1024 .f32) (Ps : Vec Ideal S1x1024 .f32)
    (r : Fin 4096) (b : Fin 1024) : EReal :=
  mE (p3 P 4 r) (p3 P 5 r) (p3 P 6 r) (p3 P 7 r) (p2 Ya r) (p2 Yp r) (t3 Kv) (w2 Wx) (v1 Ps) b
def xF (P : Vec Ideal S8x4096x1024 .bf16) (Ya Yp : Vec Ideal S4096x1024 .bf16) (X : Vec Ideal S4096x1024 .f32) (Kv : Vec Ideal S8x256x256 .bf16) (Wx Wo : Vec Ideal S1024x1024 .f32)
    (Ps : Vec Ideal S1x1024 .f32) (r : Fin 4096) (b : Fin 1024) : EReal :=
  xE (p3 P 4 r) (p3 P 5 r) (p3 P 6 r) (p3 P 7 r) (p2 Ya r) (p2 Yp r) (q2 X r) (t3 Kv) (w2 Wx) (w2 Wo) (v1 Ps) b
def hF (P : Vec Ideal S8x4096x1024 .bf16) (Ya Yp : Vec Ideal S4096x1024 .bf16) (X : Vec Ideal S4096x1024 .f32) (Kv : Vec Ideal S8x256x256 .bf16) (Wx Wo : Vec Ideal S1024x1024 .f32)
    (Ps G : Vec Ideal S1x1024 .f32) (r : Fin 4096) (b : Fin 1024) : EReal :=
  hE (p3 P 4 r) (p3 P 5 r) (p3 P 6 r) (p3 P 7 r) (p2 Ya r) (p2 Yp r) (q2 X r) (t3 Kv) (w2 Wx) (w2 Wo) (v1 Ps) (v1 G) b

end Cert.MergeIdeal.Val
-- ==== Proof.MergeKernel.lean ====
module

public import proofs.«01_k».proof.Defs
public import proofs.«01_k».proof.Proof.MergeTile
public import proofs.«01_k».proof.Proof.Gen.MergeIdeal.Frame
public import proofs.«01_k».proof.Proof.Gen.MergeIdeal.Value
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The merge of the branches: the kernel's final values. -/

namespace Cert.MergeIdeal.Val

open Idealize.ShloMosaic Idealize.ShloMosaic.TcCoe Idealize.ShloMosaic.Tactic Idealize.SL.Sem
open Cert.MergeIdeal Cert.MergeIdeal.Gen Cert.MergeIdeal.Value Cert.MergeRow Cert.Row Cert.Norm

section
variable (c : Dev nD) (i : grid0.Coords) (arg1 : Memref sig .tc .vmem S1x512x1024 .bf16) (harg1 : arg1.IsWhole) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S8x256x256 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .f32) (harg16 : arg16.IsWhole) (arg17 : Memref sig .tc .vmem S512x1024 .bf16) (harg17 : arg17.IsWhole)
  (x0 x1 x2 x3 : Vec Ideal S1x512x1024 .bf16) (x4 x5 : Vec Ideal S512x1024 .bf16) (x6 : Vec Ideal S512x1024 .f32)
  (x7 : Vec Ideal S8x256x256 .bf16) (x8 x9 : Vec Ideal S1024x1024 .bf16) (x10 x11 : Vec Ideal S1x1024 .f32)

theorem out13 : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 = blkY x0 x7 x8 := by
  unfold out0_A_13
  funext y
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  have e := oread c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11
  revert e
  unfold kernelRun0_A
  dsimp only
  sl_unfold_words
  intro e
  rw [View.canon_unit_zero zz, e]
  simp only [View.readAt_eq_ld, ld_w, ld_t, ld_v, ld_s, harg2.read_unread, harg3.read_unread, harg4.read_unread, harg5.read_unread, harg6.read_unread, harg7.read_unread, harg9.read_unread, harg10.read_unread, harg11.read_unread, harg12.read_unread]
  exact congrFun (tY x0 x7 x8) y

theorem out14 : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 = blkM x0 x1 x2 x3 x4 x5 x7 x8 x10 := by
  unfold out0_A_14
  funext y
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  have e := oread c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11
  revert e
  unfold kernelRun0_A
  dsimp only
  sl_unfold_words
  intro e
  rw [View.canon_unit_zero zz, e]
  simp only [View.readAt_eq_ld, ld_w, ld_t, ld_v, ld_s, harg2.read_unread, harg3.read_unread, harg4.read_unread, harg5.read_unread, harg6.read_unread, harg7.read_unread, harg9.read_unread, harg10.read_unread, harg11.read_unread, harg12.read_unread]
  exact congrFun (tM x0 x1 x2 x3 x4 x5 x7 x8 x10) y

theorem out15 : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 = blkX x0 x1 x2 x3 x4 x5 x6 x7 x8 x9 x10 := by
  unfold out0_A_15
  funext y
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  have e := oread c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11
  revert e
  unfold kernelRun0_A
  dsimp only
  sl_unfold_words
  intro e
  rw [View.canon_unit_zero zz, e]
  simp only [View.readAt_eq_ld, ld_w, ld_t, ld_v, ld_s, harg2.read_unread, harg3.read_unread, harg4.read_unread, harg5.read_unread, harg6.read_unread, harg7.read_unread, harg9.read_unread, harg10.read_unread, harg11.read_unread, harg12.read_unread]
  exact congrFun (tX x0 x1 x2 x3 x4 x5 x6 x7 x8 x9 x10) y

theorem out16 : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 = blkH x0 x1 x2 x3 x4 x5 x6 x7 x8 x9 x10 x11 := by
  unfold out0_A_16
  funext y
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  have e := oread c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11
  revert e
  unfold kernelRun0_A
  dsimp only
  sl_unfold_words
  intro e
  rw [View.canon_unit_zero zz, e]
  simp only [View.readAt_eq_ld, ld_w, ld_t, ld_v, ld_s, harg2.read_unread, harg3.read_unread, harg4.read_unread, harg5.read_unread, harg6.read_unread, harg7.read_unread, harg9.read_unread, harg10.read_unread, harg11.read_unread, harg12.read_unread]
  exact congrFun (tH x0 x1 x2 x3 x4 x5 x6 x7 x8 x9 x10 x11) y
end

variable (m : (ℓ : Loc nD τ sig) → Buf (Elt Ideal) ℓ)

/-- The arguments. -/
abbrev aP (c : Dev nD) : Vec Ideal S8x4096x1024 .bf16 := m ((c : Thread nD τ).loc main_arg0)
abbrev aYa (c : Dev nD) : Vec Ideal S4096x1024 .bf16 := m ((c : Thread nD τ).loc main_arg1)
abbrev aYp (c : Dev nD) : Vec Ideal S4096x1024 .bf16 := m ((c : Thread nD τ).loc main_arg2)
abbrev aX (c : Dev nD) : Vec Ideal S4096x1024 .f32 := m ((c : Thread nD τ).loc main_arg3)
abbrev aKv (c : Dev nD) : Vec Ideal S8x256x256 .bf16 := m ((c : Thread nD τ).loc main_arg4)
abbrev aWx (c : Dev nD) : Vec Ideal S1024x1024 .f32 := m ((c : Thread nD τ).loc main_arg5)
abbrev aWo (c : Dev nD) : Vec Ideal S1024x1024 .f32 := m ((c : Thread nD τ).loc main_arg6)
abbrev aPs (c : Dev nD) : Vec Ideal S1x1024 .f32 := m ((c : Thread nD τ).loc main_arg7)
abbrev aG (c : Dev nD) : Vec Ideal S1x1024 .f32 := m ((c : Thread nD τ).loc main_arg8)

theorem idx : ∀ t : Fin cfg0.N, win0_0.index t = ![4, t.val, 0] ∧ win0_1.index t = ![5, t.val, 0] ∧ win0_2.index t = ![6, t.val, 0] ∧ win0_3.index t = ![7, t.val, 0]
    ∧ win0_4.index t = ![t.val, 0] ∧ win0_5.index t = ![t.val, 0] ∧ win0_6.index t = ![t.val, 0] ∧ win0_7.index t = ![0, 0, 0] ∧ win0_8.index t = ![0, 0] ∧ win0_9.index t = ![0, 0]
    ∧ win0_10.index t = ![0, 0] ∧ win0_11.index t = ![0, 0] ∧ win0_12.index t = ![t.val, 0] ∧ win0_13.index t = ![t.val, 0] ∧ win0_14.index t = ![t.val, 0]
    ∧ win0_15.index t = ![t.val, 0] ∧ win0_16.index t = ![t.val, 0] :=
  (by decide +kernel : ∀ t : Fin grid0.N, _)

theorem wx_V (c : Dev nD) (k b : Fin 1024) : (V m c main_v0 : Vec Ideal S1024x1024 .bf16) (ix2 k b) = aWx m c (ix2 k b) := by
  entry_read
  rfl

theorem wo_V (c : Dev nD) (k b : Fin 1024) : (V m c main_v1 : Vec Ideal S1024x1024 .bf16) (ix2 k b) = aWo m c (ix2 k b) := by
  entry_read
  rfl

section
variable (c : Dev nD) (t : Fin cfg0.N)

/-- A row of a tile, among all rows. -/
def row (t : Fin cfg0.N) (a : Fin 512) : Fin 4096 := ⟨t.val * 512 + a.val, by have : t.val < 8 := t.isLt; omega⟩

theorem blk0_at (r : Fin 512) : r3 (iblk m c 0 t) r = p3 (aP m c) 4 (row t r) := by
  funext k
  unfold aP row
  rw [← V_main_arg0 m c]
  change iblk m c 0 t (ix3 0 r k) = V m c main_arg0 (ix3 4 ⟨t.val * 512 + r.val, _⟩ k)
  blk_ext [iblk, idx t]

theorem blk1_at (r : Fin 512) : r3 (iblk m c 1 t) r = p3 (aP m c) 5 (row t r) := by
  funext k
  unfold aP row
  rw [← V_main_arg0 m c]
  change iblk m c 1 t (ix3 0 r k) = V m c main_arg0 (ix3 5 ⟨t.val * 512 + r.val, _⟩ k)
  blk_ext [iblk, idx t]

theorem blk2_at (r : Fin 512) : r3 (iblk m c 2 t) r = p3 (aP m c) 6 (row t r) := by
  funext k
  unfold aP row
  rw [← V_main_arg0 m c]
  change iblk m c 2 t (ix3 0 r k) = V m c main_arg0 (ix3 6 ⟨t.val * 512 + r.val, _⟩ k)
  blk_ext [iblk, idx t]

theorem blk3_at (r : Fin 512) : r3 (iblk m c 3 t) r = p3 (aP m c) 7 (row t r) := by
  funext k
  unfold aP row
  rw [← V_main_arg0 m c]
  change iblk m c 3 t (ix3 0 r k) = V m c main_arg0 (ix3 7 ⟨t.val * 512 + r.val, _⟩ k)
  blk_ext [iblk, idx t]

theorem blk4_at (r : Fin 512) : r2 (iblk m c 4 t) r = p2 (aYa m c) (row t r) := by
  funext k
  unfold aYa row
  rw [← V_main_arg1 m c]
  change iblk m c 4 t (ix2 r k) = V m c main_arg1 (ix2 ⟨t.val * 512 + r.val, _⟩ k)
  blk_ext [iblk, idx t]

theorem blk5_at (r : Fin 512) : r2 (iblk m c 5 t) r = p2 (aYp m c) (row t r) := by
  funext k
  unfold aYp row
  rw [← V_main_arg2 m c]
  change iblk m c 5 t (ix2 r k) = V m c main_arg2 (ix2 ⟨t.val * 512 + r.val, _⟩ k)
  blk_ext [iblk, idx t]

theorem blk6_at (r : Fin 512) : f2 (iblk m c 6 t) r = q2 (aX m c) (row t r) := by
  funext k
  unfold aX row
  rw [← V_main_arg3 m c]
  change iblk m c 6 t (ix2 r k) = V m c main_arg3 (ix2 ⟨t.val * 512 + r.val, _⟩ k)
  blk_ext [iblk, idx t]

theorem blk7_at : t3 (iblk m c 7 t) = t3 (aKv m c) := by
  funext s j d
  unfold aKv
  rw [← V_main_arg4 m c]
  change iblk m c 7 t (ix3 s j d) = V m c main_arg4 (ix3 s j d)
  blk_ext [iblk, idx t]

theorem blk8_at : m2 (iblk m c 8 t) = w2 (aWx m c) := by
  funext k b
  refine Eq.trans ?_ (wx_V m c k b)
  change iblk m c 8 t (ix2 k b) = V m c main_v0 (ix2 k b)
  blk_ext [iblk, idx t]

theorem blk9_at : m2 (iblk m c 9 t) = w2 (aWo m c) := by
  funext k b
  refine Eq.trans ?_ (wo_V m c k b)
  change iblk m c 9 t (ix2 k b) = V m c main_v1 (ix2 k b)
  blk_ext [iblk, idx t]

theorem blk10_at : v1 (iblk m c 10 t) = v1 (aPs m c) := by
  funext k
  unfold aPs
  rw [← V_main_arg7 m c]
  change iblk m c 10 t (ix2 0 k) = V m c main_arg7 (ix2 0 k)
  blk_ext [iblk, idx t]

theorem blk11_at : v1 (iblk m c 11 t) = v1 (aG m c) := by
  funext k
  unfold aG
  rw [← V_main_arg8 m c]
  change iblk m c 11 t (ix2 0 k) = V m c main_arg8 (ix2 0 k)
  blk_ext [iblk, idx t]

end

theorem tile12_at (c : Dev nD) (t : Fin cfg0.N) (a : Fin 512) (b : Fin 1024) : blkO (iblk m c 0 t) (iblk m c 7 t) (ix2 a b) = oF (aP m c) (aKv m c) (row t a) b := by
  change oE (r3 (iblk m c 0 t) a) (t3 (iblk m c 7 t)) b = _
  rw [blk0_at m c t a, blk7_at m c t]
  rfl

theorem final12 (c : Dev nD) : (dats m 0 c).arrAt 12 cfg0.N = fun i : S4096x1024.Idx => oF (aP m c) (aKv m c) (i 0) (i 1) := by
  refine (dats m 0 c).arrAt_eq_of_covers 12 _ (by decide +kernel) fun t hf y => ?_
  blk_simp
  rw [after0_12]
  unfold outsAt0
  change S512x1024.Idx at y
  idx_vars y
  refine (congrFun (out12 _ _ _ _ _ _ _ _ _ _ _ _ _ _ _ _ _ _ _ _ _ _ _ _ _ _ _ _ _ _ _ _ _ _ _ _ _ _ _ _ _ _ _ _ _ _ _ _) (ix2 y0 y1)).trans ((tile12_at m c t y0 y1).trans ?_)
  refine congrArg₂ (oF _ _) (Fin.ext ?_) (Fin.ext ?_) <;> blk_simp [idx t]
  rfl

theorem tile13_at (c : Dev nD) (t : Fin cfg0.N) (a : Fin 512) (b : Fin 1024) : blkY (iblk m c 0 t) (iblk m c 7 t) (iblk m c 8 t) (ix2 a b) = yF (aP m c) (aKv m c) (aWx m c) (row t a) b := by
  change yE (r3 (iblk m c 0 t) a) (t3 (iblk m c 7 t)) (m2 (iblk m c 8 t)) b = _
  rw [blk0_at m c t a, blk7_at m c t, blk8_at m c t]
  rfl

theorem final13 (c : Dev nD) : (dats m 0 c).arrAt 13 cfg0.N = fun i : S4096x1024.Idx => yF (aP m c) (aKv m c) (aWx m c) (i 0) (i 1) := by
  refine (dats m 0 c).arrAt_eq_of_covers 13 _ (by decide +kernel) fun t hf y => ?_
  blk_simp
  rw [after0_13]
  unfold outsAt0
  change S512x1024.Idx at y
  idx_vars y
  refine (congrFun (out13 _ _ _ _ _ _ _ _ _ _ _ _ _ _ _ _ _ _ _ _ _ _ _ _ _ _ _ _ _ _ _ _ _ _ _ _ _ _ _ _ _ _ _ _ _ _ _ _) (ix2 y0 y1)).trans ((tile13_at m c t y0 y1).trans ?_)
  refine congrArg₂ (yF _ _ _) (Fin.ext ?_) (Fin.ext ?_) <;> blk_simp [idx t]
  rfl

theorem tile14_at (c : Dev nD) (t : Fin cfg0.N) (a : Fin 512) (b : Fin 1024) : blkM (iblk m c 0 t) (iblk m c 1 t) (iblk m c 2 t) (iblk m c 3 t) (iblk m c 4 t) (iblk m c 5 t) (iblk m c 7 t) (iblk m c 8 t) (iblk m c 10 t) (ix2 a b) = mF (aP m c) (aYa m c) (aYp m c) (aKv m c) (aWx m c) (aPs m c) (row t a) b := by
  change mE (r3 (iblk m c 0 t) a) (r3 (iblk m c 1 t) a) (r3 (iblk m c 2 t) a) (r3 (iblk m c 3 t) a) (r2 (iblk m c 4 t) a) (r2 (iblk m c 5 t) a) (t3 (iblk m c 7 t)) (m2 (iblk m c 8 t)) (v1 (iblk m c 10 t)) b = _
  rw [blk0_at m c t a, blk1_at m c t a, blk2_at m c t a, blk3_at m c t a, blk4_at m c t a, blk5_at m c t a, blk7_at m c t, blk8_at m c t, blk10_at m c t]
  rfl

theorem final14 (c : Dev nD) : (dats m 0 c).arrAt 14 cfg0.N = fun i : S4096x1024.Idx => mF (aP m c) (aYa m c) (aYp m c) (aKv m c) (aWx m c) (aPs m c) (i 0) (i 1) := by
  refine (dats m 0 c).arrAt_eq_of_covers 14 _ (by decide +kernel) fun t hf y => ?_
  blk_simp
  rw [after0_14]
  unfold outsAt0
  change S512x1024.Idx at y
  idx_vars y
  refine (congrFun (out14 _ _ _ _ _ _ _ _ _ _ _ _ _ _ _ _ _ _ _ _ _ _ _ _ _ _ _ _ _ _ _ _ _ _ _ _ _ _ _ _ _ _ _ _ _ _ _ _) (ix2 y0 y1)).trans ((tile14_at m c t y0 y1).trans ?_)
  refine congrArg₂ (mF _ _ _ _ _ _) (Fin.ext ?_) (Fin.ext ?_) <;> blk_simp [idx t]
  rfl

theorem tile15_at (c : Dev nD) (t : Fin cfg0.N) (a : Fin 512) (b : Fin 1024) : blkX (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a b) = xF (aP m c) (aYa m c) (aYp m c) (aX m c) (aKv m c) (aWx m c) (aWo m c) (aPs m c) (row t a) b := by
  change xE (r3 (iblk m c 0 t) a) (r3 (iblk m c 1 t) a) (r3 (iblk m c 2 t) a) (r3 (iblk m c 3 t) a) (r2 (iblk m c 4 t) a) (r2 (iblk m c 5 t) a) (f2 (iblk m c 6 t) a) (t3 (iblk m c 7 t)) (m2 (iblk m c 8 t)) (m2 (iblk m c 9 t)) (v1 (iblk m c 10 t)) b = _
  rw [blk0_at m c t a, blk1_at m c t a, blk2_at m c t a, blk3_at m c t a, blk4_at m c t a, blk5_at m c t a, blk6_at m c t a, blk7_at m c t, blk8_at m c t, blk9_at m c t, blk10_at m c t]
  rfl

theorem final15 (c : Dev nD) : (dats m 0 c).arrAt 15 cfg0.N = fun i : S4096x1024.Idx => xF (aP m c) (aYa m c) (aYp m c) (aX m c) (aKv m c) (aWx m c) (aWo m c) (aPs m c) (i 0) (i 1) := by
  refine (dats m 0 c).arrAt_eq_of_covers 15 _ (by decide +kernel) fun t hf y => ?_
  blk_simp
  rw [after0_15]
  unfold outsAt0
  change S512x1024.Idx at y
  idx_vars y
  refine (congrFun (out15 _ _ _ _ _ _ _ _ _ _ _ _ _ _ _ _ _ _ _ _ _ _ _ _ _ _ _ _ _ _ _ _ _ _ _ _ _ _ _ _ _ _ _ _ _ _ _ _) (ix2 y0 y1)).trans ((tile15_at m c t y0 y1).trans ?_)
  refine congrArg₂ (xF _ _ _ _ _ _ _ _) (Fin.ext ?_) (Fin.ext ?_) <;> blk_simp [idx t]
  rfl

theorem tile16_at (c : Dev nD) (t : Fin cfg0.N) (a : Fin 512) (b : Fin 1024) : blkH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a b) = hF (aP m c) (aYa m c) (aYp m c) (aX m c) (aKv m c) (aWx m c) (aWo m c) (aPs m c) (aG m c) (row t a) b := by
  change hE (r3 (iblk m c 0 t) a) (r3 (iblk m c 1 t) a) (r3 (iblk m c 2 t) a) (r3 (iblk m c 3 t) a) (r2 (iblk m c 4 t) a) (r2 (iblk m c 5 t) a) (f2 (iblk m c 6 t) a) (t3 (iblk m c 7 t)) (m2 (iblk m c 8 t)) (m2 (iblk m c 9 t)) (v1 (iblk m c 10 t)) (v1 (iblk m c 11 t)) b = _
  rw [blk0_at m c t a, blk1_at m c t a, blk2_at m c t a, blk3_at m c t a, blk4_at m c t a, blk5_at m c t a, blk6_at m c t a, blk7_at m c t, blk8_at m c t, blk9_at m c t, blk10_at m c t, blk11_at m c t]
  rfl

theorem final16 (c : Dev nD) : (dats m 0 c).arrAt 16 cfg0.N = fun i : S4096x1024.Idx => hF (aP m c) (aYa m c) (aYp m c) (aX m c) (aKv m c) (aWx m c) (aWo m c) (aPs m c) (aG m c) (i 0) (i 1) := by
  refine (dats m 0 c).arrAt_eq_of_covers 16 _ (by decide +kernel) fun t hf y => ?_
  blk_simp
  rw [after0_16]
  unfold outsAt0
  change S512x1024.Idx at y
  idx_vars y
  refine (congrFun (out16 _ _ _ _ _ _ _ _ _ _ _ _ _ _ _ _ _ _ _ _ _ _ _ _ _ _ _ _ _ _ _ _ _ _ _ _ _ _ _ _ _ _ _ _ _ _ _ _) (ix2 y0 y1)).trans ((tile16_at m c t y0 y1).trans ?_)
  refine congrArg₂ (hF _ _ _ _ _ _ _ _ _) (Fin.ext ?_) (Fin.ext ?_) <;> blk_simp [idx t]
  rfl

end Cert.MergeIdeal.Val
-- ==== Proof.MergeRead.lean ====
module

public import proofs.«01_k».proof.Defs
public import proofs.«01_k».proof.Proof.MergeTile
public import proofs.«01_k».proof.Proof.RefA
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The merge of the branches: the reference's values. -/

namespace Cert.Proof.MergeAlg

open Idealize.ShloMosaic Idealize.ShloMosaic.TcCoe Idealize.ShloMosaic.Tactic Idealize.SL.Sem
open Cert.MergeIdeal.Val Cert.MergeRow Cert.Row Cert.Norm

section
open Cert.MergeRefIdeal Cert.MergeRefIdeal.Gen Cert.MergeRefIdeal.Read
variable (x0 : Vec Ideal S8x4096x1024 .bf16) (x1 x2 : Vec Ideal S4096x1024 .bf16) (x3 : Vec Ideal S4096x1024 .f32) (x4 : Vec Ideal S8x256x256 .bf16)
  (x5 x6 : Vec Ideal S1024x1024 .f32) (x7 x8 : Vec Ideal S1x1024 .f32)

/-- A head's query row. -/
def rq (t : Fin 4096) (h : Fin 4) (e : Fin 256) : EReal := p3 x0 4 t (hd h e)
/-- A head's keys. -/
def rk (h : Fin 4) (j e : Fin 256) : EReal := t3 x4 (sk h) j e

theorem v16_at (t : Fin 4096) (h : Fin 4) (d : Fin 256) : val_main_v16 (F := Ideal) x0 (ix3 t h d) = rq x0 t h d := by
  pointwise [val_main_v16, val_main_v2, val_main_v1, val_main_v0]
  exact congrArg (p3 x0 4 t) (Fin.ext (by show h.val * 256 + d.val = 256 * h.val + d.val; omega))

theorem v13_at (h : Fin 4) (j d : Fin 256) : val_main_v13 (F := Ideal) x4 (ix3 h j d) = rk x4 h j d := by
  pointwise [val_main_v13, val_main_v12]
  rfl

theorem v15_at (h : Fin 4) (j d : Fin 256) : val_main_v15 (F := Ideal) x4 (ix3 h j d) = t3 x4 (sv h) j d := by
  pointwise [val_main_v15, val_main_v14]

theorem v19_at (h : Fin 4) (t : Fin 4096) (j : Fin 256) : val_main_v19 (F := Ideal) x0 x4 (ix3 h t j) = sc (rq x0 t h) (rk x4 h) j := by
  pointwise [val_main_v19, val_main_v18, val_main_cst, val_main_v17, v16_at, v13_at]
  rfl

theorem c0_at (i : S_.Idx) : val_main_cst_0 (F := Ideal) i = lo := rfl

theorem v20_at (h : Fin 4) (t : Fin 4096) : val_main_v20 (F := Ideal) x0 x4 (ix2 h t) = mx (rq x0 t h) (rk x4 h) := by
  unfold val_main_v20
  exact Cert.AttnRefIdeal.Val.fold_at _ _ h t _ _ c0_at (v19_at x0 x4 h t)

theorem v21_at (i : S4x4096.Idx) : val_main_v21 (F := Ideal) i = lo := rfl

theorem v22_at (h : Fin 4) (t : Fin 4096) : val_main_v22 (F := Ideal) x0 x4 (ix2 h t) = mx (rq x0 t h) (rk x4 h) := by
  unfold val_main_v22
  exact Cert.AttnRefIdeal.Val.max_lo _ _ _ _ (v21_at _) (v20_at x0 x4 h t)

theorem v26_at (h : Fin 4) (t : Fin 4096) (j : Fin 256) : val_main_v26 (F := Ideal) x0 x4 (ix3 h t j) = ex (rq x0 t h) (rk x4 h) j := by
  pointwise [val_main_v26, val_main_v25, val_main_v24, val_main_v23, v19_at, v22_at]
  rfl

theorem v28_at (h : Fin 4) (t : Fin 4096) : val_main_v28 (F := Ideal) x0 x4 (ix3 h t 0) = sm (rq x0 t h) (rk x4 h) := by
  pointwise [val_main_v28, val_main_v27, val_main_cst_2, v26_at]
  rfl

theorem v30_at (h : Fin 4) (t : Fin 4096) (j : Fin 256) : val_main_v30 (F := Ideal) x0 x4 (ix3 h t j) = pr (rq x0 t h) (rk x4 h) j := by
  pointwise [val_main_v30, val_main_v29, v28_at, v26_at]
  rfl

theorem v32_at (t : Fin 4096) (h : Fin 4) (d : Fin 256) : val_main_v32 (F := Ideal) x0 x4 (ix3 t h d) = oH (p3 x0 4 t) (t3 x4) h d := by
  unfold oH
  pointwise [val_main_v32, val_main_v31, v30_at, v15_at]
  exact Finset.sum_congr rfl fun j _ => mul_comm _ _

theorem v33_at (t : Fin 4096) (k : Fin 1024) : val_main_v33 (F := Ideal) x0 x4 (ix2 t k) = oF x0 x4 t k := by
  unfold oF oE
  rw [← v32_at]
  pointwise [val_main_v33]

theorem v34_at (t : Fin 4096) (b : Fin 1024) : val_main_v34 (F := Ideal) x0 x4 x5 (ix2 t b) = yF x0 x4 x5 t b := by
  pointwise [val_main_v34, v33_at]
  rfl

theorem v40_at (t : Fin 4096) (b : Fin 1024) : val_main_v40 (F := Ideal) x0 (ix2 t b) = sg (p3 x0 5 t b) := by
  unfold sg
  pointwise [val_main_v40, val_main_v39, val_main_cst_4, val_main_v38, val_main_v37, val_main_cst_3, val_main_v36, val_main_v35, val_main_v5, val_main_v4, val_main_v3]
  rw [z0]

theorem v48_at (t : Fin 4096) (b : Fin 1024) : val_main_v48 (F := Ideal) x0 (ix2 t b) = sg (p3 x0 6 t b) := by
  unfold sg
  pointwise [val_main_v48, val_main_v47, val_main_cst_6, val_main_v46, val_main_v45, val_main_cst_5, val_main_v44, val_main_v43, val_main_v8, val_main_v7, val_main_v6]
  rw [z0]

theorem v61_at (t : Fin 4096) (b : Fin 1024) : val_main_v61 (F := Ideal) x0 (ix2 t b) = sg (p3 x0 7 t b) := by
  unfold sg
  pointwise [val_main_v61, val_main_v60, val_main_cst_8, val_main_v59, val_main_v58, val_main_cst_7, val_main_v57, val_main_v56, val_main_v11, val_main_v10, val_main_v9]
  rw [z0]

theorem v63_at (t : Fin 4096) (b : Fin 1024) : val_main_v63 (F := Ideal) x0 x1 x2 x4 x5 x7 (ix2 t b) = mF x0 x1 x2 x4 x5 x7 t b := by
  pointwise [val_main_v63, val_main_v62, val_main_v55, val_main_v54, val_main_v53, val_main_v52, val_main_v51, val_main_v50, val_main_v49, val_main_v42, val_main_v41,
    v34_at, v40_at, v48_at, v61_at]
  rfl

theorem v65_at (t : Fin 4096) (b : Fin 1024) : val_main_v65 (F := Ideal) x0 x1 x2 x3 x4 x5 x6 x7 (ix2 t b) = xF x0 x1 x2 x3 x4 x5 x6 x7 t b := by
  pointwise [val_main_v65, val_main_v64, v63_at]
  rfl

theorem v76_at (t : Fin 4096) : val_main_v76 (F := Ideal) x0 x1 x2 x3 x4 x5 x6 x7 (ix2 t 0) = ms (xF x0 x1 x2 x3 x4 x5 x6 x7 t) := by
  pointwise [val_main_v76, val_main_v75, val_main_cst_11, val_main_v74, val_main_v73, val_main_cst_10, val_main_v72, val_main_v71, val_main_cst_9, val_main_v70, v65_at]
  rfl

theorem v77_at (t : Fin 4096) : val_main_v77 (F := Ideal) x0 x1 x2 x3 x4 x5 x6 x7 (ix2 t 0) = rr (xF x0 x1 x2 x3 x4 x5 x6 x7 t) := by
  pointwise [val_main_v77, v76_at]
  rfl

theorem v82_at (t : Fin 4096) (b : Fin 1024) : val_main_v82 (F := Ideal) x0 x1 x2 x3 x4 x5 x6 x7 x8 (ix2 t b) = hF x0 x1 x2 x3 x4 x5 x6 x7 x8 t b := by
  pointwise [val_main_v82, val_main_v81, val_main_v80, val_main_v69, val_main_v79, val_main_v78, v77_at, v65_at]
  rfl

theorem o_eq : val_main_v66 (F := Ideal) x0 x4 = fun i : S4096x1024.Idx => oF x0 x4 (i 0) (i 1) := by
  funext y
  change S4096x1024.Idx at y
  idx_vars y
  pointwise [val_main_v66, v33_at]

theorem y_eq : val_main_v67 (F := Ideal) x0 x4 x5 = fun i : S4096x1024.Idx => yF x0 x4 x5 (i 0) (i 1) := by
  funext y
  change S4096x1024.Idx at y
  idx_vars y
  pointwise [val_main_v67, v34_at]

theorem m_eq : val_main_v68 (F := Ideal) x0 x1 x2 x4 x5 x7 = fun i : S4096x1024.Idx => mF x0 x1 x2 x4 x5 x7 (i 0) (i 1) := by
  funext y
  change S4096x1024.Idx at y
  idx_vars y
  pointwise [val_main_v68, v63_at]

theorem x_eq : val_main_v65 (F := Ideal) x0 x1 x2 x3 x4 x5 x6 x7 = fun i : S4096x1024.Idx => xF x0 x1 x2 x3 x4 x5 x6 x7 (i 0) (i 1) := by
  funext y
  change S4096x1024.Idx at y
  idx_vars y
  exact v65_at x0 x1 x2 x3 x4 x5 x6 x7 y0 y1

theorem h_eq : val_main_v83 (F := Ideal) x0 x1 x2 x3 x4 x5 x6 x7 x8 = fun i : S4096x1024.Idx => hF x0 x1 x2 x3 x4 x5 x6 x7 x8 (i 0) (i 1) := by
  funext y
  change S4096x1024.Idx at y
  idx_vars y
  pointwise [val_main_v83, v82_at]

end

end Cert.Proof.MergeAlg
-- ==== Proof.MergeAlg.lean ====
module

public import proofs.«01_k».proof.Defs
public import proofs.«01_k».proof.Proof.MergeKernel
public import proofs.«01_k».proof.Proof.MergeRead
public import proofs.«01_k».proof.Proof.Gen.Merge
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import Idealize.ShloMosaic.Lib.Claim
public import Idealize.ShloMosaic.Lib.Pointwise
public import Idealize.ShloMosaic.Lib.Pipeline.ReadBack
public import Idealize.ShloMosaic.Lib.Pipeline.ValueKit
public import Idealize.ShloMosaic.Lib.Quiescent
public import Idealize.ShloMosaic.Adequacy

@[expose] public section

set_option maxRecDepth 16384

noncomputable section

/-! The merge of the branches: the kernel and the reference agree. -/

namespace Cert.Proof.MergeAlg

open Idealize.ShloMosaic Idealize.ShloMosaic.TcCoe Idealize.ShloMosaic.Tactic Idealize.SL.Sem
open Cert.MergeIdeal.Val Cert.MergeRow Cert.Row Cert.Norm

theorem algebraic : algebraic_MergeIdeal_MergeRefIdeal (hMergeIdeal := Cert.MergeIdeal.Gen.facts) (hMergeRefIdeal := Cert.MergeRefIdeal.Gen.facts) := fun m ρ m' ρ' _ ha =>
  ⟨fun c => (Cert.MergeIdeal.Gen.dats m 0 c).arrAt 12 Cert.MergeIdeal.cfg0.N, fun c => (Cert.MergeIdeal.Gen.dats m 0 c).arrAt 13 Cert.MergeIdeal.cfg0.N,
    fun c => (Cert.MergeIdeal.Gen.dats m 0 c).arrAt 14 Cert.MergeIdeal.cfg0.N, fun c => (Cert.MergeIdeal.Gen.dats m 0 c).arrAt 15 Cert.MergeIdeal.cfg0.N,
    fun c => (Cert.MergeIdeal.Gen.dats m 0 c).arrAt 16 Cert.MergeIdeal.cfg0.N,
    Cert.MergeIdeal.Value.run_blocks m ρ,
    (θ_run _ _ _).mono (fun _ h c => by
      obtain ⟨h0, h1, h2, h3, h4, h5, h6, h7, h8⟩ := ha c
      refine ⟨(h c).1.trans ?_, (h c).2.1.trans ?_, (h c).2.2.1.trans ((Cert.MergeRefIdeal.Read.val_main_v68_eq _ _).trans ?_), (h c).2.2.2.1.trans ((Cert.MergeRefIdeal.Read.val_main_v65_eq _ _).trans ?_),
        (h c).2.2.2.2.1.trans ((Cert.MergeRefIdeal.Read.val_main_v83_eq _ _).trans ?_), (h c).2.2.2.2.2⟩
      · rw [h0, h4]; exact (o_eq _ _).trans (final12 m c).symm
      · rw [h0, h4, h5]; exact (y_eq _ _ _).trans (final13 m c).symm
      · rw [h0, h1, h2, h4, h5, h7]; exact (m_eq _ _ _ _ _ _).trans (final14 m c).symm
      · rw [h0, h1, h2, h3, h4, h5, h6, h7]; exact (x_eq _ _ _ _ _ _ _ _).trans (final15 m c).symm
      · rw [h0, h1, h2, h3, h4, h5, h6, h7, h8]; exact (h_eq _ _ _ _ _ _ _ _ _).trans (final16 m c).symm) (Cert.MergeRefIdeal.Value.run m' ρ')⟩

theorem frameRef : quiescent_MergeRefIdeal (hMergeRefIdeal := Cert.MergeRefIdeal.Gen.facts) := fun m ρ _ =>
  (θ_run _ _ _).mono (fun r h => ⟨fun c => (h c).2.2.2.2.2, sem_eq_zero_of_no_sems (by decide) _⟩) (Cert.MergeRefIdeal.Value.run m ρ)

end Cert.Proof.MergeAlg
-- ==== Proof.lean ====
module

public import proofs.«01_k».proof.Defs
public import proofs.«01_k».proof.Proof.Gen.Attn.Frame
public import proofs.«01_k».proof.Proof.AttnAlg
public import proofs.«01_k».proof.Proof.Gen.WgDown.Frame
public import proofs.«01_k».proof.Proof.WgDownAlg
public import proofs.«01_k».proof.Proof.Gen.WgUp.Frame
public import proofs.«01_k».proof.Proof.WgUpAlg
public import proofs.«01_k».proof.Proof.Gen.WgOut.Frame
public import proofs.«01_k».proof.Proof.WgOutAlg
public import proofs.«01_k».proof.Proof.Gen.WgMix.Frame
public import proofs.«01_k».proof.Proof.WgMixAlg
public import proofs.«01_k».proof.Proof.Gen.FfnDown.Frame
public import proofs.«01_k».proof.Proof.FfnDownAlg
public import proofs.«01_k».proof.Proof.Gen.FfnNorm.Frame
public import proofs.«01_k».proof.Proof.FfnNormAlg
public import proofs.«01_k».proof.Proof.Gen.FfnUp.Frame
public import proofs.«01_k».proof.Proof.FfnUpAlg
public import proofs.«01_k».proof.Proof.Gen.ProjBwd.Frame
public import proofs.«01_k».proof.Proof.ProjBwdAlg
public import proofs.«01_k».proof.Proof.Gen.ProjNear.Frame
public import proofs.«01_k».proof.Proof.ProjNearAlg
public import proofs.«01_k».proof.Proof.Gen.ProjFar.Frame
public import proofs.«01_k».proof.Proof.ProjFarAlg
public import proofs.«01_k».proof.Proof.Gen.FfnLoss.Frame
public import proofs.«01_k».proof.Proof.FfnLossAlg
public import proofs.«01_k».proof.Proof.Gen.Merge.Frame
public import proofs.«01_k».proof.Proof.MergeAlg
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Attn.Gen.facts,
  Cert.AttnIdeal.Gen.facts,
  Cert.AttnRefIdeal.Gen.facts,
  Cert.WgDown.Gen.facts,
  Cert.WgDownIdeal.Gen.facts,
  Cert.WgDownRefIdeal.Gen.facts,
  Cert.WgUp.Gen.facts,
  Cert.WgUpIdeal.Gen.facts,
  Cert.WgUpRefIdeal.Gen.facts,
  Cert.WgOut.Gen.facts,
  Cert.WgOutIdeal.Gen.facts,
  Cert.WgOutRefIdeal.Gen.facts,
  Cert.WgMix.Gen.facts,
  Cert.WgMixIdeal.Gen.facts,
  Cert.WgMixRefIdeal.Gen.facts,
  Cert.FfnDown.Gen.facts,
  Cert.FfnDownIdeal.Gen.facts,
  Cert.FfnDownRefIdeal.Gen.facts,
  Cert.FfnNorm.Gen.facts,
  Cert.FfnNormIdeal.Gen.facts,
  Cert.FfnNormRefIdeal.Gen.facts,
  Cert.FfnUp.Gen.facts,
  Cert.FfnUpIdeal.Gen.facts,
  Cert.FfnUpRefIdeal.Gen.facts,
  Cert.ProjBwd.Gen.facts,
  Cert.ProjBwdIdeal.Gen.facts,
  Cert.ProjBwdRefIdeal.Gen.facts,
  Cert.ProjNear.Gen.facts,
  Cert.ProjNearIdeal.Gen.facts,
  Cert.ProjNearRefIdeal.Gen.facts,
  Cert.ProjFar.Gen.facts,
  Cert.ProjFarIdeal.Gen.facts,
  Cert.ProjFarRefIdeal.Gen.facts,
  Cert.FfnLoss.Gen.facts,
  Cert.FfnLossIdeal.Gen.facts,
  Cert.FfnLossRefIdeal.Gen.facts,
  Cert.Merge.Gen.facts,
  Cert.MergeIdeal.Gen.facts,
  Cert.MergeRefIdeal.Gen.facts,
  Cert.Pre_attn_finite.facts,
  Cert.Pre_ffn_down_finite.facts,
  fun m ρ _ => Cert.Attn.Gen.frame m ρ,
  fun m ρ _ => Cert.AttnIdeal.Gen.frame m ρ,
  fun m ρ _ => Cert.AttnIdeal.Gen.frame m ρ,
  AttnAlg.frameRef,
  fun m ρ _ => AttnAlg.frameRef m ρ trivial,
  fun m ρ _ => Cert.WgDown.Gen.frame m ρ,
  fun m ρ _ => Cert.WgDownIdeal.Gen.frame m ρ,
  WgDownAlg.frameRef,
  fun m ρ _ => Cert.WgUp.Gen.frame m ρ,
  fun m ρ _ => Cert.WgUpIdeal.Gen.frame m ρ,
  WgUpAlg.frameRef,
  fun m ρ _ => Cert.WgOut.Gen.frame m ρ,
  fun m ρ _ => Cert.WgOutIdeal.Gen.frame m ρ,
  WgOutAlg.frameRef,
  fun m ρ _ => Cert.WgMix.Gen.frame m ρ,
  fun m ρ _ => Cert.WgMixIdeal.Gen.frame m ρ,
  WgMixAlg.frameRef,
  fun m ρ _ => Cert.FfnDown.Gen.frame m ρ,
  fun m ρ _ => Cert.FfnDownIdeal.Gen.frame m ρ,
  fun m ρ _ => Cert.FfnDownIdeal.Gen.frame m ρ,
  FfnDownAlg.frameRef,
  fun m ρ _ => FfnDownAlg.frameRef m ρ trivial,
  fun m ρ _ => Cert.FfnNorm.Gen.frame m ρ,
  fun m ρ _ => Cert.FfnNormIdeal.Gen.frame m ρ,
  FfnNormAlg.frameRef,
  fun m ρ _ => Cert.FfnUp.Gen.frame m ρ,
  fun m ρ _ => Cert.FfnUpIdeal.Gen.frame m ρ,
  FfnUpAlg.frameRef,
  fun m ρ _ => Cert.ProjBwd.Gen.frame m ρ,
  fun m ρ _ => Cert.ProjBwdIdeal.Gen.frame m ρ,
  ProjBwdAlg.frameRef,
  fun m ρ _ => Cert.ProjNear.Gen.frame m ρ,
  fun m ρ _ => Cert.ProjNearIdeal.Gen.frame m ρ,
  ProjNearAlg.frameRef,
  fun m ρ _ => Cert.ProjFar.Gen.frame m ρ,
  fun m ρ _ => Cert.ProjFarIdeal.Gen.frame m ρ,
  ProjFarAlg.frameRef,
  fun m ρ _ => Cert.FfnLoss.Gen.frame m ρ,
  fun m ρ _ => Cert.FfnLossIdeal.Gen.frame m ρ,
  FfnLossAlg.frameRef,
  fun m ρ _ => Cert.Merge.Gen.frame m ρ,
  fun m ρ _ => Cert.MergeIdeal.Gen.frame m ρ,
  MergeAlg.frameRef,
  trivial,
  AttnAlg.algebraic,
  trivial,
  WgDownAlg.algebraic,
  trivial,
  WgUpAlg.algebraic,
  trivial,
  WgOutAlg.algebraic,
  trivial,
  WgMixAlg.algebraic,
  trivial,
  FfnDownAlg.algebraic,
  trivial,
  FfnNormAlg.algebraic,
  trivial,
  FfnUpAlg.algebraic,
  trivial,
  ProjBwdAlg.algebraic,
  trivial,
  ProjNearAlg.algebraic,
  trivial,
  ProjFarAlg.algebraic,
  trivial,
  FfnLossAlg.algebraic,
  trivial,
  MergeAlg.algebraic⟩

end Cert.Proof

end
